-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_norm [hPre_finite_norm : Cert.Pre_finite_norm.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_norm.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_norm [hPre_finite_norm : Cert.Pre_finite_norm.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_norm.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_finite_norm [hKernel27Ideal : Cert.Kernel27Ideal.Facts] [hPre_finite_norm : Cert.Pre_finite_norm.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_norm m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_finite_norm [hReference27Ideal : Cert.Reference27Ideal.Facts] [hPre_finite_norm : Cert.Pre_finite_norm.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_norm m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "dead" .f32 0xC2D40000#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_v12_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal_pre_finite_norm [hKernel27Ideal : Cert.Kernel27Ideal.Facts] [hReference27Ideal : Cert.Reference27Ideal.Facts] [hPre_finite_norm : Cert.Pre_finite_norm.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_norm m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v37) = v0 c
          ∧ r.2.mem ((c.tc : Thread Cert.Reference27Ideal.nD Cert.Reference27Ideal.τ).loc Cert.Reference27Ideal.main_v39) = v1 c
          ∧ r.2.mem ((c.tc : Thread Cert.Reference27Ideal.nD Cert.Reference27Ideal.τ).loc Cert.Reference27Ideal.main_v40) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite_arguments : Cert.Pre_finite_arguments.Facts) (hPre_finite_norm : Cert.Pre_finite_norm.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_norm (hKernel27Ideal := hKernel27Ideal) (hPre_finite_norm := hPre_finite_norm)
    ∧ quiescent_Reference27Ideal (hReference27Ideal := hReference27Ideal)
    ∧ quiescent_Reference27Ideal_pre_finite_norm (hReference27Ideal := hReference27Ideal) (hPre_finite_norm := hPre_finite_norm)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite_norm (hKernel27Ideal := hKernel27Ideal) (hReference27Ideal := hReference27Ideal) (hPre_finite_norm := hPre_finite_norm)
-- ==== Pre_finite_arguments.lean ====
abbrev S8192x512 : Shape := ⟨2, ![8192, 512]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_norm.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S8192x512 : Shape := ⟨2, ![8192, 512]⟩
abbrev S8192x1024 : Shape := ⟨2, ![8192, 1024]⟩
abbrev S_ : Shape := ⟨0, ![]⟩
abbrev S256x256 : Shape := ⟨2, ![256, 256]⟩
abbrev S256x128 : Shape := ⟨2, ![256, 128]⟩
abbrev S8192x128 : Shape := ⟨2, ![8192, 128]⟩
abbrev S2x256x128 : Shape := ⟨3, ![2, 256, 128]⟩
abbrev S2x256x1 : Shape := ⟨3, ![2, 256, 1]⟩
abbrev S1x128 : Shape := ⟨2, ![1, 128]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x2x256x1 : Shape := ⟨4, ![1, 2, 256, 1]⟩
abbrev S1 : Shape := ⟨1, ![1]⟩
abbrev S1x1x1x1 : Shape := ⟨4, ![1, 1, 1, 1]⟩
abbrev S4x256x1 : Shape := ⟨3, ![4, 256, 1]⟩
abbrev S1x1x1 : Shape := ⟨3, ![1, 1, 1]⟩

abbrev nBuf : Space → Nat
  | .hbm => 39
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S256x256, .f32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S_, .f32⟩
  | .hbm, ⟨17, _⟩ => ⟨S256x256, .f32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .bf16⟩
  | .hbm, ⟨32, _⟩ => ⟨S8192x512, .bf16⟩
  | .hbm, ⟨33, _⟩ => ⟨S8192x512, .bf16⟩
  | .hbm, ⟨34, _⟩ => ⟨S8192x512, .f32⟩
  | .hbm, ⟨35, _⟩ => ⟨S8192x1024, .bf16⟩
  | .hbm, ⟨36, _⟩ => ⟨S8192x512, .f32⟩
  | .hbm, ⟨37, _⟩ => ⟨S8192x512, .f32⟩
  | .hbm, ⟨38, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S256x128, .bf16⟩
  | .local _ .vmem, ⟨10, _⟩ => ⟨S256x128, .bf16⟩
  | .local _ .vmem, ⟨11, _⟩ => ⟨S2x256x128, .f32⟩
  | .local _ .vmem, ⟨12, _⟩ => ⟨S2x256x1, .f32⟩
  | .local _ .vmem, ⟨13, _⟩ => ⟨S256x128, .bf16⟩
  | .local _ .vmem, ⟨14, _⟩ => ⟨S256x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x256, .bf16⟩
  | .local _ .vmem, ⟨24, _⟩ => ⟨S256x256, .bf16⟩
  | .local _ .vmem, ⟨25, _⟩ => ⟨S256x128, .f32⟩
  | .local _ .vmem, ⟨26, _⟩ => ⟨S256x128, .f32⟩
  | .local _ .vmem, ⟨27, _⟩ => ⟨S8192x128, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S2x256x128, .f32⟩
  | .local _ .vmem, ⟨32, _⟩ => ⟨S4x256x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_11 : BitVec 32 := 0#32
  let v28 : BitVec 1 := Scalar.cmpi .ne v27 c0_i32_11
  v28

def k0_mult1 : BitVec 32 :=
  let c0_i32_30 : BitVec 32 := 0#32
  c0_i32_30
def k0_cond2 (i : grid0.Coords) : BitVec 1 :=
  let arg1 : BitVec 32 := BitVec.ofNat 32 (i 1).val
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .ne v30 c0_i32_13
  v31

def k0_mult2 (i : grid0.Coords) : BitVec 32 :=
  let arg1 : BitVec 32 := BitVec.ofNat 32 (i 1).val
  let c256_i32 : BitVec 32 := 256#32
  let v54 : BitVec 32 := Scalar.muli arg1 c256_i32
  v54
def k0_mult3 (i : grid0.Coords) : BitVec 32 :=
  let arg1 : BitVec 32 := BitVec.ofNat 32 (i 1).val
  let c1_i32 : BitVec 32 := 1#32
  let v51 : BitVec 32 := Scalar.subi arg1 c1_i32
  let c256_i32_30 : BitVec 32 := 256#32
  let v56 : BitVec 32 := Scalar.muli v51 c256_i32_30
  v56
def k0_off1 (i : grid0.Coords) : Fin 2 → Nat :=
  let arg1 : BitVec 32 := BitVec.ofNat 32 (i 1).val
  let c256_i32 : BitVec 32 := 256#32
  let v54 : BitVec 32 := Scalar.muli arg1 c256_i32
  let v55 : BitVec 32 := v54
  let v58 : Index := Scalar.indexCast v55
  let c0_31 : Index := 0#32
  ![v58.toNat, 0]
def k0_off2 (i : grid0.Coords) : Fin 2 → Nat :=
  let arg1 : BitVec 32 := BitVec.ofNat 32 (i 1).val
  let c1_i32 : BitVec 32 := 1#32
  let v51 : BitVec 32 := Scalar.subi arg1 c1_i32
  let c256_i32_30 : BitVec 32 := 256#32
  let v56 : BitVec 32 := Scalar.muli v51 c256_i32_30
  let v57 : BitVec 32 := v56
  let v61 : Index := Scalar.indexCast v57
  let c0_32 : Index := 0#32
  ![v61.toNat, 0]
def k0_mult4 (arg10 : BitVec 32) : BitVec 32 :=
  let c256_i32 : BitVec 32 := 256#32
  let v53 : BitVec 32 := Scalar.muli arg10 c256_i32
  v53

def k0_off3 (arg10 : BitVec 32) : Fin 2 → Nat :=
  let c256_i32 : BitVec 32 := 256#32
  let v53 : BitVec 32 := Scalar.muli arg10 c256_i32
  let v54 : BitVec 32 := v53
  let v55 : Index := Scalar.indexCast v54
  let c0_30 : Index := 0#32
  ![v55.toNat, 0]

def k0_chk1 (arg10 : BitVec 32) : Prop :=
  (256 ∣ (k0_mult4 arg10).toNat) ∧
  (∀ a, (k0_off3 arg10) a + S256x128.size a ≤ S8192x128.size a)
theorem k0_mult4_dvd : ∀ (arg10 : BitVec 32) (k0_hw1 : k0_chk1 arg10), 256 ∣ (k0_mult4 arg10).toNat := fun arg10 k0_hw1 => k0_hw1.1
theorem k0_off3_inb : ∀ (arg10 : BitVec 32) (k0_hw1 : k0_chk1 arg10), ∀ a, (k0_off3 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 32], ![false, false]⟩

def k1_cond2 (i : grid1.Coords) : BitVec 1 :=
  let arg1 : BitVec 32 := BitVec.ofNat 32 (i 1).val
  let c0_i32_22 : BitVec 32 := 0#32
  let v55 : BitVec 1 := Scalar.cmpi .eq arg1 c0_i32_22
  let v56 : BitVec 32 := Scalar.extui v55
  let c0_i32_23 : BitVec 32 := 0#32
  let v57 : BitVec 1 := Scalar.cmpi .ne v56 c0_i32_23
  v57

def k1_mult1 : BitVec 32 :=
  let c0_i32_46 : BitVec 32 := 0#32
  c0_i32_46
def k1_cond3 (i : grid1.Coords) : BitVec 1 :=
  let arg1 : BitVec 32 := BitVec.ofNat 32 (i 1).val
  let c0_i32_24 : BitVec 32 := 0#32
  let v58 : BitVec 1 := Scalar.cmpi .sgt arg1 c0_i32_24
  let v59 : BitVec 32 := Scalar.extui v58
  let c0_i32_25 : BitVec 32 := 0#32
  let v60 : BitVec 1 := Scalar.cmpi .ne v59 c0_i32_25
  v60

def k1_mult2 (i : grid1.Coords) : BitVec 32 :=
  let arg1 : BitVec 32 := BitVec.ofNat 32 (i 1).val
  let c256_i32 : BitVec 32 := 256#32
  let v93 : BitVec 32 := Scalar.muli arg1 c256_i32
  v93
def k1_mult3 (i : grid1.Coords) : BitVec 32 :=
  let arg1 : BitVec 32 := BitVec.ofNat 32 (i 1).val
  let c1_i32 : BitVec 32 := 1#32
  let v88 : BitVec 32 := Scalar.subi arg1 c1_i32
  let c256_i32_46 : BitVec 32 := 256#32
  let v95 : BitVec 32 := Scalar.muli v88 c256_i32_46
  v95
def k1_off1 (i : grid1.Coords) : Fin 2 → Nat :=
  let arg1 : BitVec 32 := BitVec.ofNat 32 (i 1).val
  let c256_i32 : BitVec 32 := 256#32
  let v93 : BitVec 32 := Scalar.muli arg1 c256_i32
  let v94 : BitVec 32 := v93
  let v97 : Index := Scalar.indexCast v94
  let c0_47 : Index := 0#32
  ![v97.toNat, 0]
def k1_off2 (i : grid1.Coords) : Fin 2 → Nat :=
  let arg1 : BitVec 32 := BitVec.ofNat 32 (i 1).val
  let c1_i32 : BitVec 32 := 1#32
  let v88 : BitVec 32 := Scalar.subi arg1 c1_i32
  let c256_i32_46 : BitVec 32 := 256#32
  let v95 : BitVec 32 := Scalar.muli v88 c256_i32_46
  let v96 : BitVec 32 := v95
  let v100 : Index := Scalar.indexCast v96
  let c0_48 : Index := 0#32
  ![v100.toNat, 0]
def k1_mult4 (arg14 : BitVec 32) : BitVec 32 :=
  let c256_i32 : BitVec 32 := 256#32
  let v92 : BitVec 32 := Scalar.muli arg14 c256_i32
  v92

def k1_off3 (arg14 : BitVec 32) : Fin 2 → Nat :=
  let c256_i32 : BitVec 32 := 256#32
  let v92 : BitVec 32 := Scalar.muli arg14 c256_i32
  let v93 : BitVec 32 := v92
  let v94 : Index := Scalar.indexCast v93
  let c0_46 : Index := 0#32
  ![v94.toNat, 0]

def k1_chk1 (arg14 : BitVec 32) : Prop :=
  (256 ∣ (k1_mult4 arg14).toNat) ∧
  (∀ a, (k1_off3 arg14) a + S256x128.size a ≤ S8192x128.size a)
theorem k1_mult4_dvd : ∀ (arg14 : BitVec 32) (k1_hw1 : k1_chk1 arg14), 256 ∣ (k1_mult4 arg14).toNat := fun arg14 k1_hw1 => k1_hw1.1
theorem k1_off3_inb : ∀ (arg14 : BitVec 32) (k1_hw1 : k1_chk1 arg14), ∀ a, (k1_off3 arg14) a + S256x128.size a ≤ S8192x128.size a := fun arg14 k1_hw1 => k1_hw1.2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== KernelIdeal.lean ====
variable {F : FTy → Type} [FloatOps F] [Named F]
def κ : String → Option EReal := fun
  | "dead" => some ⊥
  | _ => none
-- ==== ReferenceIdeal.lean ====
abbrev S8192x512 : Shape := ⟨2, ![8192, 512]⟩
abbrev S8192x1024 : Shape := ⟨2, ![8192, 1024]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x8x64, .f32⟩
  | .hbm, ⟨5, _⟩ => ⟨S8x8192x64, .f32⟩
  | .hbm, ⟨6, _⟩ => ⟨S8192x8x64, .f32⟩
  | .hbm, ⟨7, _⟩ => ⟨S8x8192x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192x8192, .f32⟩
  | .hbm, ⟨36, _⟩ => ⟨S8x8192x8192, .i1⟩
  | .hbm, ⟨37, _⟩ => ⟨S_, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192x8192, .f32⟩
  | .hbm, ⟨42, _⟩ => ⟨S8x8192x8192, .i1⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x8192x8192, .f32⟩
  | .hbm, ⟨56, _⟩ => ⟨S8x8192x8192, .i1⟩
  | .hbm, ⟨57, _⟩ => ⟨S_, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S_, .f32⟩
  | .hbm, ⟨70, _⟩ => ⟨S8x8192x8192, .i1⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192x8192, .f32⟩
  | .hbm, ⟨75, _⟩ => ⟨S_, .f32⟩
  | .hbm, ⟨76, _⟩ => ⟨S_, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S_, .f32⟩
  | .hbm, ⟨83, _⟩ => ⟨S8x8192x8192, .i1⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8192x8x64, .f32⟩
  | .hbm, ⟨89, _⟩ => ⟨S8x8192x64, .f32⟩
  | .hbm, ⟨90, _⟩ => ⟨S8x8192x64, .f32⟩
  | .hbm, ⟨91, _⟩ => ⟨S8192x8x64, .f32⟩
  | .hbm, ⟨92, _⟩ => ⟨S8192x512, .f32⟩
  | .hbm, ⟨93, _⟩ => ⟨S8192x512, .f32⟩
  | .hbm, ⟨94, _⟩ => ⟨S8192x8x64, .f32⟩
  | .hbm, ⟨95, _⟩ => ⟨S8x8192x64, .f32⟩
  | .hbm, ⟨96, _⟩ => ⟨S8x64x8192, .f32⟩
  | .hbm, ⟨97, _⟩ => ⟨S8x8192x64, .f32⟩
  | .hbm, ⟨98, _⟩ => ⟨S8x8192x8192, .f32⟩
  | .hbm, ⟨99, _⟩ => ⟨S8192x8x64, .f32⟩
  | .hbm, ⟨100, _⟩ => ⟨S8192x512, .f32⟩
  | .hbm, ⟨101, _⟩ => ⟨S_, .f32⟩
  | .hbm, ⟨102, _⟩ => ⟨S8x8192x8192, .f32⟩
  | .hbm, ⟨103, _⟩ => ⟨S8x8192x8192, .f32⟩
  | .hbm, ⟨104, _⟩ => ⟨S8x8192x8192, .f32⟩
  | .hbm, ⟨105, _⟩ => ⟨S8x8192x8192, .f32⟩
  | .hbm, ⟨106, _⟩ => ⟨S_, .f32⟩
  | .hbm, ⟨107, _⟩ => ⟨S_, .f32⟩
  | .hbm, ⟨108, _⟩ => ⟨S8x8192x8192, .f32⟩
  | .hbm, ⟨109, _⟩ => ⟨S8x8192x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x8192, .f32⟩
  | .hbm, ⟨114, _⟩ => ⟨S8x8192x8192, .f32⟩
  | .hbm, ⟨115, _⟩ => ⟨S8x8192x8192, .f32⟩
  | .hbm, ⟨116, _⟩ => ⟨S8x8192x8192, .f32⟩
  | .hbm, ⟨117, _⟩ => ⟨S8x8192x8192, .f32⟩
  | .hbm, ⟨118, _⟩ => ⟨S8x8192x8192, .f32⟩
  | .hbm, ⟨119, _⟩ => ⟨S_, .f32⟩
  | .hbm, ⟨120, _⟩ => ⟨S8x8192x8192, .f32⟩
  | .hbm, ⟨121, _⟩ => ⟨S8x8192x8192, .f32⟩
  | .hbm, ⟨122, _⟩ => ⟨S8x8192x64, .f32⟩
  | .hbm, ⟨123, _⟩ => ⟨S8x8192x64, .f32⟩
  | .hbm, ⟨124, _⟩ => ⟨S8192x8x64, .f32⟩
  | .hbm, ⟨125, _⟩ => ⟨S8192x512, .f32⟩
  | .hbm, ⟨126, _⟩ => ⟨S8192x8x64, .f32⟩
  | .hbm, ⟨127, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_v15 : Ref sig .tc := ⟨.hbm, 67, rfl⟩
abbrev main_cst_0 : Ref sig .tc := ⟨.hbm, 68, rfl⟩
abbrev main_call1_v0 : Ref sig .tc := ⟨.hbm, 69, rfl⟩
abbrev main_v16_1 : Ref sig .tc := ⟨.hbm, 70, rfl⟩
abbrev main_call1_v2 : Ref sig .tc := ⟨.hbm, 71, rfl⟩
abbrev main_v16_0 : Ref sig .tc := ⟨.hbm, 72, rfl⟩
abbrev main_call1_cst : Ref sig .tc := ⟨.hbm, 73, rfl⟩
abbrev main_v16_2 : Ref sig .tc := ⟨.hbm, 74, rfl⟩
abbrev main_call2_cst : Ref sig .tc := ⟨.hbm, 75, rfl⟩
abbrev main_call2_v0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_cst_1 : Ref sig .tc := ⟨.hbm, 81, rfl⟩
abbrev main_call3_v0 : Ref sig .tc := ⟨.hbm, 82, rfl⟩
abbrev main_v21_1 : Ref sig .tc := ⟨.hbm, 83, rfl⟩
abbrev main_call3_v2 : Ref sig .tc := ⟨.hbm, 84, rfl⟩
abbrev main_v21_0 : Ref sig .tc := ⟨.hbm, 85, rfl⟩
abbrev main_call3_cst : Ref sig .tc := ⟨.hbm, 86, rfl⟩
abbrev main_v21_2 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call4_cst : Ref sig .tc := ⟨.hbm, 101, rfl⟩
abbrev main_call4_v0 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_call5_cst : Ref sig .tc := ⟨.hbm, 106, rfl⟩
abbrev main_call5_v0 : Ref sig .tc := ⟨.hbm, 107, rfl⟩
abbrev main_v38 : Ref sig .tc := ⟨.hbm, 108, rfl⟩
abbrev main_v39 : Ref sig .tc := ⟨.hbm, 109, rfl⟩
abbrev main_call6_cst : Ref sig .tc := ⟨.hbm, 110, rfl⟩
abbrev main_call6_v0 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_call7_v0 : Ref sig .tc := ⟨.hbm, 115, rfl⟩
abbrev main_call7_v1 : Ref sig .tc := ⟨.hbm, 116, rfl⟩
abbrev main_v43 : Ref sig .tc := ⟨.hbm, 117, rfl⟩
abbrev main_v44 : Ref sig .tc := ⟨.hbm, 118, rfl⟩
abbrev main_cst_2 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩

abbrev nD : Nat := 1
abbrev τ : Topo := Topo.v7x

variable {F : FTy → Type} [FloatOps F]
-- ==== Kernel2.lean ====
abbrev S8192x5632 : Shape := ⟨2, ![8192, 5632]⟩
abbrev S4x1024x1408 : Shape := ⟨3, ![4, 1024, 1408]⟩
abbrev S8192x1024 : Shape := ⟨2, ![8192, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8192x5632 : Shape := ⟨2, ![8192, 5632]⟩
abbrev S4x1024x1408 : Shape := ⟨3, ![4, 1024, 1408]⟩
abbrev S_ : Shape := ⟨0, ![]⟩
abbrev S8192x1024 : Shape := ⟨2, ![8192, 1024]⟩
abbrev S1024x4x1408 : Shape := ⟨3, ![1024, 4, 1408]⟩
abbrev S1024x5632 : Shape := ⟨2, ![1024, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S_, .f32⟩
  | .hbm, ⟨3, _⟩ => ⟨S8192x1024, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S2x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v12 : BitVec 32 := Scalar.extui v0
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_8 : BitVec 1 := 1#1
  let v14 : BitVec 1 := Scalar.xori v0 true_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x5632 : Shape := ⟨2, ![8192, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S4x1024x1408, .f32⟩
  | .hbm, ⟨4, _⟩ => ⟨S8192x1024, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x2560 : Shape := ⟨2, ![8192, 2560]⟩
abbrev S4x1024x640 : Shape := ⟨3, ![4, 1024, 640]⟩
abbrev S8192x1024 : Shape := ⟨2, ![8192, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x2560, .bf16⟩
  | .hbm, ⟨1, _⟩ => ⟨S4x1024x640, .bf16⟩
  | .hbm, ⟨2, _⟩ => ⟨S8192x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x2560 : Shape := ⟨2, ![8192, 2560]⟩
abbrev S4x1024x640 : Shape := ⟨3, ![4, 1024, 640]⟩
abbrev S_ : Shape := ⟨0, ![]⟩
abbrev S8192x1024 : Shape := ⟨2, ![8192, 1024]⟩
abbrev S1024x4x640 : Shape := ⟨3, ![1024, 4, 640]⟩
abbrev S1024x2560 : Shape := ⟨2, ![1024, 2560]⟩

abbrev nBuf : Space → Nat
  | .hbm => 10
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S4x1024x640, .bf16⟩
  | .hbm, ⟨2, _⟩ => ⟨S_, .f32⟩
  | .hbm, ⟨3, _⟩ => ⟨S8192x1024, .f32⟩
  | .hbm, ⟨4, _⟩ => ⟨S4x1024x640, .f32⟩
  | .hbm, ⟨5, _⟩ => ⟨S1024x4x640, .f32⟩
  | .hbm, ⟨6, _⟩ => ⟨S1024x2560, .f32⟩
  | .hbm, ⟨7, _⟩ => ⟨S8192x2560, .f32⟩
  | .hbm, ⟨8, _⟩ => ⟨S8192x2560, .f32⟩
  | .hbm, ⟨9, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x2560 : Shape := ⟨2, ![8192, 2560]⟩
abbrev S4x1024x640 : Shape := ⟨3, ![4, 1024, 640]⟩
abbrev S2048x1024 : Shape := ⟨2, ![2048, 1024]⟩
abbrev S2048x2560 : Shape := ⟨2, ![2048, 2560]⟩
abbrev S1024x2048 : Shape := ⟨2, ![1024, 2048]⟩
abbrev S2048x640 : Shape := ⟨2, ![2048, 640]⟩
abbrev S1024x640 : Shape := ⟨2, ![1024, 640]⟩
abbrev S1x1024x640 : Shape := ⟨3, ![1, 1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .f32⟩
  | .local _ .vmem, ⟨0, _⟩ => ⟨S2048x1024, .bf16⟩
  | .local _ .vmem, ⟨1, _⟩ => ⟨S2048x1024, .bf16⟩
  | .local _ .vmem, ⟨2, _⟩ => ⟨S2048x2560, .bf16⟩
  | .local _ .vmem, ⟨3, _⟩ => ⟨S2048x2560, .bf16⟩
  | .local _ .vmem, ⟨4, _⟩ => ⟨S4x1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v12 : BitVec 32 := Scalar.extui v0
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_8 : BitVec 1 := 1#1
  let v14 : BitVec 1 := Scalar.xori v0 true_8
  let v15 : BitVec 32 := Scalar.extui v14
  let c0_i32_9 : BitVec 32 := 0#32
  let v16 : BitVec 1 := Scalar.cmpi .ne v15 c0_i32_9
  v16

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v19 : BitVec 32 := Scalar.extui v0
  let c0_i32_12 : BitVec 32 := 0#32
  let v20 : BitVec 1 := Scalar.cmpi .ne v19 c0_i32_12
  v20

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_13 : BitVec 1 := 1#1
  let v21 : BitVec 1 := Scalar.xori v0 true_13
  let v22 : BitVec 32 := Scalar.extui v21
  let c0_i32_14 : BitVec 32 := 0#32
  let v23 : BitVec 1 := Scalar.cmpi .ne v22 c0_i32_14
  v23

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v26 : BitVec 32 := Scalar.extui v0
  let c0_i32_17 : BitVec 32 := 0#32
  let v27 : BitVec 1 := Scalar.cmpi .ne v26 c0_i32_17
  v27

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_18 : BitVec 1 := 1#1
  let v28 : BitVec 1 := Scalar.xori v0 true_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x2560 : Shape := ⟨2, ![8192, 2560]⟩
abbrev S_ : Shape := ⟨0, ![]⟩
abbrev S4x1024x640 : Shape := ⟨3, ![4, 1024, 640]⟩
abbrev S1024x4x640 : Shape := ⟨3, ![1024, 4, 640]⟩
abbrev S1024x2560 : Shape := ⟨2, ![1024, 2560]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S4x1024x640, .f32⟩
  | .hbm, ⟨4, _⟩ => ⟨S8192x1024, .f32⟩
  | .hbm, ⟨5, _⟩ => ⟨S1024x4x640, .f32⟩
  | .hbm, ⟨6, _⟩ => ⟨S1024x2560, .f32⟩
  | .hbm, ⟨7, _⟩ => ⟨S8192x2560, .f32⟩
  | .hbm, ⟨8, _⟩ => ⟨S8192x2560, .f32⟩
  | .hbm, ⟨9, _⟩ => ⟨S2560x1024, .f32⟩
  | .hbm, ⟨10, _⟩ => ⟨S1024x2560, .f32⟩
  | .hbm, ⟨11, _⟩ => ⟨S1024x4x640, .f32⟩
  | .hbm, ⟨12, _⟩ => ⟨S4x1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S4x1024x1408 : Shape := ⟨3, ![4, 1024, 1408]⟩
abbrev S8192x5632 : Shape := ⟨2, ![8192, 5632]⟩
abbrev S512x1024 : Shape := ⟨2, ![512, 1024]⟩
abbrev S512x5632 : Shape := ⟨2, ![512, 5632]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1408, .bf16⟩
  | .local _ .vmem, ⟨3, _⟩ => ⟨S512x5632, .bf16⟩
  | .local _ .vmem, ⟨4, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S4x1024x640 : Shape := ⟨3, ![4, 1024, 640]⟩
abbrev S8192x2560 : Shape := ⟨2, ![8192, 2560]⟩
abbrev S512x1024 : Shape := ⟨2, ![512, 1024]⟩
abbrev S512x2560 : Shape := ⟨2, ![512, 2560]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x640, .bf16⟩
  | .hbm, ⟨2, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S4x1024x640, .bf16⟩
  | .local _ .vmem, ⟨3, _⟩ => ⟨S512x2560, .f32⟩
  | .local _ .vmem, ⟨4, _⟩ => ⟨S512x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S4x1024x640 : Shape := ⟨3, ![4, 1024, 640]⟩
abbrev S1024x4x640 : Shape := ⟨3, ![1024, 4, 640]⟩
abbrev S1024x2560 : Shape := ⟨2, ![1024, 2560]⟩
abbrev S8192x2560 : Shape := ⟨2, ![8192, 2560]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x640, .bf16⟩
  | .hbm, ⟨2, _⟩ => ⟨S8192x1024, .f32⟩
  | .hbm, ⟨3, _⟩ => ⟨S4x1024x640, .f32⟩
  | .hbm, ⟨4, _⟩ => ⟨S1024x4x640, .f32⟩
  | .hbm, ⟨5, _⟩ => ⟨S1024x2560, .f32⟩
  | .hbm, ⟨6, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference13Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S1024x1408 : Shape := ⟨2, ![1024, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S1024x1408 : Shape := ⟨2, ![1024, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S_, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S1024x640 : Shape := ⟨2, ![1024, 640]⟩
abbrev S128x640 : Shape := ⟨2, ![128, 640]⟩

abbrev nBuf : Space → Nat
  | .hbm => 9
  | .vmem => 18
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S128x640, .f32⟩
  | .local _ .vmem, ⟨1, _⟩ => ⟨S128x640, .f32⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S704x1024 : Shape := ⟨2, ![704, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S256x1024 : Shape := ⟨2, ![256, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S256x256 : Shape := ⟨2, ![256, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S112x128 : Shape := ⟨2, ![112, 128]⟩

abbrev nBuf : Space → Nat
  | .hbm => 8
  | .vmem => 8
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S112x128, .f32⟩
  | .hbm, ⟨6, _⟩ => ⟨S112x128, .f32⟩
  | .hbm, ⟨7, _⟩ => ⟨S112x128, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | .local _ .vmem, ⟨7, _⟩ => ⟨S112x128, .f32⟩
  | _, _ => ⟨S112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S112x128 : Shape := ⟨2, ![112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S_, .f32⟩
  | .hbm, ⟨5, _⟩ => ⟨S112x128, .f32⟩
  | .hbm, ⟨6, _⟩ => ⟨S112x128, .f32⟩
  | .hbm, ⟨7, _⟩ => ⟨S_, .f32⟩
  | .hbm, ⟨8, _⟩ => ⟨S112x128, .f32⟩
  | .hbm, ⟨9, _⟩ => ⟨S112x128, .f32⟩
  | .hbm, ⟨10, _⟩ => ⟨S112x128, .f32⟩
  | .hbm, ⟨11, _⟩ => ⟨S_, .f32⟩
  | .hbm, ⟨12, _⟩ => ⟨S112x128, .f32⟩
  | .hbm, ⟨13, _⟩ => ⟨S112x128, .f32⟩
  | .hbm, ⟨14, _⟩ => ⟨S112x128, .f32⟩
  | .hbm, ⟨15, _⟩ => ⟨S_, .f32⟩
  | .hbm, ⟨16, _⟩ => ⟨S112x128, .f32⟩
  | .hbm, ⟨17, _⟩ => ⟨S112x128, .f32⟩
  | .hbm, ⟨18, _⟩ => ⟨S112x128, .f32⟩
  | .hbm, ⟨19, _⟩ => ⟨S_, .f32⟩
  | .hbm, ⟨20, _⟩ => ⟨S112x128, .f32⟩
  | .hbm, ⟨21, _⟩ => ⟨S112x128, .f32⟩
  | .hbm, ⟨22, _⟩ => ⟨S_, .f32⟩
  | .hbm, ⟨23, _⟩ => ⟨S112x128, .f32⟩
  | .hbm, ⟨24, _⟩ => ⟨S112x128, .f32⟩
  | .hbm, ⟨25, _⟩ => ⟨S112x128, .f32⟩
  | .hbm, ⟨26, _⟩ => ⟨S_, .f32⟩
  | .hbm, ⟨27, _⟩ => ⟨S112x128, .f32⟩
  | .hbm, ⟨28, _⟩ => ⟨S112x128, .f32⟩
  | .hbm, ⟨29, _⟩ => ⟨S112x128, .f32⟩
  | .hbm, ⟨30, _⟩ => ⟨S_, .f32⟩
  | .hbm, ⟨31, _⟩ => ⟨S112x128, .f32⟩
  | .hbm, ⟨32, _⟩ => ⟨S112x128, .f32⟩
  | .hbm, ⟨33, _⟩ => ⟨S112x128, .f32⟩
  | .hbm, ⟨34, _⟩ => ⟨S_, .f32⟩
  | .hbm, ⟨35, _⟩ => ⟨S112x128, .f32⟩
  | .hbm, ⟨36, _⟩ => ⟨S112x128, .f32⟩
  | _, _ => ⟨S112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference21Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference22Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x256 : Shape := ⟨2, ![8192, 256]⟩
abbrev S4x256x256 : Shape := ⟨3, ![4, 256, 256]⟩
abbrev S8192x1024 : Shape := ⟨2, ![8192, 1024]⟩
abbrev S512x256 : Shape := ⟨2, ![512, 256]⟩
abbrev S512x1024 : Shape := ⟨2, ![512, 1024]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S4x256x256, .bf16⟩
  | .hbm, ⟨2, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S4x256x256, .bf16⟩
  | .local _ .vmem, ⟨3, _⟩ => ⟨S512x1024, .f32⟩
  | .local _ .vmem, ⟨4, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x256 : Shape := ⟨2, ![8192, 256]⟩
abbrev S4x256x256 : Shape := ⟨3, ![4, 256, 256]⟩
abbrev S256x4x256 : Shape := ⟨3, ![256, 4, 256]⟩
abbrev S256x1024 : Shape := ⟨2, ![256, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S4x256x256, .bf16⟩
  | .hbm, ⟨2, _⟩ => ⟨S8192x256, .f32⟩
  | .hbm, ⟨3, _⟩ => ⟨S4x256x256, .f32⟩
  | .hbm, ⟨4, _⟩ => ⟨S256x4x256, .f32⟩
  | .hbm, ⟨5, _⟩ => ⟨S256x1024, .f32⟩
  | .hbm, ⟨6, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel24.lean ====
abbrev S8192x256 : Shape := ⟨2, ![8192, 256]⟩
abbrev S8192x1024 : Shape := ⟨2, ![8192, 1024]⟩
abbrev S4x256x256 : Shape := ⟨3, ![4, 256, 256]⟩
abbrev S2048x256 : Shape := ⟨2, ![2048, 256]⟩
abbrev S2048x1024 : Shape := ⟨2, ![2048, 1024]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x256, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v12 : BitVec 32 := Scalar.extui v0
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_8 : BitVec 1 := 1#1
  let v14 : BitVec 1 := Scalar.xori v0 true_8
  let v15 : BitVec 32 := Scalar.extui v14
  let c0_i32_9 : BitVec 32 := 0#32
  let v16 : BitVec 1 := Scalar.cmpi .ne v15 c0_i32_9
  v16

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v19 : BitVec 32 := Scalar.extui v0
  let c0_i32_12 : BitVec 32 := 0#32
  let v20 : BitVec 1 := Scalar.cmpi .ne v19 c0_i32_12
  v20

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_13 : BitVec 1 := 1#1
  let v21 : BitVec 1 := Scalar.xori v0 true_13
  let v22 : BitVec 32 := Scalar.extui v21
  let c0_i32_14 : BitVec 32 := 0#32
  let v23 : BitVec 1 := Scalar.cmpi .ne v22 c0_i32_14
  v23

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v26 : BitVec 32 := Scalar.extui v0
  let c0_i32_17 : BitVec 32 := 0#32
  let v27 : BitVec 1 := Scalar.cmpi .ne v26 c0_i32_17
  v27

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_18 : BitVec 1 := 1#1
  let v28 : BitVec 1 := Scalar.xori v0 true_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference24Ideal.lean ====
abbrev S8192x256 : Shape := ⟨2, ![8192, 256]⟩
abbrev S8192x1024 : Shape := ⟨2, ![8192, 1024]⟩
abbrev S_ : Shape := ⟨0, ![]⟩
abbrev S4x256x256 : Shape := ⟨3, ![4, 256, 256]⟩
abbrev S256x4x256 : Shape := ⟨3, ![256, 4, 256]⟩
abbrev S256x1024 : Shape := ⟨2, ![256, 1024]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S8192x256, .f32⟩
  | .hbm, ⟨5, _⟩ => ⟨S256x4x256, .f32⟩
  | .hbm, ⟨6, _⟩ => ⟨S256x1024, .f32⟩
  | .hbm, ⟨7, _⟩ => ⟨S8192x1024, .f32⟩
  | .hbm, ⟨8, _⟩ => ⟨S8192x1024, .f32⟩
  | .hbm, ⟨9, _⟩ => ⟨S1024x256, .f32⟩
  | .hbm, ⟨10, _⟩ => ⟨S256x1024, .f32⟩
  | .hbm, ⟨11, _⟩ => ⟨S256x4x256, .f32⟩
  | .hbm, ⟨12, _⟩ => ⟨S4x256x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel25.lean ====
abbrev S256x1024 : Shape := ⟨2, ![256, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Tile.lean ====
/-
  One key block's work for one head, as plain functions of vectors over any float instance: the forward sweep's weights
  and running sums, the backward sweep's score gradients. The printed bodies do this work for two heads at once, once
  for the diagonal block, once for the two nearest blocks together and once per trip of the remaining sweep; each of them
  is an instance of the functions here.
-/
module

public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Own

open Cert.KernelIdeal Cert.KernelIdeal.Gen
open Idealize.ShloMosaic Idealize.SL.Sem

variable {F : FTy → Type} [FloatOps F] [Named F]

/-! ## Vectors over two or four rows of a stack -/

/-- Two matrices stacked along a leading axis. -/
def stack2 (a b : FVec F S256x128 .f32) : Vec F S2x256x128 .f32 := fun y => if (y 0).val = 0 then a (ix2 (y 1) (y 2)) else b (ix2 (y 1) (y 2))

/-- Two columns stacked along a leading axis. -/
def stackc2 (a b : FVec F S256x1 .f32) : Vec F S2x256x1 .f32 := fun y => if (y 0).val = 0 then a (ix2 (y 1) (y 2)) else b (ix2 (y 1) (y 2))

/-- Four columns stacked along a leading axis. -/
def stackc4 (a b c d : FVec F S256x1 .f32) : Vec F S4x256x1 .f32 := fun y =>
  if (y 0).val = 0 then a (ix2 (y 1) (y 2)) else if (y 0).val = 1 then b (ix2 (y 1) (y 2)) else if (y 0).val = 2 then c (ix2 (y 1) (y 2)) else d (ix2 (y 1) (y 2))

/-- Rows `256 * kb …` of an array of 8192 rows. -/
def blk {φ : EltTy} (x : Vec F S8192x128 φ) (kb : ℕ) : Vec F S256x128 φ := fun y =>
  x (ix2 ⟨(256 * kb + (y 0).val) % 8192, Nat.mod_lt _ (by decide)⟩ (y 1))

/-- An array of 8192 rows with a block added to its rows `256 * kb …`. -/
def addBlk (x : Vec F S8192x128 .f32) (kb : ℕ) (w : FVec F S256x128 .f32) : Vec F S8192x128 .f32 :=
  VecWindow.put x ![256 * kb, 0] S256x128.size (addf (shapeCast S256x128 (blk x kb) shapeCasts_S256x128_S256x128) w)

/-! ## One head's tile -/

/-- A masked vector: zero where the mask is off. -/
def selz (m : IVec S256x256 1) (x : FVec F S256x256 .f32) : FVec F S256x256 .f32 := select m x (broadcast S256x256 (Scalar.ofBits .f32 0x00000000#32))

/-- Scores of a tile of queries against a block of keys. -/
def zOf (q : FVec F S256x128 .bf16) (k : FVec F S256x128 .bf16) : FVec F S256x256 .f32 :=
  matmul dot_S256x128_S256x128_S256x256_1_1_0_0_n_n none q (shapeCast S256x128 k shapeCasts_S256x128_S256x128) (constant S256x256 .f32 0x00000000#32)

/-- The scores' log-sigmoid. -/
def lbOf (z : FVec F S256x256 .f32) : FVec F S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- The product with a triangular matrix of ones, the left operand as the sum of two bf16 parts. -/
def triDot (tri : FVec F S256x256 .bf16) (x : FVec F S256x256 .f32) : FVec F S256x256 .f32 :=
  addf (matmul dot_S256x256_S256x256_S256x256_1_0_0_1_n_n none (truncf .bf16 x bitsLt_bf16_f32) (shapeCast S256x256 tri shapeCasts_S256x256_S256x256) (constant S256x256 .f32 0x00000000#32))
    (matmul dot_S256x256_S256x256_S256x256_1_0_0_1_n_n none (truncf .bf16 (subf x (extf .f32 (truncf .bf16 x bitsLt_bf16_f32) bitsLt_bf16_f32)) bitsLt_bf16_f32) (shapeCast S256x256 tri shapeCasts_S256x256_S256x256) (constant S256x256 .f32 0x00000000#32))

/-- A running row sum taken over one more block. -/
def addc (c : FVec F S256x1 .f32) (x : FVec F S256x256 .f32) : FVec F S256x1 .f32 :=
  addf c (shapeCast S256x1 (multiReduction .add [1] S256 x 0x00000000#32 reduces_S256x256_S256 (.inl rfl) rfl) shapeCasts_S256_S256x1)

/-- The block's weights, from the log-sigmoids, the masked log of one minus the sigmoid and its running sum. -/
def wOf (tri : FVec F S256x256 .bf16) (lb lom : FVec F S256x256 .f32) (c : FVec F S256x1 .f32) : FVec F S256x256 .f32 :=
  exp (addf (addf lb (triDot tri lom)) (broadcastTo S256x256 c broadcasts_S256x1_S256x256))

/-- The weights applied to a block of values. -/
def pvOf (w : FVec F S256x256 .f32) (v : FVec F S256x128 .bf16) : FVec F S256x128 .f32 :=
  matmul dot_S256x256_S256x128_S256x128_1_0_0_1_n_n none (truncf .bf16 w bitsLt_bf16_f32) (shapeCast S256x128 v shapeCasts_S256x128_S256x128) (constant S256x128 .f32 0x00000000#32)

/-- The logs of one minus the sigmoid. -/
def lomOf (z : FVec F S256x256 .f32) : FVec F S256x256 .f32 := subf (lbOf z) z

/-- The causal mask of the diagonal block. -/
abbrev cmask : IVec S256x256 1 := k0_pay60

/-- What a forward tile hands on: the running log and the block's share of the output. -/
structure FTile (F : FTy → Type) where
  c : FVec F S256x1 .f32
  pv : FVec F S256x128 .f32

/-- A forward tile on the diagonal. -/
def fMask (tri : FVec F S256x256 .bf16) (q k v : FVec F S256x128 .bf16) (c : FVec F S256x1 .f32) : FTile F :=
  ⟨addc c (selz cmask (lomOf (zOf q k))),
   pvOf (selz cmask (wOf tri (lbOf (zOf q k)) (selz cmask (lomOf (zOf q k))) c)) v⟩

/-- A forward tile before the diagonal. -/
def fPlain (tri : FVec F S256x256 .bf16) (q k v : FVec F S256x128 .bf16) (c : FVec F S256x1 .f32) : FTile F :=
  ⟨addc c (lomOf (zOf q k)), pvOf (wOf tri (lbOf (zOf q k)) (lomOf (zOf q k)) c) v⟩

/-- A head's forward state: the running log and the accumulated output. -/
structure FHead (F : FTy → Type) where
  c : FVec F S256x1 .f32
  a : FVec F S256x128 .f32

/-- The diagonal block alone. -/
def fDiag (tri : FVec F S256x256 .bf16) (q k v : FVec F S256x128 .bf16) (s : FHead F) : FHead F :=
  ⟨(fMask tri q k v s.c).c, addf s.a (fMask tri q k v s.c).pv⟩

/-- One block before the diagonal. -/
def fStep (tri : FVec F S256x256 .bf16) (q k v : FVec F S256x128 .bf16) (s : FHead F) : FHead F :=
  ⟨(fPlain tri q k v s.c).c, addf s.a (fPlain tri q k v s.c).pv⟩

/-- The diagonal block and the one before it. -/
def fTwo (tri : FVec F S256x256 .bf16) (q k v k' v' : FVec F S256x128 .bf16) (s : FHead F) : FHead F :=
  ⟨(fPlain tri q k' v' (fMask tri q k v s.c).c).c,
   addf s.a (addf (fMask tri q k v s.c).pv (fPlain tri q k' v' (fMask tri q k v s.c).c).pv)⟩

/-- A head's state before its first block. -/
def fInit : FHead F := ⟨broadcast S256x1 (Scalar.ofBits .f32 0x00000000#32), broadcast S256x128 (Scalar.ofBits .f32 0x00000000#32)⟩

theorem k0_pay58_eq : k0_pay58 (F := F) = stack2 fInit.a fInit.a := by
  funext y; idx_vars y; pointwise [k0_pay58, stack2, fInit, ite_self]
theorem k0_pay59_eq : k0_pay59 (F := F) = stackc2 fInit.c fInit.c := by
  funext y; idx_vars y; pointwise [k0_pay59, stackc2, fInit, ite_self]

/-! ## One head's backward tile -/

/-- The weights' gradient, times the weights. -/
def gOf (dw w : FVec F S256x256 .f32) : FVec F S256x256 .f32 := mulf dw (extf .f32 (truncf .bf16 w bitsLt_bf16_f32) bitsLt_bf16_f32)

/-- The scores' gradient. -/
def dzOf (ti : FVec F S256x256 .bf16) (lb g : FVec F S256x256 .f32) (total cg : FVec F S256x1 .f32) : FVec F S256x256 .f32 :=
  subf (mulf g (subf (broadcast S256x256 (Scalar.ofBits .f32 0x3F800000#32)) (exp lb)))
    (mulf (exp lb) (subf (broadcastTo S256x256 total broadcasts_S256x1_S256x256) (addf (triDot ti g) (broadcastTo S256x256 cg broadcasts_S256x1_S256x256))))

/-- A tile's transpose applied to the queries or to the output's gradient. -/
def tnOf (w : FVec F S256x256 .f32) (q : FVec F S256x128 .bf16) : FVec F S256x128 .f32 :=
  matmul dot_S256x256_S256x128_S256x128_0_0_1_1_n_n none (truncf .bf16 w bitsLt_bf16_f32) q (constant S256x128 .f32 0x00000000#32)

/-- What a backward tile hands on: the two running sums and the block's shares of the three gradients. -/
structure BTile (F : FTy → Type) where
  cl : FVec F S256x1 .f32
  cg : FVec F S256x1 .f32
  dq : FVec F S256x128 .f32
  dk : FVec F S256x128 .f32
  dv : FVec F S256x128 .f32

/-- A tile's weights on the diagonal, and before it. -/
def wMask (te : FVec F S256x256 .bf16) (q k : FVec F S256x128 .bf16) (cl : FVec F S256x1 .f32) : FVec F S256x256 .f32 :=
  selz cmask (wOf te (lbOf (zOf q k)) (selz cmask (lomOf (zOf q k))) cl)
@[inherit_doc wMask]
def wPlain (te : FVec F S256x256 .bf16) (q k : FVec F S256x128 .bf16) (cl : FVec F S256x1 .f32) : FVec F S256x256 .f32 :=
  wOf te (lbOf (zOf q k)) (lomOf (zOf q k)) cl

/-- A backward tile on the diagonal. -/
def bMask (te ti : FVec F S256x256 .bf16) (q d : FVec F S256x128 .bf16) (total : FVec F S256x1 .f32) (k v : FVec F S256x128 .bf16)
    (cl cg : FVec F S256x1 .f32) : BTile F :=
  ⟨addc cl (selz cmask (lomOf (zOf q k))), addc cg (gOf (zOf d v) (wMask te q k cl)),
   pvOf (selz cmask (dzOf ti (lbOf (zOf q k)) (gOf (zOf d v) (wMask te q k cl)) total cg)) k,
   tnOf (selz cmask (dzOf ti (lbOf (zOf q k)) (gOf (zOf d v) (wMask te q k cl)) total cg)) q,
   tnOf (wMask te q k cl) d⟩

/-- A backward tile before the diagonal. -/
def bPlain (te ti : FVec F S256x256 .bf16) (q d : FVec F S256x128 .bf16) (total : FVec F S256x1 .f32) (k v : FVec F S256x128 .bf16)
    (cl cg : FVec F S256x1 .f32) : BTile F :=
  ⟨addc cl (lomOf (zOf q k)), addc cg (gOf (zOf d v) (wPlain te q k cl)),
   pvOf (dzOf ti (lbOf (zOf q k)) (gOf (zOf d v) (wPlain te q k cl)) total cg) k,
   tnOf (dzOf ti (lbOf (zOf q k)) (gOf (zOf d v) (wPlain te q k cl)) total cg) q,
   tnOf (wPlain te q k cl) d⟩

/-- A head's backward state: the two running sums and the accumulated gradient of the queries. -/
structure BHead (F : FTy → Type) where
  cl : FVec F S256x1 .f32
  cg : FVec F S256x1 .f32
  dq : FVec F S256x128 .f32

/-- A head's inputs to the backward sweep of one tile of queries. -/
structure BIn (F : FTy → Type) where
  q : FVec F S256x128 .bf16
  d : FVec F S256x128 .bf16
  total : FVec F S256x1 .f32

/-- A tile's sums taken into the head's state. -/
def BHead.take (s : BHead F) (t : BTile F) : BHead F := ⟨t.cl, t.cg, addf s.dq t.dq⟩

/-! ## Reading and writing the stacks -/

/-- Plane `h` of a stack of two matrices. -/
def plane2 (x : Vec F S2x256x128 .f32) (h : Fin 2) : Vec F S1x256x128 .f32 := fun y => x (ix3 h (y 1) (y 2))
/-- Plane `h` of a stack of two columns. -/
def planec2 (x : Vec F S2x256x1 .f32) (h : Fin 2) : Vec F S1x256x1 .f32 := fun y => x (ix3 h (y 1) (y 2))
/-- Plane `h` of a stack of four columns. -/
def planec4 (x : Vec F S4x256x1 .f32) (h : Fin 4) : Vec F S1x256x1 .f32 := fun y => x (ix3 h (y 1) (y 2))

section Stacks

variable (a b : FVec F S256x128 .f32) (c d e f : FVec F S256x1 .f32)

theorem plane2_stack_0 : shapeCast S256x128 (plane2 (stack2 a b) 0) shapeCasts_S1x256x128_S256x128 = a := by
  funext y; idx_vars y; pointwise [plane2, stack2]
theorem plane2_stack_1 : shapeCast S256x128 (plane2 (stack2 a b) 1) shapeCasts_S1x256x128_S256x128 = b := by
  funext y; idx_vars y; pointwise [plane2, stack2]
theorem planec2_stack_0 : shapeCast S256x1 (planec2 (stackc2 c d) 0) shapeCasts_S1x256x1_S256x1 = c := by
  funext y; idx_vars y; obtain rfl : y1 = 0 := Subsingleton.elim _ _; pointwise [planec2, stackc2]
theorem planec2_stack_1 : shapeCast S256x1 (planec2 (stackc2 c d) 1) shapeCasts_S1x256x1_S256x1 = d := by
  funext y; idx_vars y; obtain rfl : y1 = 0 := Subsingleton.elim _ _; pointwise [planec2, stackc2]
theorem planec4_stack_0 : shapeCast S256x1 (planec4 (stackc4 c d e f) 0) shapeCasts_S1x256x1_S256x1 = c := by
  funext y; idx_vars y; obtain rfl : y1 = 0 := Subsingleton.elim _ _; pointwise [planec4, stackc4]
theorem planec4_stack_1 : shapeCast S256x1 (planec4 (stackc4 c d e f) 1) shapeCasts_S1x256x1_S256x1 = d := by
  funext y; idx_vars y; obtain rfl : y1 = 0 := Subsingleton.elim _ _; pointwise [planec4, stackc4]
theorem planec4_stack_2 : shapeCast S256x1 (planec4 (stackc4 c d e f) 2) shapeCasts_S1x256x1_S256x1 = e := by
  funext y; idx_vars y; obtain rfl : y1 = 0 := Subsingleton.elim _ _; pointwise [planec4, stackc4]
theorem planec4_stack_3 : shapeCast S256x1 (planec4 (stackc4 c d e f) 3) shapeCasts_S1x256x1_S256x1 = f := by
  funext y; idx_vars y; obtain rfl : y1 = 0 := Subsingleton.elim _ _; pointwise [planec4, stackc4]

end Stacks

section Views
variable {κ : Kind} {sp : Space}

theorem readAt_plane2 (v : View sig κ sp S2x256x128 .f32) (x : Vec F S2x256x128 .f32) (h : Fin 2) (off : Fin 3 → ℕ)
    (inb : ∀ a, off a + S1x256x128.size a ≤ S2x256x128.size a) (ho : off = ![h.val, 0, 0]) :
    v.readAt (Elt F) (Rect.unit (s := S2x256x128) off S1x256x128.size inb).toLoadRect (v.rep x) = plane2 x h := by
  subst ho
  rw [View.readAt_rep]; funext y
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

theorem readAt_planec2 (v : View sig κ sp S2x256x1 .f32) (x : Vec F S2x256x1 .f32) (h : Fin 2) (off : Fin 3 → ℕ)
    (inb : ∀ a, off a + S1x256x1.size a ≤ S2x256x1.size a) (ho : off = ![h.val, 0, 0]) :
    v.readAt (Elt F) (Rect.unit (s := S2x256x1) off S1x256x1.size inb).toLoadRect (v.rep x) = planec2 x h := by
  subst ho
  rw [View.readAt_rep]; funext y
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

theorem readAt_planec4 (v : View sig κ sp S4x256x1 .f32) (x : Vec F S4x256x1 .f32) (h : Fin 4) (off : Fin 3 → ℕ)
    (inb : ∀ a, off a + S1x256x1.size a ≤ S4x256x1.size a) (ho : off = ![h.val, 0, 0]) :
    v.readAt (Elt F) (Rect.unit (s := S4x256x1) off S1x256x1.size inb).toLoadRect (v.rep x) = planec4 x h := by
  subst ho
  rw [View.readAt_rep]; funext y
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

/-- A load of 256 rows at a whole block is that block. -/
theorem readAt_blk {φ : EltTy} (v : View sig κ sp S8192x128 φ) (x : Vec F S8192x128 φ) (kb : ℕ) (off : Fin 2 → ℕ)
    (inb : ∀ a, off a + S256x128.size a ≤ S8192x128.size a) (ho : off = ![256 * kb, 0]) :
    v.readAt (Elt F) (Rect.unit (s := S8192x128) off S256x128.size inb).toLoadRect (v.rep x) = blk x kb := by
  subst ho
  have hb : 256 * kb + 256 ≤ 8192 := inb 0
  rw [View.readAt_rep]; funext y
  refine congrArg x (funext fun i => Fin.ext ?_)
  show (![256 * kb, 0] : Fin 2 → ℕ) i + 1 * (y i).val = _
  have h0 : (y 0).val < 256 := (y 0).isLt
  fin_cases i
  · show 256 * kb + 1 * (y 0).val = (256 * kb + (y 0).val) % 8192
    rw [Nat.mod_eq_of_lt (by omega)]; omega
  · show 0 + 1 * (y 1).val = (y 1).val; omega

section Literal
variable (v2 : View sig κ sp S2x256x128 .f32) (vc2 : View sig κ sp S2x256x1 .f32) (vc4 : View sig κ sp S4x256x1 .f32)
  (a b : FVec F S256x128 .f32) (c d e f : FVec F S256x1 .f32)

theorem ld_stack2_0 (x : Vec F S2x256x128 .f32) (inb) : v2.readAt (Elt F) (Rect.unit (s := S2x256x128) ![0, 0, 0] (no_index S1x256x128.size) inb).toLoadRect (v2.rep x) = plane2 x 0 :=
  readAt_plane2 v2 x 0 _ inb rfl
theorem ld_stack2_1 (x : Vec F S2x256x128 .f32) (inb) : v2.readAt (Elt F) (Rect.unit (s := S2x256x128) ![1, 0, 0] (no_index S1x256x128.size) inb).toLoadRect (v2.rep x) = plane2 x 1 :=
  readAt_plane2 v2 x 1 _ inb rfl
theorem ld_stackc2_0 (x : Vec F S2x256x1 .f32) (inb) : vc2.readAt (Elt F) (Rect.unit (s := S2x256x1) ![0, 0, 0] (no_index S1x256x1.size) inb).toLoadRect (vc2.rep x) = planec2 x 0 :=
  readAt_planec2 vc2 x 0 _ inb rfl
theorem ld_stackc2_1 (x : Vec F S2x256x1 .f32) (inb) : vc2.readAt (Elt F) (Rect.unit (s := S2x256x1) ![1, 0, 0] (no_index S1x256x1.size) inb).toLoadRect (vc2.rep x) = planec2 x 1 :=
  readAt_planec2 vc2 x 1 _ inb rfl
theorem ld_stackc4_0 (x : Vec F S4x256x1 .f32) (inb) : vc4.readAt (Elt F) (Rect.unit (s := S4x256x1) ![0, 0, 0] (no_index S1x256x1.size) inb).toLoadRect (vc4.rep x) = planec4 x 0 :=
  readAt_planec4 vc4 x 0 _ inb rfl
theorem ld_stackc4_1 (x : Vec F S4x256x1 .f32) (inb) : vc4.readAt (Elt F) (Rect.unit (s := S4x256x1) ![1, 0, 0] (no_index S1x256x1.size) inb).toLoadRect (vc4.rep x) = planec4 x 1 :=
  readAt_planec4 vc4 x 1 _ inb rfl
theorem ld_stackc4_2 (x : Vec F S4x256x1 .f32) (inb) : vc4.readAt (Elt F) (Rect.unit (s := S4x256x1) ![2, 0, 0] (no_index S1x256x1.size) inb).toLoadRect (vc4.rep x) = planec4 x 2 :=
  readAt_planec4 vc4 x 2 _ inb rfl
theorem ld_stackc4_3 (x : Vec F S4x256x1 .f32) (inb) : vc4.readAt (Elt F) (Rect.unit (s := S4x256x1) ![3, 0, 0] (no_index S1x256x1.size) inb).toLoadRect (vc4.rep x) = planec4 x 3 :=
  readAt_planec4 vc4 x 3 _ inb rfl

/-- A load of a whole matrix. -/
theorem ld_tri (v : View sig κ sp S256x256 .bf16) (x : Vec F S256x256 .bf16) (inb) :
    v.readAt (Elt F) (Rect.unit (s := S256x256) ![0, 0] (no_index S256x256.size) inb).toLoadRect (v.rep x) = x := by
  rw [View.readAt_rep]; funext y
  refine congrArg x (funext fun i => Fin.ext ?_)
  show (![0, 0] : Fin 2 → ℕ) i + 1 * (y i).val = _
  fin_cases i
  · show 0 + 1 * (y 0).val = (y 0).val; omega
  · show 0 + 1 * (y 1).val = (y 1).val; omega
theorem ld_rows {φ : EltTy} (v : View sig κ sp S256x128 φ) (x : Vec F S256x128 φ) (inb) :
    v.readAt (Elt F) (Rect.unit (s := S256x128) ![0, 0] (no_index S256x128.size) inb).toLoadRect (v.rep x) = x := by
  rw [View.readAt_rep]; funext y
  refine congrArg x (funext fun i => Fin.ext ?_)
  show (![0, 0] : Fin 2 → ℕ) i + 1 * (y i).val = _
  fin_cases i
  · show 0 + 1 * (y 0).val = (y 0).val; omega
  · show 0 + 1 * (y 1).val = (y 1).val; omega

end Literal

/-- A plane loaded after one store of the whole stack. -/
theorem cov_plane2 (v : View sig κ sp S2x256x128 .f32) (x : Vec F S2x256x128 .f32) (h : Fin 2) (off : Fin 3 → ℕ) (inb inb')
    (ho : off = ![h.val, 0, 0]) :
    v.readCov [(⟨Rect.unit (s := S2x256x128) ![0, 0, 0] S2x256x128.size inb, x⟩ : View.Piece (Elt F) S2x256x128 .f32)]
      (Rect.unit (s := S2x256x128) off S1x256x128.size inb').toLoadRect = plane2 x h := by
  subst ho
  have e : v.read (Elt F) (v.writes (Elt F) v.junk [(⟨Rect.unit (s := S2x256x128) ![0, 0, 0] S2x256x128.size inb, x⟩ : View.Piece (Elt F) S2x256x128 .f32)]) = x :=
    View.read_writes_full v v.junk inb x []
  funext y
  show v.read (Elt F) _ _ = _
  rw [e]
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

/-- A plane loaded after one store of the whole stack. -/
theorem cov_planec2 (v : View sig κ sp S2x256x1 .f32) (x : Vec F S2x256x1 .f32) (h : Fin 2) (off : Fin 3 → ℕ) (inb inb')
    (ho : off = ![h.val, 0, 0]) :
    v.readCov [(⟨Rect.unit (s := S2x256x1) ![0, 0, 0] S2x256x1.size inb, x⟩ : View.Piece (Elt F) S2x256x1 .f32)]
      (Rect.unit (s := S2x256x1) off S1x256x1.size inb').toLoadRect = planec2 x h := by
  subst ho
  have e : v.read (Elt F) (v.writes (Elt F) v.junk [(⟨Rect.unit (s := S2x256x1) ![0, 0, 0] S2x256x1.size inb, x⟩ : View.Piece (Elt F) S2x256x1 .f32)]) = x :=
    View.read_writes_full v v.junk inb x []
  funext y
  show v.read (Elt F) _ _ = _
  rw [e]
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

/-- A plane loaded after one store of the whole stack. -/
theorem cov_planec4 (v : View sig κ sp S4x256x1 .f32) (x : Vec F S4x256x1 .f32) (h : Fin 4) (off : Fin 3 → ℕ) (inb inb')
    (ho : off = ![h.val, 0, 0]) :
    v.readCov [(⟨Rect.unit (s := S4x256x1) ![0, 0, 0] S4x256x1.size inb, x⟩ : View.Piece (Elt F) S4x256x1 .f32)]
      (Rect.unit (s := S4x256x1) off S1x256x1.size inb').toLoadRect = planec4 x h := by
  subst ho
  have e : v.read (Elt F) (v.writes (Elt F) v.junk [(⟨Rect.unit (s := S4x256x1) ![0, 0, 0] S4x256x1.size inb, x⟩ : View.Piece (Elt F) S4x256x1 .f32)]) = x :=
    View.read_writes_full v v.junk inb x []
  funext y
  show v.read (Elt F) _ _ = _
  rw [e]
  refine congrArg x (funext fun i => Fin.ext ?_)
  show (![h.val, 0, 0] : Fin 3 → ℕ) i + 1 * (y i).val = _
  have h0 : (y 0).val = 0 := by have : (y 0).val < 1 := (y 0).isLt; omega
  fin_cases i
  · show h.val + 1 * (y 0).val = h.val; omega
  · show 0 + 1 * (y 1).val = (y 1).val; omega
  · show 0 + 1 * (y 2).val = (y 2).val; omega

theorem cov_plane2_0 (v : View sig κ sp S2x256x128 .f32) (x : Vec F S2x256x128 .f32) (inb inb') :
    v.readCov [(⟨Rect.unit (s := S2x256x128) ![0, 0, 0] S2x256x128.size inb, x⟩ : View.Piece (Elt F) S2x256x128 .f32)]
      (Rect.unit (s := S2x256x128) ![0, 0, 0] S1x256x128.size inb').toLoadRect = plane2 x 0 := cov_plane2 v x 0 _ inb inb' rfl
theorem cov_plane2_1 (v : View sig κ sp S2x256x128 .f32) (x : Vec F S2x256x128 .f32) (inb inb') :
    v.readCov [(⟨Rect.unit (s := S2x256x128) ![0, 0, 0] S2x256x128.size inb, x⟩ : View.Piece (Elt F) S2x256x128 .f32)]
      (Rect.unit (s := S2x256x128) ![1, 0, 0] S1x256x128.size inb').toLoadRect = plane2 x 1 := cov_plane2 v x 1 _ inb inb' rfl
theorem cov_planec2_0 (v : View sig κ sp S2x256x1 .f32) (x : Vec F S2x256x1 .f32) (inb inb') :
    v.readCov [(⟨Rect.unit (s := S2x256x1) ![0, 0, 0] S2x256x1.size inb, x⟩ : View.Piece (Elt F) S2x256x1 .f32)]
      (Rect.unit (s := S2x256x1) ![0, 0, 0] S1x256x1.size inb').toLoadRect = planec2 x 0 := cov_planec2 v x 0 _ inb inb' rfl
theorem cov_planec2_1 (v : View sig κ sp S2x256x1 .f32) (x : Vec F S2x256x1 .f32) (inb inb') :
    v.readCov [(⟨Rect.unit (s := S2x256x1) ![0, 0, 0] S2x256x1.size inb, x⟩ : View.Piece (Elt F) S2x256x1 .f32)]
      (Rect.unit (s := S2x256x1) ![1, 0, 0] S1x256x1.size inb').toLoadRect = planec2 x 1 := cov_planec2 v x 1 _ inb inb' rfl
theorem cov_planec4_0 (v : View sig κ sp S4x256x1 .f32) (x : Vec F S4x256x1 .f32) (inb inb') :
    v.readCov [(⟨Rect.unit (s := S4x256x1) ![0, 0, 0] S4x256x1.size inb, x⟩ : View.Piece (Elt F) S4x256x1 .f32)]
      (Rect.unit (s := S4x256x1) ![0, 0, 0] S1x256x1.size inb').toLoadRect = planec4 x 0 := cov_planec4 v x 0 _ inb inb' rfl
theorem cov_planec4_1 (v : View sig κ sp S4x256x1 .f32) (x : Vec F S4x256x1 .f32) (inb inb') :
    v.readCov [(⟨Rect.unit (s := S4x256x1) ![0, 0, 0] S4x256x1.size inb, x⟩ : View.Piece (Elt F) S4x256x1 .f32)]
      (Rect.unit (s := S4x256x1) ![1, 0, 0] S1x256x1.size inb').toLoadRect = planec4 x 1 := cov_planec4 v x 1 _ inb inb' rfl
theorem cov_planec4_2 (v : View sig κ sp S4x256x1 .f32) (x : Vec F S4x256x1 .f32) (inb inb') :
    v.readCov [(⟨Rect.unit (s := S4x256x1) ![0, 0, 0] S4x256x1.size inb, x⟩ : View.Piece (Elt F) S4x256x1 .f32)]
      (Rect.unit (s := S4x256x1) ![2, 0, 0] S1x256x1.size inb').toLoadRect = planec4 x 2 := cov_planec4 v x 2 _ inb inb' rfl
theorem cov_planec4_3 (v : View sig κ sp S4x256x1 .f32) (x : Vec F S4x256x1 .f32) (inb inb') :
    v.readCov [(⟨Rect.unit (s := S4x256x1) ![0, 0, 0] S4x256x1.size inb, x⟩ : View.Piece (Elt F) S4x256x1 .f32)]
      (Rect.unit (s := S4x256x1) ![3, 0, 0] S1x256x1.size inb').toLoadRect = planec4 x 3 := cov_planec4 v x 3 _ inb inb' rfl

/-- The other plane loaded after the whole stack and the first plane were stored. -/
theorem cov_plane2_10 (v : View sig κ sp S2x256x128 .f32) (x : Vec F S2x256x128 .f32) (w : Vec F S1x256x128 .f32) (inb inb0 inb') :
    v.readCov [(⟨Rect.unit (s := S2x256x128) ![0, 0, 0] S1x256x128.size inb0, w⟩ : View.Piece (Elt F) S2x256x128 .f32),
        ⟨Rect.unit (s := S2x256x128) ![0, 0, 0] S2x256x128.size inb, x⟩]
      (Rect.unit (s := S2x256x128) ![1, 0, 0] S1x256x128.size inb').toLoadRect = plane2 x 1 := by
  rw [← cov_plane2_1 v x inb inb']
  funext y
  exact View.read_writes_cons_unit_of_not_mem v v.junk inb0 w _ _ rfl 0 (Or.inr (Nat.le_add_right 1 _))

/-- Both planes stored: the stack of what was stored. -/
theorem read_stack2 (v : View sig κ sp S2x256x128 .f32) (g : v.ty.Contents (Elt F)) (a b : FVec F S256x128 .f32) (inb0 inb1)
    (L : List (View.Piece (Elt F) S2x256x128 .f32)) :
    v.read (Elt F) (v.writes (Elt F) g (⟨Rect.unit (s := S2x256x128) ![1, 0, 0] S1x256x128.size inb1, shapeCast S1x256x128 b shapeCasts_S256x128_S1x256x128⟩
      :: ⟨Rect.unit (s := S2x256x128) ![0, 0, 0] S1x256x128.size inb0, shapeCast S1x256x128 a shapeCasts_S256x128_S1x256x128⟩ :: L)) = stack2 a b := by
  funext y; idx_vars y
  by_cases h : y0 = 0
  · subst h
    rw [View.read_writes_cons_unit_of_not_mem v g inb1 _ _ _ rfl 0 (Or.inl Nat.zero_lt_one),
      View.read_writes_cons_unit_of_mem v g inb0 _ _ _ (ix3 0 y1 y2 : S1x256x128.Idx) rfl (by
        intro i; fin_cases i
        · rfl
        · exact (Nat.zero_add _).symm
        · exact (Nat.zero_add _).symm)]
    pointwise [stack2]
  · obtain rfl : y0 = 1 := by fin_cases y0 <;> simp_all
    rw [View.read_writes_cons_unit_of_mem v g inb1 _ _ _ (ix3 0 y1 y2 : S1x256x128.Idx) rfl (by
        intro i; fin_cases i
        · rfl
        · exact (Nat.zero_add _).symm
        · exact (Nat.zero_add _).symm)]
    pointwise [stack2]

theorem read_stackc2 (v : View sig κ sp S2x256x1 .f32) (g : v.ty.Contents (Elt F)) (a b : FVec F S256x1 .f32) (inb0 inb1)
    (L : List (View.Piece (Elt F) S2x256x1 .f32)) :
    v.read (Elt F) (v.writes (Elt F) g (⟨Rect.unit (s := S2x256x1) ![1, 0, 0] S1x256x1.size inb1, shapeCast S1x256x1 b shapeCasts_S256x1_S1x256x1⟩
      :: ⟨Rect.unit (s := S2x256x1) ![0, 0, 0] S1x256x1.size inb0, shapeCast S1x256x1 a shapeCasts_S256x1_S1x256x1⟩ :: L)) = stackc2 a b := by
  funext y; idx_vars y
  obtain rfl : y2 = 0 := Subsingleton.elim _ _
  by_cases h : y0 = 0
  · subst h
    rw [View.read_writes_cons_unit_of_not_mem v g inb1 _ _ _ rfl 0 (Or.inl Nat.zero_lt_one),
      View.read_writes_cons_unit_of_mem v g inb0 _ _ _ (ix3 0 y1 0 : S1x256x1.Idx) rfl (by
        intro i; fin_cases i
        · rfl
        · exact (Nat.zero_add _).symm
        · rfl)]
    pointwise [stackc2]
  · obtain rfl : y0 = 1 := by fin_cases y0 <;> simp_all
    rw [View.read_writes_cons_unit_of_mem v g inb1 _ _ _ (ix3 0 y1 0 : S1x256x1.Idx) rfl (by
        intro i; fin_cases i
        · rfl
        · exact (Nat.zero_add _).symm
        · rfl)]
    pointwise [stackc2]

/-- Both planes stored and the whole stack loaded. -/
theorem cov_stackc2 (v : View sig κ sp S2x256x1 .f32) (a b : FVec F S256x1 .f32) (inb0 inb1 inb)
    (L : List (View.Piece (Elt F) S2x256x1 .f32)) :
    v.readCov (⟨Rect.unit (s := S2x256x1) ![1, 0, 0] S1x256x1.size inb1, shapeCast S1x256x1 b shapeCasts_S256x1_S1x256x1⟩
      :: ⟨Rect.unit (s := S2x256x1) ![0, 0, 0] S1x256x1.size inb0, shapeCast S1x256x1 a shapeCasts_S256x1_S1x256x1⟩ :: L)
      (Rect.unit (s := S2x256x1) ![0, 0, 0] S2x256x1.size inb).toLoadRect = stackc2 a b := by
  show v.readAt (Elt F) (Rect.unit (s := S2x256x1) ![0, 0, 0] S2x256x1.size inb).toLoadRect _ = _
  rw [View.readAt_full]
  exact read_stackc2 v v.junk a b inb0 inb1 L

/-- Four planes stored: the stack of what was stored. -/
theorem read_stackc4 (v : View sig κ sp S4x256x1 .f32) (g : v.ty.Contents (Elt F)) (a b c d : FVec F S256x1 .f32) (inb0 inb1 inb2 inb3)
    (L : List (View.Piece (Elt F) S4x256x1 .f32)) :
    v.read (Elt F) (v.writes (Elt F) g (⟨Rect.unit (s := S4x256x1) ![3, 0, 0] S1x256x1.size inb3, shapeCast S1x256x1 d shapeCasts_S256x1_S1x256x1⟩
      :: ⟨Rect.unit (s := S4x256x1) ![2, 0, 0] S1x256x1.size inb2, shapeCast S1x256x1 c shapeCasts_S256x1_S1x256x1⟩
      :: ⟨Rect.unit (s := S4x256x1) ![1, 0, 0] S1x256x1.size inb1, shapeCast S1x256x1 b shapeCasts_S256x1_S1x256x1⟩
      :: ⟨Rect.unit (s := S4x256x1) ![0, 0, 0] S1x256x1.size inb0, shapeCast S1x256x1 a shapeCasts_S256x1_S1x256x1⟩ :: L)) = stackc4 a b c d := by
  funext y; idx_vars y
  obtain rfl : y2 = 0 := Subsingleton.elim _ _
  fin_cases y0
  · rw [View.read_writes_cons_unit_of_not_mem v g inb3 _ _ _ rfl 0 (Or.inl (by show 0 < 3; omega)),
      View.read_writes_cons_unit_of_not_mem v g inb2 _ _ _ rfl 0 (Or.inl (by show 0 < 2; omega)),
      View.read_writes_cons_unit_of_not_mem v g inb1 _ _ _ rfl 0 (Or.inl (by show 0 < 1; omega)),
      View.read_writes_cons_unit_of_mem v g inb0 _ _ _ (ix3 0 y1 0 : S1x256x1.Idx) rfl (by
        intro i; fin_cases i
        · rfl
        · exact (Nat.zero_add _).symm
        · rfl)]
    pointwise [stackc4]
  · rw [View.read_writes_cons_unit_of_not_mem v g inb3 _ _ _ rfl 0 (Or.inl (by show 1 < 3; omega)),
      View.read_writes_cons_unit_of_not_mem v g inb2 _ _ _ rfl 0 (Or.inl (by show 1 < 2; omega)),
      View.read_writes_cons_unit_of_mem v g inb1 _ _ _ (ix3 0 y1 0 : S1x256x1.Idx) rfl (by
        intro i; fin_cases i
        · rfl
        · exact (Nat.zero_add _).symm
        · rfl)]
    pointwise [stackc4]
  · rw [View.read_writes_cons_unit_of_not_mem v g inb3 _ _ _ rfl 0 (Or.inl (by show 2 < 3; omega)),
      View.read_writes_cons_unit_of_mem v g inb2 _ _ _ (ix3 0 y1 0 : S1x256x1.Idx) rfl (by
        intro i; fin_cases i
        · rfl
        · exact (Nat.zero_add _).symm
        · rfl)]
    pointwise [stackc4]
  · rw [View.read_writes_cons_unit_of_mem v g inb3 _ _ _ (ix3 0 y1 0 : S1x256x1.Idx) rfl (by
        intro i; fin_cases i
        · rfl
        · exact (Nat.zero_add _).symm
        · rfl)]
    pointwise [stackc4]

theorem cov_stackc4_0 (v : View sig κ sp S4x256x1 .f32) (a b c d : FVec F S256x1 .f32) (inb0 inb1 inb2 inb3 inb)
    (L : List (View.Piece (Elt F) S4x256x1 .f32)) :
    v.readCov (⟨Rect.unit (s := S4x256x1) ![3, 0, 0] S1x256x1.size inb3, shapeCast S1x256x1 d shapeCasts_S256x1_S1x256x1⟩
      :: ⟨Rect.unit (s := S4x256x1) ![2, 0, 0] S1x256x1.size inb2, shapeCast S1x256x1 c shapeCasts_S256x1_S1x256x1⟩
      :: ⟨Rect.unit (s := S4x256x1) ![1, 0, 0] S1x256x1.size inb1, shapeCast S1x256x1 b shapeCasts_S256x1_S1x256x1⟩
      :: ⟨Rect.unit (s := S4x256x1) ![0, 0, 0] S1x256x1.size inb0, shapeCast S1x256x1 a shapeCasts_S256x1_S1x256x1⟩ :: L)
      (Rect.unit (s := S4x256x1) ![0, 0, 0] S1x256x1.size inb).toLoadRect = shapeCast S1x256x1 a shapeCasts_S256x1_S1x256x1 := by
  have e := read_stackc4 v v.junk a b c d inb0 inb1 inb2 inb3 L
  funext y
  show v.read (Elt F) _ _ = _
  rw [e]
  idx_vars y
  pointwise [stackc4]

theorem cov_stackc4_2 (v : View sig κ sp S4x256x1 .f32) (a b c d : FVec F S256x1 .f32) (inb0 inb1 inb2 inb3 inb)
    (L : List (View.Piece (Elt F) S4x256x1 .f32)) :
    v.readCov (⟨Rect.unit (s := S4x256x1) ![3, 0, 0] S1x256x1.size inb3, shapeCast S1x256x1 d shapeCasts_S256x1_S1x256x1⟩
      :: ⟨Rect.unit (s := S4x256x1) ![2, 0, 0] S1x256x1.size inb2, shapeCast S1x256x1 c shapeCasts_S256x1_S1x256x1⟩
      :: ⟨Rect.unit (s := S4x256x1) ![1, 0, 0] S1x256x1.size inb1, shapeCast S1x256x1 b shapeCasts_S256x1_S1x256x1⟩
      :: ⟨Rect.unit (s := S4x256x1) ![0, 0, 0] S1x256x1.size inb0, shapeCast S1x256x1 a shapeCasts_S256x1_S1x256x1⟩ :: L)
      (Rect.unit (s := S4x256x1) ![2, 0, 0] S1x256x1.size inb).toLoadRect = shapeCast S1x256x1 c shapeCasts_S256x1_S1x256x1 := by
  have e := read_stackc4 v v.junk a b c d inb0 inb1 inb2 inb3 L
  funext y
  show v.read (Elt F) _ _ = _
  rw [e]
  idx_vars y
  pointwise [stackc4]

/-- A block of rows stored whose payload is the old block plus a term. -/
theorem read_addBlk (v : View sig κ sp S8192x128 .f32) (x : Vec F S8192x128 .f32) (kb : ℕ) (w : FVec F S256x128 .f32) (off : Fin 2 → ℕ) (inb)
    (ho : off = ![256 * kb, 0]) :
    v.read (Elt F) (v.writes (Elt F) (v.rep x) [⟨Rect.unit (s := S8192x128) off S256x128.size inb,
      addf (shapeCast S256x128 (blk x kb) shapeCasts_S256x128_S256x128) w⟩]) = addBlk x kb w := by
  subst ho
  exact View.read_writes_rep_unit v x inb _ rfl

/-- Another block of an array a block was added to. -/
theorem blk_addBlk_of_ne (x : Vec F S8192x128 .f32) (k1 k2 : ℕ) (w : FVec F S256x128 .f32) (h2 : k2 < 32) (h : k1 ≠ k2) :
    blk (addBlk x k1 w) k2 = blk x k2 := by
  funext y
  have hy : (y 0).val < 256 := (y 0).isLt
  refine dif_neg fun hall => ?_
  have h0 : 256 * k1 ≤ (256 * k2 + (y 0).val) % 8192 ∧ (256 * k2 + (y 0).val) % 8192 < 256 * k1 + 256 := hall 0
  rw [Nat.mod_eq_of_lt (by omega)] at h0
  omega

theorem read_addBlk2 (v : View sig κ sp S8192x128 .f32) (x : Vec F S8192x128 .f32) (k1 k2 : ℕ) (w1 w2 : FVec F S256x128 .f32) (off1 off2 : Fin 2 → ℕ) (inb1 inb2)
    (ho1 : off1 = ![256 * k1, 0]) (ho2 : off2 = ![256 * k2, 0]) (h2 : k2 < 32) (h : k1 ≠ k2) :
    v.read (Elt F) (v.writes (Elt F) (v.rep x) [⟨Rect.unit (s := S8192x128) off2 S256x128.size inb2,
      addf (shapeCast S256x128 (blk x k2) shapeCasts_S256x128_S256x128) w2⟩, ⟨Rect.unit (s := S8192x128) off1 S256x128.size inb1,
      addf (shapeCast S256x128 (blk x k1) shapeCasts_S256x128_S256x128) w1⟩]) = addBlk (addBlk x k1 w1) k2 w2 := by
  rw [View.read_writes_cons_put v _ inb2 _ _ ho2, read_addBlk v x k1 w1 off1 inb1 ho1]
  unfold addBlk
  rw [← blk_addBlk_of_ne x k1 k2 w1 h2 h]; rfl

/-- The first block added to, after a store of the whole array. -/
theorem read_addBlk0 (v : View sig κ sp S8192x128 .f32) (g : v.ty.Contents (Elt F)) (x : Vec F S8192x128 .f32) (w : FVec F S256x128 .f32) (inb inb') :
    v.read (Elt F) (v.writes (Elt F) g [⟨Rect.unit (s := S8192x128) ![0, 0] S256x128.size inb,
      addf (shapeCast S256x128 (blk x 0) shapeCasts_S256x128_S256x128) w⟩, ⟨Rect.unit (s := S8192x128) ![0, 0] S8192x128.size inb', x⟩]) = addBlk x 0 w := by
  rw [View.read_writes_cons_put v _ inb _ _ (rfl : (![0, 0] : Fin 2 → ℕ) = ![256 * 0, 0]), View.read_writes_full v g inb' x []]
  rfl

theorem cov_blk0 (v : View sig κ sp S8192x128 .f32) (x : Vec F S8192x128 .f32) (inb inb') :
    v.readCov [(⟨Rect.unit (s := S8192x128) ![0, 0] S8192x128.size inb, x⟩ : View.Piece (Elt F) S8192x128 .f32)]
      (Rect.unit (s := S8192x128) ![0, 0] S256x128.size inb').toLoadRect = blk x 0 := by
  have e : v.read (Elt F) (v.writes (Elt F) v.junk [(⟨Rect.unit (s := S8192x128) ![0, 0] S8192x128.size inb, x⟩ : View.Piece (Elt F) S8192x128 .f32)]) = x :=
    View.read_writes_full v v.junk inb x []
  have e2 := readAt_blk v x 0 ![0, 0] inb' rfl
  rw [View.readAt_rep] at e2
  rw [← e2]
  funext y
  show v.read (Elt F) _ _ = _
  rw [e]

end Views

end Cert.KernelIdeal.Own
-- ==== Proof.FwdLoop.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.Tile
public import Idealize.ShloMosaic.Lib.VecWindow
public import Idealize.ShloMosaic.Lib.Pipeline.TableIdle
public import Idealize.ShloMosaic.Lib.Tactic
public import Idealize.ShloMosaic.Lib.Tactic.Stretches
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The sweep as a function -/

/-- Whether a further block can carry weight: some running log is above the bound. -/
def alive0 (c0 c1 : FVec F S256x1 .f32) : BitVec 32 :=
  Scalar.extui (Scalar.cmpf .ogt (k0_pay6 (stackc2 c0 c1)) (Named.named κ "dead" 0xC2D40000#32 : F .f32))

theorem alive_eq (x : Vec F S2x256x1 .f32) (c0 c1 : FVec F S256x1 .f32) (h : x = stackc2 c0 c1) :
    Scalar.extui (Scalar.cmpf .ogt (k0_pay6 x) (Named.named (F := F) κ "dead" 0xC2D40000#32 : F .f32)) = alive0 c0 c1 := by subst h; rfl

/-- One trip for both heads: block `n`. -/
def fTrip (tri : FVec F S256x256 .bf16) (q0 q1 : FVec F S256x128 .bf16) (K V : Vec F S8192x128 .bf16) (n : ℕ) (s : FHead F × FHead F) : FHead F × FHead F :=
  (fStep tri q0 (blk K n) (blk V n) s.1, fStep tri q1 (blk K n) (blk V n) s.2)

/-- The sweep over blocks `n - 1, …, 0`, left as soon as the flag is off. -/
def fLoop (tri : FVec F S256x256 .bf16) (q0 q1 : FVec F S256x128 .bf16) (K V : Vec F S8192x128 .bf16) : ℕ → BitVec 32 → FHead F × FHead F → FHead F × FHead F
  | 0, _, s => s
  | n + 1, live, s =>
    if Scalar.cmpi .sgt live 0#32 = 1#1 then
      fLoop tri q0 q1 K V n (alive0 (fTrip tri q0 q1 K V n s).1.c (fTrip tri q0 q1 K V n s).2.c) (fTrip tri q0 q1 K V n s)
    else s

/-- The counter's word with `n` trips to run at most. -/
def Ctr : ℕ → BitVec 32 → Prop
  | 0, w => ¬Scalar.cmpi .sge w 0#32 = 1#1
  | n + 1, w => n < 32 ∧ w = BitVec.ofNat 32 n

theorem ctr_test : ∀ n : Fin 32, Scalar.cmpi .sge (BitVec.ofNat 32 n.val) 0#32 = 1#1 := by decide +kernel
theorem ctr_sub : ∀ n : Fin 31, Scalar.subi (BitVec.ofNat 32 (n.val + 1)) 1#32 = BitVec.ofNat 32 n.val := by decide +kernel
theorem ctr_sub0 : ¬Scalar.cmpi .sge (Scalar.subi (BitVec.ofNat 32 0) 1#32) 0#32 = 1#1 := by decide +kernel
theorem k0_chk_of : ∀ n : Fin 32, k0_chk1 (BitVec.ofNat 32 n.val) := by
  unfold k0_chk1; decide +kernel
theorem k0_off_of : ∀ n : Fin 32, k0_off3 (BitVec.ofNat 32 n.val) = ![256 * n.val, 0] := by decide +kernel

theorem ctr_pred (n : ℕ) (w : BitVec 32) (h : Ctr (n + 1) w) : Ctr n (Scalar.subi w 1#32) := by
  obtain ⟨hn, rfl⟩ := h
  cases n with
  | zero => exact ctr_sub0
  | succ n => exact ⟨by omega, ctr_sub ⟨n, by omega⟩⟩

/-! ## The sweep's label -/

section Label

variable (c : Dev nD) (i : grid0.Coords)
  (arg3 : Memref sig .tc .vmem S8192x128 .bf16) (harg3 : arg3.IsWhole)
  (arg4 : Memref sig .tc .vmem S8192x128 .bf16) (harg4 : arg4.IsWhole)
  (arg5 : Memref sig .tc .vmem S256x256 .bf16) (harg5 : arg5.IsWhole)
  (arg8 : Memref sig .tc .vmem S2x256x128 .f32) (harg8 : arg8.IsWhole)
  (arg9 : Memref sig .tc .vmem S2x256x1 .f32) (harg9 : arg9.IsWhole)
  (q0 q1 : FVec F S256x128 .bf16)
  (x3 x4 : Vec F S8192x128 .bf16) (x5 : Vec F S256x256 .bf16)

/-- The five buffers the sweep reads and writes, the two running ones at the heads' states. -/
def fHeld (s : FHead F × FHead F) : sProp 𝕄 :=
  iprop(owns (c : Thread nD τ) arg3 fullShare x3 ∗ owns (c : Thread nD τ) arg4 fullShare x4 ∗ owns (c : Thread nD τ) arg5 fullShare x5
    ∗ owns (c : Thread nD τ) arg8 fullShare (stack2 s.1.a s.2.a) ∗ owns (c : Thread nD τ) arg9 fullShare (stackc2 s.1.c s.2.c))

/-- The label's specification: from the heads' states to the swept ones, some two words returned. -/
def fSpec (n : ℕ) (live : BitVec 32) (s : FHead F × FHead F) : sWPT 𝕄 (BitVec 32 × BitVec 32) := do
  sWPT.consume (fHeld c arg3 arg4 arg5 arg8 arg9 x3 x4 x5 s)
  let r ← sWPT.arbitrary
  sWPT.produce (fHeld c arg3 arg4 arg5 arg8 arg9 x3 x4 x5 (fLoop x5 q0 q1 x3 x4 n live s))
  pure r

theorem fSpec_apply (n : ℕ) (live : BitVec 32) (s : FHead F × FHead F) (K : BitVec 32 × BitVec 32 → sProp 𝕄) :
    fSpec c arg3 arg4 arg5 arg8 arg9 q0 q1 x3 x4 x5 n live s K
      = iprop(fHeld c arg3 arg4 arg5 arg8 arg9 x3 x4 x5 s
        ∗ ∀ r : BitVec 32 × BitVec 32, (fHeld c arg3 arg4 arg5 arg8 arg9 x3 x4 x5 (fLoop x5 q0 q1 x3 x4 n live s) -∗ K r)) := rfl

set_option maxHeartbeats 400000 in
theorem fSpec_le (E : Set ℕ) : ∀ n w live, Ctr n w → ∀ (s : FHead F × FHead F) K,
    fSpec c arg3 arg4 arg5 arg8 arg9 q0 q1 x3 x4 x5 n live s K
      ⊢ wp frame (wpE (defs₀ (F := F)) Variants.nat (c : Thread nD τ) (some n)) E
          (defs₀ (F := F) .tc 2 ⟨i, arg5, harg5, arg3, harg3, arg4, harg4, arg9, harg9, q0, q1, arg8, harg8, w, live⟩) K := by
  intro n
  induction n with
  | zero =>
    intro w live hw s K
    rw [fSpec_apply]
    show _ ⊢ wp frame (wpE (defs₀ (F := F)) Variants.nat (c : Thread nD τ) (some 0)) E
      (cc0_while1 i arg5 harg5 arg3 harg3 arg4 harg4 arg9 harg9 q0 q1 arg8 harg8 w live) K
    simp only [cc0_while1_eq_skeleton]; unfold cc0_while1_skel
    have htest : ¬Scalar.andi (Scalar.cmpi .sge w 0#32) (Scalar.cmpi .sgt live 0#32) = 1#1 := by
      have h0 : Scalar.cmpi .sge w 0#32 = 0#1 := by
        have : ∀ b : BitVec 1, ¬b = 1#1 → b = 0#1 := by decide
        exact this _ hw
      rw [h0]; generalize Scalar.cmpi .sgt live 0#32 = b; revert b; decide
    simp only [htest, ↓reduceIte, Prog.pure_eq_ret]
    iintro ⟨H, Hk⟩
    rw [wp_ret]; imodintro
    iapply Hk
    simp only [fLoop]; iexact H
  | succ n ih =>
    intro w live hw s K
    rw [fSpec_apply]
    show _ ⊢ wp frame (wpE (defs₀ (F := F)) Variants.nat (c : Thread nD τ) (some (n + 1))) E
      (cc0_while1 i arg5 harg5 arg3 harg3 arg4 harg4 arg9 harg9 q0 q1 arg8 harg8 w live) K
    simp only [cc0_while1_eq_skeleton]; unfold cc0_while1_skel
    have hp := ctr_pred n w hw
    obtain ⟨hn, rfl⟩ := hw
    by_cases hl : Scalar.cmpi .sgt live 0#32 = 1#1
    · have hchk : k0_chk1 (BitVec.ofNat 32 n) := k0_chk_of ⟨n, hn⟩
      have hoff : k0_off3 (BitVec.ofNat 32 n) = ![256 * n, 0] := k0_off_of ⟨n, hn⟩
      have htest : Scalar.andi (Scalar.cmpi .sge (BitVec.ofNat 32 n) 0#32) (Scalar.cmpi .sgt live 0#32) = 1#1 := by
        rw [hl, ctr_test ⟨n, hn⟩]; decide
      simp only [htest, ↓reduceIte]
      rw [fLoop, if_pos hl]
      unfold fHeld
      simp only [owns_eq_rep]
      iintro ⟨⟨H3, H4, H5, H8, H9⟩, Hk⟩
      sl_exec
      rw [alive_eq (F := F) _ (fTrip x5 q0 q1 x3 x4 n s).1.c (fTrip x5 q0 q1 x3 x4 n s).2.c ?ecov]
      case ecov =>
        sl_open_run
        sl_open_pay
        simp only [ld_stack2_0, ld_stack2_1, ld_stackc2_0, ld_stackc2_1, ld_tri, readAt_blk _ _ n _ _ hoff]

        rw [cov_stackc2]
        refine congrArg₂ stackc2 ?_ ?_
        · rw [planec2_stack_0]; rfl
        · rw [planec2_stack_1]; rfl
      iapply (wp_call_spec Variants.nat (c : Thread nD τ) (some (n + 1)) E
        (fSpec c arg3 arg4 arg5 arg8 arg9 q0 q1 x3 x4 x5 n (alive0 (fTrip x5 q0 q1 x3 x4 n s).1.c (fTrip x5 q0 q1 x3 x4 n s).2.c) (fTrip x5 q0 q1 x3 x4 n s)) n
        (fun u hu => by cases hu; exact Nat.lt_succ_self n) (ih _ _ hp _))
      rw [fSpec_apply]; unfold fHeld
      simp only [owns_eq_rep]
      isplitl [H3 H4 H5 H8 H9]
      · isplitl [H3]; · iexact H3
        isplitl [H4]; · iexact H4
        isplitl [H5]; · iexact H5
        isplitl [H8]
        · rw [← owns_eq_rep]; unfold owns
          iexists _; isplitr; swap; · iexact H8
          ipureintro
          sl_open_run
          sl_open_pay
          simp only [ld_stack2_0, ld_stack2_1, ld_stackc2_0, ld_stackc2_1, ld_tri, readAt_blk _ _ n _ _ hoff]
          rw [read_stack2]
          refine congrArg₂ stack2 ?_ ?_
          · rw [plane2_stack_0, planec2_stack_0]; rfl
          · rw [plane2_stack_1, planec2_stack_1]; rfl
        · rw [← owns_eq_rep]; unfold owns
          iexists _; isplitr; swap; · iexact H9
          ipureintro
          sl_open_run
          sl_open_pay
          simp only [ld_stack2_0, ld_stack2_1, ld_stackc2_0, ld_stackc2_1, ld_tri, readAt_blk _ _ n _ _ hoff]
          rw [read_stackc2]
          refine congrArg₂ stackc2 ?_ ?_
          · rw [planec2_stack_0]; rfl
          · rw [planec2_stack_1]; rfl
      · iintro %r H
        rw [wp_ret]; imodintro
        iapply Hk
        iexact H
    · have htest : ¬Scalar.andi (Scalar.cmpi .sge (BitVec.ofNat 32 n) 0#32) (Scalar.cmpi .sgt live 0#32) = 1#1 := by
        generalize Scalar.cmpi .sge (BitVec.ofNat 32 n) 0#32 = a
        generalize Scalar.cmpi .sgt live 0#32 = b at hl ⊢
        revert a b; decide
      simp only [htest, ↓reduceIte, Prog.pure_eq_ret]
      iintro ⟨H, Hk⟩
      rw [wp_ret]; imodintro
      iapply Hk
      rw [fLoop, if_neg hl]; iexact H

end Label

end Cert.KernelIdeal.Own
-- ==== Proof.BwdLoop.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.FwdLoop
public import Idealize.ShloMosaic.Lib.VecWindow
public import Idealize.ShloMosaic.Lib.Pipeline.TableIdle
public import Idealize.ShloMosaic.Lib.Tactic
public import Idealize.ShloMosaic.Lib.Tactic.Stretches
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The backward sweep as a function -/

/-- Whether a further block can carry weight: either head's running log is above the bound. -/
def alive1 (c0 c1 : FVec F S256x1 .f32) : BitVec 32 :=
  Scalar.extui (Scalar.cmpf .ogt (k1_pay4 (shapeCast S1x256x1 c0 shapeCasts_S256x1_S1x256x1) (shapeCast S1x256x1 c1 shapeCasts_S256x1_S1x256x1))
    (Named.named κ "dead" 0xC2D40000#32 : F .f32))

theorem alive1_eq (x y : Vec F S1x256x1 .f32) (c0 c1 : FVec F S256x1 .f32) (hx : x = shapeCast S1x256x1 c0 shapeCasts_S256x1_S1x256x1)
    (hy : y = shapeCast S1x256x1 c1 shapeCasts_S256x1_S1x256x1) :
    Scalar.extui (Scalar.cmpf .ogt (k1_pay4 x y) (Named.named (F := F) κ "dead" 0xC2D40000#32 : F .f32)) = alive1 c0 c1 := by subst hx hy; rfl

/-- The backward state: both heads', and the gradients of the keys and of the values. -/
structure BSt (F : FTy → Type) where
  h0 : BHead F
  h1 : BHead F
  dk : Vec F S8192x128 .f32
  dv : Vec F S8192x128 .f32

/-- One trip for both heads: block `n`. -/
def bTrip (te ti : FVec F S256x256 .bf16) (i0 i1 : BIn F) (K V : Vec F S8192x128 .bf16) (n : ℕ) (s : BSt F) : BSt F :=
  ⟨s.h0.take (bPlain te ti i0.q i0.d i0.total (blk K n) (blk V n) s.h0.cl s.h0.cg),
   s.h1.take (bPlain te ti i1.q i1.d i1.total (blk K n) (blk V n) s.h1.cl s.h1.cg),
   addBlk s.dk n (addf (bPlain te ti i0.q i0.d i0.total (blk K n) (blk V n) s.h0.cl s.h0.cg).dk (bPlain te ti i1.q i1.d i1.total (blk K n) (blk V n) s.h1.cl s.h1.cg).dk),
   addBlk s.dv n (addf (bPlain te ti i0.q i0.d i0.total (blk K n) (blk V n) s.h0.cl s.h0.cg).dv (bPlain te ti i1.q i1.d i1.total (blk K n) (blk V n) s.h1.cl s.h1.cg).dv)⟩

/-- The sweep over blocks `n - 1, …, 0`, left as soon as the flag is off. -/
def bLoop (te ti : FVec F S256x256 .bf16) (i0 i1 : BIn F) (K V : Vec F S8192x128 .bf16) : ℕ → BitVec 32 → BSt F → BSt F
  | 0, _, s => s
  | n + 1, live, s =>
    if Scalar.cmpi .sgt live 0#32 = 1#1 then
      bLoop te ti i0 i1 K V n (alive1 (bTrip te ti i0 i1 K V n s).h0.cl (bTrip te ti i0 i1 K V n s).h1.cl) (bTrip te ti i0 i1 K V n s)
    else s

theorem k1_chk_of : ∀ n : Fin 32, k1_chk1 (BitVec.ofNat 32 n.val) := by
  unfold k1_chk1; decide +kernel
theorem k1_off_of : ∀ n : Fin 32, k1_off3 (BitVec.ofNat 32 n.val) = ![256 * n.val, 0] := by decide +kernel

/-! ## The sweep's label -/

section Label

variable (c : Dev nD) (i : grid1.Coords)
  (arg3 : Memref sig .tc .vmem S8192x128 .bf16) (harg3 : arg3.IsWhole)
  (arg4 : Memref sig .tc .vmem S8192x128 .bf16) (harg4 : arg4.IsWhole)
  (arg7 : Memref sig .tc .vmem S256x256 .bf16) (harg7 : arg7.IsWhole)
  (arg8 : Memref sig .tc .vmem S256x256 .bf16) (harg8 : arg8.IsWhole)
  (arg10 : Memref sig .tc .vmem S8192x128 .f32) (harg10 : arg10.IsWhole)
  (arg11 : Memref sig .tc .vmem S8192x128 .f32) (harg11 : arg11.IsWhole)
  (arg12 : Memref sig .tc .vmem S2x256x128 .f32) (harg12 : arg12.IsWhole)
  (arg13 : Memref sig .tc .vmem S4x256x1 .f32) (harg13 : arg13.IsWhole)
  (i0 i1 : BIn F)
  (x3 x4 : Vec F S8192x128 .bf16) (x7 x8 : Vec F S256x256 .bf16)

/-- The eight buffers the sweep reads and writes, the running ones at the state. -/
def bHeld (s : BSt F) : sProp 𝕄 :=
  iprop(owns (c : Thread nD τ) arg3 fullShare x3 ∗ owns (c : Thread nD τ) arg4 fullShare x4 ∗ owns (c : Thread nD τ) arg7 fullShare x7 ∗ owns (c : Thread nD τ) arg8 fullShare x8
    ∗ owns (c : Thread nD τ) arg10 fullShare s.dk ∗ owns (c : Thread nD τ) arg11 fullShare s.dv
    ∗ owns (c : Thread nD τ) arg12 fullShare (stack2 s.h0.dq s.h1.dq) ∗ owns (c : Thread nD τ) arg13 fullShare (stackc4 s.h0.cl s.h0.cg s.h1.cl s.h1.cg))

/-- The label's specification: from a state to the swept one, some two words returned. -/
def bSpec (n : ℕ) (live : BitVec 32) (s : BSt F) : sWPT 𝕄 (BitVec 32 × BitVec 32) := do
  sWPT.consume (bHeld c arg3 arg4 arg7 arg8 arg10 arg11 arg12 arg13 x3 x4 x7 x8 s)
  let r ← sWPT.arbitrary
  sWPT.produce (bHeld c arg3 arg4 arg7 arg8 arg10 arg11 arg12 arg13 x3 x4 x7 x8 (bLoop x7 x8 i0 i1 x3 x4 n live s))
  pure r

theorem bSpec_apply (n : ℕ) (live : BitVec 32) (s : BSt F) (K : BitVec 32 × BitVec 32 → sProp 𝕄) :
    bSpec c arg3 arg4 arg7 arg8 arg10 arg11 arg12 arg13 i0 i1 x3 x4 x7 x8 n live s K
      = iprop(bHeld c arg3 arg4 arg7 arg8 arg10 arg11 arg12 arg13 x3 x4 x7 x8 s
        ∗ ∀ r : BitVec 32 × BitVec 32, (bHeld c arg3 arg4 arg7 arg8 arg10 arg11 arg12 arg13 x3 x4 x7 x8 (bLoop x7 x8 i0 i1 x3 x4 n live s) -∗ K r)) := rfl

set_option maxHeartbeats 400000 in
theorem bSpec_le (E : Set ℕ) : ∀ n w live, Ctr n w → ∀ (s : BSt F) K,
    bSpec c arg3 arg4 arg7 arg8 arg10 arg11 arg12 arg13 i0 i1 x3 x4 x7 x8 n live s K
      ⊢ wp frame (wpE (defs₀ (F := F)) Variants.nat (c : Thread nD τ) (some n)) E
          (defs₀ (F := F) .tc 3 ⟨i, arg7, harg7, arg8, harg8, arg3, harg3, arg4, harg4, arg13, harg13, i0.q, i0.d, i1.q, i1.d, i0.total, i1.total, arg12, harg12, arg10, harg10, arg11, harg11, w, live⟩) K := by
  intro n
  induction n with
  | zero =>
    intro w live hw s K
    rw [bSpec_apply]
    show _ ⊢ wp frame (wpE (defs₀ (F := F)) Variants.nat (c : Thread nD τ) (some 0)) E
      (cc1_while1 i arg7 harg7 arg8 harg8 arg3 harg3 arg4 harg4 arg13 harg13 i0.q i0.d i1.q i1.d i0.total i1.total arg12 harg12 arg10 harg10 arg11 harg11 w live) K
    simp only [cc1_while1_eq_skeleton]; unfold cc1_while1_skel
    have htest : ¬Scalar.andi (Scalar.cmpi .sge w 0#32) (Scalar.cmpi .sgt live 0#32) = 1#1 := by
      have h0 : Scalar.cmpi .sge w 0#32 = 0#1 := by
        have : ∀ b : BitVec 1, ¬b = 1#1 → b = 0#1 := by decide
        exact this _ hw
      rw [h0]; generalize Scalar.cmpi .sgt live 0#32 = b; revert b; decide
    simp only [htest, ↓reduceIte, Prog.pure_eq_ret]
    iintro ⟨H, Hk⟩
    rw [wp_ret]; imodintro
    iapply Hk
    simp only [bLoop]; iexact H
  | succ n ih =>
    intro w live hw s K
    rw [bSpec_apply]
    show _ ⊢ wp frame (wpE (defs₀ (F := F)) Variants.nat (c : Thread nD τ) (some (n + 1))) E
      (cc1_while1 i arg7 harg7 arg8 harg8 arg3 harg3 arg4 harg4 arg13 harg13 i0.q i0.d i1.q i1.d i0.total i1.total arg12 harg12 arg10 harg10 arg11 harg11 w live) K
    simp only [cc1_while1_eq_skeleton]; unfold cc1_while1_skel
    have hp := ctr_pred n w hw
    obtain ⟨hn, rfl⟩ := hw
    by_cases hl : Scalar.cmpi .sgt live 0#32 = 1#1
    · have hchk : k1_chk1 (BitVec.ofNat 32 n) := k1_chk_of ⟨n, hn⟩
      have hoff : k1_off3 (BitVec.ofNat 32 n) = ![256 * n, 0] := k1_off_of ⟨n, hn⟩
      have htest : Scalar.andi (Scalar.cmpi .sge (BitVec.ofNat 32 n) 0#32) (Scalar.cmpi .sgt live 0#32) = 1#1 := by
        rw [hl, ctr_test ⟨n, hn⟩]; decide
      simp only [htest, ↓reduceIte]
      rw [bLoop, if_pos hl]
      unfold bHeld
      simp only [owns_eq_rep]
      iintro ⟨⟨H3, H4, H7, H8, H10, H11, H12, H13⟩, Hk⟩
      sl_exec
      rw [alive1_eq (F := F) _ _ (bTrip x7 x8 i0 i1 x3 x4 n s).h0.cl (bTrip x7 x8 i0 i1 x3 x4 n s).h1.cl ?e0 ?e1]
      case e0 =>
        sl_open_run
        sl_open_pay
        simp only [ld_stack2_0, ld_stack2_1, ld_stackc4_0, ld_stackc4_1, ld_stackc4_2, ld_stackc4_3, ld_tri, readAt_blk _ _ n _ _ hoff]
        rw [cov_stackc4_0]
        refine congrArg (fun z => shapeCast S1x256x1 z shapeCasts_S256x1_S1x256x1) ?_
        rw [planec4_stack_0]; rfl
      case e1 =>
        sl_open_run
        sl_open_pay
        simp only [ld_stack2_0, ld_stack2_1, ld_stackc4_0, ld_stackc4_1, ld_stackc4_2, ld_stackc4_3, ld_tri, readAt_blk _ _ n _ _ hoff]
        rw [cov_stackc4_2]
        refine congrArg (fun z => shapeCast S1x256x1 z shapeCasts_S256x1_S1x256x1) ?_
        rw [planec4_stack_2]; rfl
      iapply (wp_call_spec Variants.nat (c : Thread nD τ) (some (n + 1)) E
        (bSpec c arg3 arg4 arg7 arg8 arg10 arg11 arg12 arg13 i0 i1 x3 x4 x7 x8 n (alive1 (bTrip x7 x8 i0 i1 x3 x4 n s).h0.cl (bTrip x7 x8 i0 i1 x3 x4 n s).h1.cl) (bTrip x7 x8 i0 i1 x3 x4 n s)) n
        (fun u hu => by cases hu; exact Nat.lt_succ_self n) (ih _ _ hp _))
      rw [bSpec_apply]; unfold bHeld
      simp only [owns_eq_rep]
      isplitl [H3 H4 H7 H8 H10 H11 H12 H13]
      · isplitl [H3]; · iexact H3
        isplitl [H4]; · iexact H4
        isplitl [H7]; · iexact H7
        isplitl [H8]; · iexact H8
        isplitl [H10]
        · rw [← owns_eq_rep]; unfold owns
          iexists _; isplitr; swap; · iexact H10
          ipureintro
          sl_open_run
          sl_open_pay
          simp only [ld_stack2_0, ld_stack2_1, ld_stackc4_0, ld_stackc4_1, ld_stackc4_2, ld_stackc4_3, ld_tri, readAt_blk _ _ n _ _ hoff]
          rw [read_addBlk _ _ n _ _ _ hoff]
          refine congrArg (addBlk s.dk n) (congrArg₂ addf ?_ ?_)
          · rw [planec4_stack_0, planec4_stack_1]; rfl
          · rw [planec4_stack_2, planec4_stack_3]; rfl
        isplitl [H11]
        · rw [← owns_eq_rep]; unfold owns
          iexists _; isplitr; swap; · iexact H11
          ipureintro
          sl_open_run
          sl_open_pay
          simp only [ld_stack2_0, ld_stack2_1, ld_stackc4_0, ld_stackc4_1, ld_stackc4_2, ld_stackc4_3, ld_tri, readAt_blk _ _ n _ _ hoff]
          rw [read_addBlk _ _ n _ _ _ hoff]
          refine congrArg (addBlk s.dv n) (congrArg₂ addf ?_ ?_)
          · rw [planec4_stack_0]; rfl
          · rw [planec4_stack_2]; rfl
        isplitl [H12]
        · rw [← owns_eq_rep]; unfold owns
          iexists _; isplitr; swap; · iexact H12
          ipureintro
          sl_open_run
          sl_open_pay
          simp only [ld_stack2_0, ld_stack2_1, ld_stackc4_0, ld_stackc4_1, ld_stackc4_2, ld_stackc4_3, ld_tri, readAt_blk _ _ n _ _ hoff]
          rw [read_stack2]
          refine congrArg₂ stack2 ?_ ?_
          · rw [plane2_stack_0, planec4_stack_0, planec4_stack_1]; rfl
          · rw [plane2_stack_1, planec4_stack_2, planec4_stack_3]; rfl
        · rw [← owns_eq_rep]; unfold owns
          iexists _; isplitr; swap; · iexact H13
          ipureintro
          sl_open_run
          sl_open_pay
          simp only [ld_stack2_0, ld_stack2_1, ld_stackc4_0, ld_stackc4_1, ld_stackc4_2, ld_stackc4_3, ld_tri, readAt_blk _ _ n _ _ hoff]
          rw [read_stackc4]
          show stackc4 _ _ _ _ = stackc4 _ _ _ _
          congr 1
          · rw [planec4_stack_0]; rfl
          · rw [planec4_stack_0, planec4_stack_1]; rfl
          · rw [planec4_stack_2]; rfl
          · rw [planec4_stack_2, planec4_stack_3]; rfl
      · iintro %r H
        rw [wp_ret]; imodintro
        iapply Hk
        iexact H
    · have htest : ¬Scalar.andi (Scalar.cmpi .sge (BitVec.ofNat 32 n) 0#32) (Scalar.cmpi .sgt live 0#32) = 1#1 := by
        generalize Scalar.cmpi .sge (BitVec.ofNat 32 n) 0#32 = a
        generalize Scalar.cmpi .sgt live 0#32 = b at hl ⊢
        revert a b; decide
      simp only [htest, ↓reduceIte, Prog.pure_eq_ret]
      iintro ⟨H, Hk⟩
      rw [wp_ret]; imodintro
      iapply Hk
      rw [bLoop, if_neg hl]; iexact H

/-- The same, called with the heads' inputs as values equal to theirs. -/
theorem bSpec_le_of (E : Set ℕ) (n w live) (hw : Ctr n w) (s : BSt F) (K) (q0 q1 d0 d1 : FVec F S256x128 .bf16) (t0 t1 : FVec F S256x1 .f32)
    (hq0 : q0 = i0.q) (hd0 : d0 = i0.d) (hq1 : q1 = i1.q) (hd1 : d1 = i1.d) (ht0 : t0 = i0.total) (ht1 : t1 = i1.total) :
    bSpec c arg3 arg4 arg7 arg8 arg10 arg11 arg12 arg13 i0 i1 x3 x4 x7 x8 n live s K
      ⊢ wp frame (wpE (defs₀ (F := F)) Variants.nat (c : Thread nD τ) (some n)) E
          (defs₀ (F := F) .tc 3 ⟨i, arg7, harg7, arg8, harg8, arg3, harg3, arg4, harg4, arg13, harg13, q0, d0, q1, d1, t0, t1, arg12, harg12, arg10, harg10, arg11, harg11, w, live⟩) K := by
  rw [hq0, hd0, hq1, hd1, ht0, ht1]
  exact bSpec_le c i arg3 harg3 arg4 harg4 arg7 harg7 arg8 harg8 arg10 harg10 arg11 harg11 arg12 harg12 arg13 harg13 i0 i1 x3 x4 x7 x8 E n w live hw s K

end Label

end Cert.KernelIdeal.Own
-- ==== Proof.FwdBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.FwdLoop
public import Idealize.ShloMosaic.Lib.VecWindow
public import Idealize.ShloMosaic.Lib.Pipeline.TableIdle
public import Idealize.ShloMosaic.Lib.Tactic
public import Idealize.ShloMosaic.Lib.Tactic.Stretches
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A tile of queries -/

/-- Both heads' states after the diagonal block, and the one before it if there is one. -/
def fStart (tri : FVec F S256x256 .bf16) (q0 q1 : FVec F S256x128 .bf16) (K V : Vec F S8192x128 .bf16) (j : ℕ) : FHead F × FHead F :=
  if j = 0 then (fDiag tri q0 (blk K 0) (blk V 0) fInit, fDiag tri q1 (blk K 0) (blk V 0) fInit)
  else (fTwo tri q0 (blk K j) (blk V j) (blk K (j - 1)) (blk V (j - 1)) fInit, fTwo tri q1 (blk K j) (blk V j) (blk K (j - 1)) (blk V (j - 1)) fInit)

/-- Both heads' states after tile `j`'s blocks. -/
def fTile (tri : FVec F S256x256 .bf16) (q : FVec F S256x128 .bf16) (K V : Vec F S8192x128 .bf16) (j : ℕ) : FHead F × FHead F :=
  fLoop tri (k0_pay56 q) (k0_pay57 q) K V (j - 1)
    (alive0 (fStart tri (k0_pay56 q) (k0_pay57 q) K V j).1.c (fStart tri (k0_pay56 q) (k0_pay57 q) K V j).2.c) (fStart tri (k0_pay56 q) (k0_pay57 q) K V j)

/-- The two heads' halves of the output, side by side. -/
def oOf (s : FHead F × FHead F) : FVec F S256x128 .f32 :=
  select (broadcastTo S256x128 (shapeCast S1x128 k0_pay54 shapeCasts_S1x128_S1x128) broadcasts_S1x128_S256x128) s.1.a s.2.a

theorem cond1_of : ∀ j : Fin 32, Scalar.cmpi .ne (Scalar.extui (Scalar.cmpi .eq (BitVec.ofNat 32 j.val) 0#32) : BitVec 32) 0#32 = if j.val = 0 then 1#1 else 0#1 := by decide +kernel
theorem cond2_of : ∀ j : Fin 32, Scalar.cmpi .ne (Scalar.extui (Scalar.cmpi .sgt (BitVec.ofNat 32 j.val) 0#32) : BitVec 32) 0#32 = if j.val = 0 then 0#1 else 1#1 := by decide +kernel

theorem k0_cond1_of (i : grid0.Coords) : k0_cond1 i = if (i 1).val = 0 then 1#1 else 0#1 := cond1_of (i 1)
theorem k0_cond2_of (i : grid0.Coords) : k0_cond2 i = if (i 1).val = 0 then 0#1 else 1#1 := cond2_of (i 1)

theorem alive_eq1 (x : Vec F S2x256x1 .f32) (c0 c1 : FVec F S256x1 .f32) (h : x = stackc2 c0 c1) :
    Scalar.extui (Scalar.cmpf .ogt (k0_pay1 x) (Named.named (F := F) κ "dead" 0xC2D40000#32 : F .f32)) = alive0 c0 c1 := by subst h; rfl

theorem ctr_start : ∀ j : Fin 32, Ctr (j.val - 1) (Scalar.subi (BitVec.ofNat 32 j.val) 2#32) := by
  intro j
  have h : ∀ j : Fin 32, (j.val ≤ 1 → ¬Scalar.cmpi .sge (Scalar.subi (BitVec.ofNat 32 j.val) 2#32) 0#32 = 1#1)
      ∧ (1 < j.val → Scalar.subi (BitVec.ofNat 32 j.val) 2#32 = BitVec.ofNat 32 (j.val - 2)) := by decide +kernel
  by_cases hj : j.val ≤ 1
  · rw [show j.val - 1 = 0 by omega]; exact (h j).1 hj
  · obtain ⟨n, hn⟩ : ∃ n, j.val - 1 = n + 1 := ⟨j.val - 2, by omega⟩
    rw [hn, (h j).2 (by omega), show j.val - 2 = n by omega]
    exact ⟨by have := j.isLt; omega, rfl⟩

theorem off1_of : ∀ j : Fin 32, (![(Scalar.indexCast (Scalar.muli (BitVec.ofNat 32 j.val) 256#32)).toNat, 0] : Fin 2 → ℕ) = ![256 * j.val, 0] := by decide +kernel
theorem off2_of : ∀ j : Fin 32, j.val ≠ 0 → (![(Scalar.indexCast (Scalar.muli (Scalar.subi (BitVec.ofNat 32 j.val) 1#32) 256#32)).toNat, 0] : Fin 2 → ℕ) = ![256 * (j.val - 1), 0] := by decide +kernel
theorem k0_off1_of (i : grid0.Coords) : k0_off1 i = ![256 * (i 1).val, 0] := off1_of (i 1)
theorem k0_off2_of (i : grid0.Coords) (h : (i 1).val ≠ 0) : k0_off2 i = ![256 * ((i 1).val - 1), 0] := off2_of (i 1) h

set_option maxHeartbeats 400000 in
theorem sound_fwd (c : Dev nD) (E : Set ℕ) (i : grid0.Coords)
    (arg2 : Memref sig .tc .vmem S256x128 .bf16) (harg2 : arg2.IsWhole) (arg3 : Memref sig .tc .vmem S8192x128 .bf16) (harg3 : arg3.IsWhole)
    (arg4 : Memref sig .tc .vmem S8192x128 .bf16) (harg4 : arg4.IsWhole) (arg5 : Memref sig .tc .vmem S256x256 .bf16) (harg5 : arg5.IsWhole)
    (arg6 : Memref sig .tc .vmem S256x128 .f32) (harg6 : arg6.IsWhole) (arg7 : Memref sig .tc .vmem S256x128 .bf16) (harg7 : arg7.IsWhole)
    (arg8 : Memref sig .tc .vmem S2x256x128 .f32) (harg8 : arg8.IsWhole) (arg9 : Memref sig .tc .vmem S2x256x1 .f32) (harg9 : arg9.IsWhole)
    (x2 : Vec F S256x128 .bf16) (x3 x4 : Vec F S8192x128 .bf16) (x5 : Vec F S256x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
          ∗ owns (c : Thread nD τ) arg6 fullShare (oOf (fTile x5 x2 x3 x4 (i 1).val)) ∗ owns (c : Thread nD τ) arg7 fullShare (truncf .bf16 (oOf (fTile x5 x2 x3 x4 (i 1).val)) bitsLt_bf16_f32)
          ∗ (∃ d, owns (c : Thread nD τ) arg8 fullShare d) ∗ (∃ d, owns (c : Thread nD τ) arg9 fullShare d)) -∗ K ⟨⟩))
      ⊢ wp frame (wpE (defs₀ (F := F)) Variants.nat c none) E (cc0_attn_fwd i arg2 harg2 arg3 harg3 arg4 harg4 arg5 harg5 arg6 harg6 arg7 harg7 arg8 harg8 arg9 harg9) K := by
  simp only [cc0_attn_fwd_eq_skeleton]; unfold cc0_attn_fwd_skel
  by_cases hj : (i 1).val = 0
  · have hc1 : k0_cond1 i = 1#1 := by rw [k0_cond1_of, if_pos hj]
    have hc2 : ¬k0_cond2 i = 1#1 := by rw [k0_cond2_of, if_pos hj]; decide
    simp only [owns_eq_rep]
    iintro ⟨H2, H3, H4, H5, ⟨%d6, H6⟩, ⟨%d7, H7⟩, ⟨%d8, H8⟩, ⟨%d9, H9⟩, Hk⟩
    sl_exec
    rw [alive_eq1 (F := F) _ (fStart x5 (k0_pay56 x2) (k0_pay57 x2) x3 x4 (i 1).val).1.c (fStart x5 (k0_pay56 x2) (k0_pay57 x2) x3 x4 (i 1).val).2.c ?ecov]
    case ecov =>
      sl_open_run
      sl_open_pay
      simp only [ld_rows, ld_tri, readAt_blk _ _ 0 _ _ (rfl : (![0, 0] : Fin 2 → ℕ) = ![256 * 0, 0])]
      rw [cov_stackc2]
      refine congrArg₂ stackc2 ?_ ?_
      · rw [cov_planec2_0]; unfold fStart; rw [if_pos hj]; rfl
      · rw [cov_planec2_1]; unfold fStart; rw [if_pos hj]; rfl
    iapply (wp_call_spec Variants.nat (c : Thread nD τ) none E
      (fSpec c arg3 arg4 arg5 arg8 arg9 _ _ x3 x4 x5 ((i 1).val - 1) (alive0 (fStart x5 (k0_pay56 x2) (k0_pay57 x2) x3 x4 (i 1).val).1.c (fStart x5 (k0_pay56 x2) (k0_pay57 x2) x3 x4 (i 1).val).2.c) (fStart x5 (k0_pay56 x2) (k0_pay57 x2) x3 x4 (i 1).val)) ((i 1).val - 1)
      (fun u hu => nomatch hu) (fSpec_le c i arg3 harg3 arg4 harg4 arg5 harg5 arg8 harg8 arg9 harg9 _ _ x3 x4 x5 E _ _ _ (ctr_start (i 1)) _))
    rw [fSpec_apply]; unfold fHeld
    simp only [owns_eq_rep]
    isplitl [H3 H4 H5 H8 H9]
    · isplitl [H3]; · iexact H3
      isplitl [H4]; · iexact H4
      isplitl [H5]; · iexact H5
      isplitl [H8]
      · rw [← owns_eq_rep]; unfold owns
        iexists _; isplitr; swap; · iexact H8
        ipureintro
        sl_open_run
        sl_open_pay
        simp only [ld_rows, ld_tri, readAt_blk _ _ 0 _ _ (rfl : (![0, 0] : Fin 2 → ℕ) = ![256 * 0, 0])]
        rw [read_stack2]
        refine congrArg₂ stack2 ?_ ?_
        · rw [cov_plane2_0, cov_planec2_0]; unfold fStart; rw [if_pos hj]; rfl
        · rw [cov_plane2_10, cov_planec2_1]; unfold fStart; rw [if_pos hj]; rfl
      · rw [← owns_eq_rep]; unfold owns
        iexists _; isplitr; swap; · iexact H9
        ipureintro
        sl_open_run
        sl_open_pay
        simp only [ld_rows, ld_tri, readAt_blk _ _ 0 _ _ (rfl : (![0, 0] : Fin 2 → ℕ) = ![256 * 0, 0])]
        rw [read_stackc2]
        refine congrArg₂ stackc2 ?_ ?_
        · rw [cov_planec2_0]; unfold fStart; rw [if_pos hj]; rfl
        · rw [cov_planec2_1]; unfold fStart; rw [if_pos hj]; rfl
    · iintro %r ⟨H3, H4, H5, H8, H9⟩
      sl_exec
      rw [wp_ret]; imodintro
      iapply Hk
      isplitl [H2]; · iexact H2
      isplitl [H3]; · iexact H3
      isplitl [H4]; · iexact H4
      isplitl [H5]; · iexact H5
      isplitl [H6]
      · rw [← owns_eq_rep]; unfold owns
        iexists _; isplitr; swap; · iexact H6
        ipureintro
        rw [View.read_writes_full]
        sl_open_run
        simp only [ld_rows, ld_stack2_0, ld_stack2_1, k0_pay2]
        rw [plane2_stack_0, plane2_stack_1]
        rfl
      isplitl [H7]
      · rw [← owns_eq_rep]; unfold owns
        iexists _; isplitr; swap; · iexact H7
        ipureintro
        rw [View.read_writes_full]
        sl_open_run
        simp only [ld_rows, ld_stack2_0, ld_stack2_1, k0_pay2, k0_pay3]
        rw [plane2_stack_0, plane2_stack_1]
        rfl
      isplitl [H8]
      · iexists _; iexact H8
      · iexists _; iexact H9
  · have hc1 : ¬k0_cond1 i = 1#1 := by rw [k0_cond1_of, if_neg hj]; decide
    have hc2 : k0_cond2 i = 1#1 := by rw [k0_cond2_of, if_neg hj]
    simp only [owns_eq_rep]
    iintro ⟨H2, H3, H4, H5, ⟨%d6, H6⟩, ⟨%d7, H7⟩, ⟨%d8, H8⟩, ⟨%d9, H9⟩, Hk⟩
    sl_exec
    rw [alive_eq1 (F := F) _ (fStart x5 (k0_pay56 x2) (k0_pay57 x2) x3 x4 (i 1).val).1.c (fStart x5 (k0_pay56 x2) (k0_pay57 x2) x3 x4 (i 1).val).2.c ?ecov]
    case ecov =>
      sl_open_run
      sl_open_pay
      simp only [ld_rows, ld_tri, readAt_blk _ _ (i 1).val _ _ (k0_off1_of i), readAt_blk _ _ ((i 1).val - 1) _ _ (k0_off2_of i hj)]
      rw [cov_stackc2]
      refine congrArg₂ stackc2 ?_ ?_
      · rw [cov_planec2_0]; unfold fStart; rw [if_neg hj]; rfl
      · rw [cov_planec2_1]; unfold fStart; rw [if_neg hj]; rfl
    iapply (wp_call_spec Variants.nat (c : Thread nD τ) none E
      (fSpec c arg3 arg4 arg5 arg8 arg9 _ _ x3 x4 x5 ((i 1).val - 1) (alive0 (fStart x5 (k0_pay56 x2) (k0_pay57 x2) x3 x4 (i 1).val).1.c (fStart x5 (k0_pay56 x2) (k0_pay57 x2) x3 x4 (i 1).val).2.c) (fStart x5 (k0_pay56 x2) (k0_pay57 x2) x3 x4 (i 1).val)) ((i 1).val - 1)
      (fun u hu => nomatch hu) (fSpec_le c i arg3 harg3 arg4 harg4 arg5 harg5 arg8 harg8 arg9 harg9 _ _ x3 x4 x5 E _ _ _ (ctr_start (i 1)) _))
    rw [fSpec_apply]; unfold fHeld
    simp only [owns_eq_rep]
    isplitl [H3 H4 H5 H8 H9]
    · isplitl [H3]; · iexact H3
      isplitl [H4]; · iexact H4
      isplitl [H5]; · iexact H5
      isplitl [H8]
      · rw [← owns_eq_rep]; unfold owns
        iexists _; isplitr; swap; · iexact H8
        ipureintro
        sl_open_run
        sl_open_pay
        simp only [ld_rows, ld_tri, readAt_blk _ _ (i 1).val _ _ (k0_off1_of i), readAt_blk _ _ ((i 1).val - 1) _ _ (k0_off2_of i hj)]
        rw [read_stack2]
        refine congrArg₂ stack2 ?_ ?_
        · rw [cov_plane2_0, cov_planec2_0]; unfold fStart; rw [if_neg hj]; rfl
        · rw [cov_plane2_10, cov_planec2_1]; unfold fStart; rw [if_neg hj]; rfl
      · rw [← owns_eq_rep]; unfold owns
        iexists _; isplitr; swap; · iexact H9
        ipureintro
        sl_open_run
        sl_open_pay
        simp only [ld_rows, ld_tri, readAt_blk _ _ (i 1).val _ _ (k0_off1_of i), readAt_blk _ _ ((i 1).val - 1) _ _ (k0_off2_of i hj)]
        rw [read_stackc2]
        refine congrArg₂ stackc2 ?_ ?_
        · rw [cov_planec2_0]; unfold fStart; rw [if_neg hj]; rfl
        · rw [cov_planec2_1]; unfold fStart; rw [if_neg hj]; rfl
    · iintro %r ⟨H3, H4, H5, H8, H9⟩
      sl_exec
      rw [wp_ret]; imodintro
      iapply Hk
      isplitl [H2]; · iexact H2
      isplitl [H3]; · iexact H3
      isplitl [H4]; · iexact H4
      isplitl [H5]; · iexact H5
      isplitl [H6]
      · rw [← owns_eq_rep]; unfold owns
        iexists _; isplitr; swap; · iexact H6
        ipureintro
        rw [View.read_writes_full]
        sl_open_run
        simp only [ld_rows, ld_stack2_0, ld_stack2_1, k0_pay2]
        rw [plane2_stack_0, plane2_stack_1]
        rfl
      isplitl [H7]
      · rw [← owns_eq_rep]; unfold owns
        iexists _; isplitr; swap; · iexact H7
        ipureintro
        rw [View.read_writes_full]
        sl_open_run
        simp only [ld_rows, ld_stack2_0, ld_stack2_1, k0_pay2, k0_pay3]
        rw [plane2_stack_0, plane2_stack_1]
        rfl
      isplitl [H8]
      · iexists _; iexact H8
      · iexists _; iexact H9

end Cert.KernelIdeal.Own
-- ==== Proof.BwdBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.BwdLoop
public import proofs.«01_k».proof.Proof.FwdBody
public import Idealize.ShloMosaic.Lib.VecWindow
public import Idealize.ShloMosaic.Lib.Pipeline.TableIdle
public import Idealize.ShloMosaic.Lib.Tactic
public import Idealize.ShloMosaic.Lib.Tactic.Stretches
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A tile of queries, backward -/

/-- The two heads' inputs: the queries, the output's gradient and its row sums against the output, each head's lanes kept. -/
def bIn0 (q : FVec F S256x128 .bf16) (d o : FVec F S256x128 .f32) : BIn F := ⟨k1_pay128 q, k1_pay130 d, k1_pay132 d o⟩
@[inherit_doc bIn0]
def bIn1 (q : FVec F S256x128 .bf16) (d o : FVec F S256x128 .f32) : BIn F :=
  ⟨k1_pay129 q, k1_pay131 d, k1_pay134 (k1_pay127 d o) (Scalar.ofBits .f32 0x00000000#32) k1_pay133⟩

/-- A head's state before its first block. -/
def bInit : BHead F := ⟨fInit.c, fInit.c, fInit.a⟩

/-- An array of zeros of 8192 rows. -/
def zeroB : Vec F S8192x128 .f32 := broadcast S8192x128 (Scalar.ofBits .f32 0x00000000#32)

/-- A head's tile on the diagonal, from the initial state. -/
def bOn (te ti : FVec F S256x256 .bf16) (i : BIn F) (K V : Vec F S8192x128 .bf16) (j : ℕ) : BTile F :=
  bMask te ti i.q i.d i.total (blk K j) (blk V j) bInit.cl bInit.cg
/-- The tile before it. -/
def bNext (te ti : FVec F S256x256 .bf16) (i : BIn F) (K V : Vec F S8192x128 .bf16) (j : ℕ) : BTile F :=
  bPlain te ti i.q i.d i.total (blk K (j - 1)) (blk V (j - 1)) (bOn te ti i K V j).cl (bOn te ti i K V j).cg

/-- A head's state after both. -/
def bTwo (te ti : FVec F S256x256 .bf16) (i : BIn F) (K V : Vec F S8192x128 .bf16) (j : ℕ) : BHead F :=
  ⟨(bNext te ti i K V j).cl, (bNext te ti i K V j).cg, addf bInit.dq (addf (bOn te ti i K V j).dq (bNext te ti i K V j).dq)⟩

/-- The state after the diagonal block, and the one before it if there is one. -/
def bStart (te ti : FVec F S256x256 .bf16) (i0 i1 : BIn F) (K V : Vec F S8192x128 .bf16) (j : ℕ) (dk dv : Vec F S8192x128 .f32) : BSt F :=
  if j = 0 then
    ⟨bInit.take (bOn te ti i0 K V 0), bInit.take (bOn te ti i1 K V 0),
     addBlk zeroB 0 (addf (bOn te ti i0 K V 0).dk (bOn te ti i1 K V 0).dk),
     addBlk zeroB 0 (addf (bOn te ti i0 K V 0).dv (bOn te ti i1 K V 0).dv)⟩
  else
    ⟨bTwo te ti i0 K V j, bTwo te ti i1 K V j,
     addBlk (addBlk dk j (addf (bOn te ti i0 K V j).dk (bOn te ti i1 K V j).dk)) (j - 1) (addf (bNext te ti i0 K V j).dk (bNext te ti i1 K V j).dk),
     addBlk (addBlk dv j (addf (bOn te ti i0 K V j).dv (bOn te ti i1 K V j).dv)) (j - 1) (addf (bNext te ti i0 K V j).dv (bNext te ti i1 K V j).dv)⟩

/-- The state after tile `j`'s blocks. -/
def bTile (te ti : FVec F S256x256 .bf16) (i0 i1 : BIn F) (K V : Vec F S8192x128 .bf16) (j : ℕ) (dk dv : Vec F S8192x128 .f32) : BSt F :=
  bLoop te ti i0 i1 K V (j - 1) (alive1 (bStart te ti i0 i1 K V j dk dv).h0.cl (bStart te ti i0 i1 K V j dk dv).h1.cl) (bStart te ti i0 i1 K V j dk dv)

/-- The queries' gradient: the two heads' halves side by side, scaled. -/
def dqOf (s : BSt F) : FVec F S256x128 .f32 :=
  mulf (select (broadcastTo S256x128 (shapeCast S1x128 k1_pay123 shapeCasts_S1x128_S1x128) broadcasts_S1x128_S256x128) s.h0.dq s.h1.dq)
    (broadcast S256x128 (Scalar.ofBits .f32 0x3E000000#32))

theorem alive1_eq1 (u w : F .f32) (c0 c1 : FVec F S256x1 .f32) (hu : u = k1_pay143 (shapeCast S1x256x1 c0 shapeCasts_S256x1_S1x256x1))
    (hw : w = k1_pay144 (shapeCast S1x256x1 c1 shapeCasts_S256x1_S1x256x1)) :
    Scalar.extui (Scalar.cmpf .ogt (k1_pay1 u w) (Named.named (F := F) κ "dead" 0xC2D40000#32 : F .f32)) = alive1 c0 c1 := by subst hu hw; rfl

theorem k1_cond2_of (i : grid1.Coords) : k1_cond2 i = if (i 1).val = 0 then 1#1 else 0#1 := cond1_of (i 1)
theorem k1_cond3_of (i : grid1.Coords) : k1_cond3 i = if (i 1).val = 0 then 0#1 else 1#1 := cond2_of (i 1)
theorem k1_off1_of (i : grid1.Coords) : k1_off1 i = ![256 * (i 1).val, 0] := off1_of (i 1)
theorem k1_off2_of (i : grid1.Coords) (h : (i 1).val ≠ 0) : k1_off2 i = ![256 * ((i 1).val - 1), 0] := off2_of (i 1) h

set_option maxHeartbeats 400000 in
theorem sound_bwd (c : Dev nD) (E : Set ℕ) (i : grid1.Coords)
    (arg2 : Memref sig .tc .vmem S256x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S256x128 .f32) (harg5 : arg5.IsWhole)
    (arg6 : Memref sig .tc .vmem S256x128 .f32) (harg6 : arg6.IsWhole)
    (arg7 : Memref sig .tc .vmem S256x256 .bf16) (harg7 : arg7.IsWhole)
    (arg8 : Memref sig .tc .vmem S256x256 .bf16) (harg8 : arg8.IsWhole)
    (arg9 : Memref sig .tc .vmem S256x128 .f32) (harg9 : arg9.IsWhole)
    (arg10 : Memref sig .tc .vmem S8192x128 .f32) (harg10 : arg10.IsWhole)
    (arg11 : Memref sig .tc .vmem S8192x128 .f32) (harg11 : arg11.IsWhole)
    (arg12 : Memref sig .tc .vmem S2x256x128 .f32) (harg12 : arg12.IsWhole)
    (arg13 : Memref sig .tc .vmem S4x256x1 .f32) (harg13 : arg13.IsWhole)
    (x2 : Vec F S256x128 .bf16) (x3 x4 : Vec F S8192x128 .bf16) (x5 x6 : Vec F S256x128 .f32) (x7 x8 : Vec F S256x256 .bf16) (x10 x11 : Vec F S8192x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (dqOf (bTile x7 x8 (bIn0 x2 x6 x5) (bIn1 x2 x6 x5) x3 x4 (i 1).val x10 x11)) ∗ owns (c : Thread nD τ) arg10 fullShare (bTile x7 x8 (bIn0 x2 x6 x5) (bIn1 x2 x6 x5) x3 x4 (i 1).val x10 x11).dk ∗ owns (c : Thread nD τ) arg11 fullShare (bTile x7 x8 (bIn0 x2 x6 x5) (bIn1 x2 x6 x5) x3 x4 (i 1).val x10 x11).dv
          ∗ (∃ d, owns (c : Thread nD τ) arg12 fullShare d) ∗ (∃ d, owns (c : Thread nD τ) arg13 fullShare d)) -∗ K ⟨⟩))
      ⊢ wp frame (wpE (defs₀ (F := F)) Variants.nat c none) E (cc1_attn_bwd i arg2 harg2 arg3 harg3 arg4 harg4 arg5 harg5 arg6 harg6 arg7 harg7 arg8 harg8 arg9 harg9 arg10 harg10 arg11 harg11 arg12 harg12 arg13 harg13) K := by
  simp only [cc1_attn_bwd_eq_skeleton]; unfold cc1_attn_bwd_skel
  by_cases hj : (i 1).val = 0
  · have hc1 : Scalar.cmpi .ne (Scalar.extui (Scalar.cmpi .eq (BitVec.ofNat 32 (i 1).val) 0#32) : BitVec 32) 0#32 = 1#1 := by rw [cond1_of (i 1), if_pos hj]
    have hc2 : k1_cond2 i = 1#1 := by rw [k1_cond2_of, if_pos hj]
    have hc3 : ¬k1_cond3 i = 1#1 := by rw [k1_cond3_of, if_pos hj]; decide
    simp only [owns_eq_rep]
    iintro ⟨H2, H3, H4, H5, H6, H7, H8, ⟨%d9, H9⟩, H10, H11, ⟨%d12, H12⟩, ⟨%d13, H13⟩, Hk⟩
    sl_exec
    rw [alive1_eq1 (F := F) _ _ (bStart x7 x8 (bIn0 x2 x6 x5) (bIn1 x2 x6 x5) x3 x4 (i 1).val x10 x11).h0.cl (bStart x7 x8 (bIn0 x2 x6 x5) (bIn1 x2 x6 x5) x3 x4 (i 1).val x10 x11).h1.cl ?e0 ?e1]
    case e0 =>
      sl_open_run
      refine congrArg k1_pay143 ?_
      sl_open_pay
      simp only [ld_rows, ld_tri, readAt_blk _ _ 0 _ _ (rfl : (![0, 0] : Fin 2 → ℕ) = ![256 * 0, 0])]
      rw [cov_stackc4_0]
      refine congrArg (fun z => shapeCast S1x256x1 z shapeCasts_S256x1_S1x256x1) ?_
      rw [cov_planec4_0]; unfold bStart; rw [if_pos hj]; rfl
    case e1 =>
      sl_open_run
      refine congrArg k1_pay144 ?_
      sl_open_pay
      simp only [ld_rows, ld_tri, readAt_blk _ _ 0 _ _ (rfl : (![0, 0] : Fin 2 → ℕ) = ![256 * 0, 0])]
      rw [cov_stackc4_2]
      refine congrArg (fun z => shapeCast S1x256x1 z shapeCasts_S256x1_S1x256x1) ?_
      rw [cov_planec4_2]; unfold bStart; rw [if_pos hj]; rfl
    iapply (wp_call_spec Variants.nat (c : Thread nD τ) none E
      (bSpec c arg3 arg4 arg7 arg8 arg10 arg11 arg12 arg13 (bIn0 x2 x6 x5) (bIn1 x2 x6 x5) x3 x4 x7 x8 ((i 1).val - 1) (alive1 (bStart x7 x8 (bIn0 x2 x6 x5) (bIn1 x2 x6 x5) x3 x4 (i 1).val x10 x11).h0.cl (bStart x7 x8 (bIn0 x2 x6 x5) (bIn1 x2 x6 x5) x3 x4 (i 1).val x10 x11).h1.cl) (bStart x7 x8 (bIn0 x2 x6 x5) (bIn1 x2 x6 x5) x3 x4 (i 1).val x10 x11)) ((i 1).val - 1)
      (fun u hu => nomatch hu) ?call)
    case call =>
      exact fun K => bSpec_le_of c i arg3 harg3 arg4 harg4 arg7 harg7 arg8 harg8 arg10 harg10 arg11 harg11 arg12 harg12 arg13 harg13 (bIn0 x2 x6 x5) (bIn1 x2 x6 x5) x3 x4 x7 x8 E _ _ _ (ctr_start (i 1)) _ K _ _ _ _ _ _ (by sl_open_run; simp only [ld_rows]; rfl) (by sl_open_run; simp only [ld_rows]; rfl)
        (by sl_open_run; simp only [ld_rows]; rfl) (by sl_open_run; simp only [ld_rows]; rfl) (by sl_open_run; simp only [ld_rows]; rfl) (by sl_open_run; simp only [ld_rows]; rfl)
    rw [bSpec_apply]; unfold bHeld
    simp only [owns_eq_rep]
    isplitl [H3 H4 H7 H8 H10 H11 H12 H13]
    · isplitl [H3]; · iexact H3
      isplitl [H4]; · iexact H4
      isplitl [H7]; · iexact H7
      isplitl [H8]; · iexact H8
      isplitl [H10]
      · rw [← owns_eq_rep]; unfold owns
        iexists _; isplitr; swap; · iexact H10
        ipureintro
        sl_open_run
        sl_open_pay
        simp only [ld_rows, ld_tri, readAt_blk _ _ 0 _ _ (rfl : (![0, 0] : Fin 2 → ℕ) = ![256 * 0, 0])]
        rw [cov_blk0, read_addBlk0]
        unfold bStart; rw [if_pos hj]
        refine congrArg (addBlk zeroB 0) (congrArg₂ addf ?_ ?_)
        · rw [cov_planec4_0, cov_planec4_1]; rfl
        · rw [cov_planec4_2, cov_planec4_3]; rfl
      isplitl [H11]
      · rw [← owns_eq_rep]; unfold owns
        iexists _; isplitr; swap; · iexact H11
        ipureintro
        sl_open_run
        sl_open_pay
        simp only [ld_rows, ld_tri, readAt_blk _ _ 0 _ _ (rfl : (![0, 0] : Fin 2 → ℕ) = ![256 * 0, 0])]
        rw [cov_blk0, read_addBlk0]
        unfold bStart; rw [if_pos hj]
        refine congrArg (addBlk zeroB 0) (congrArg₂ addf ?_ ?_)
        · rw [cov_planec4_0]; rfl
        · rw [cov_planec4_2]; rfl
      isplitl [H12]
      · rw [← owns_eq_rep]; unfold owns
        iexists _; isplitr; swap; · iexact H12
        ipureintro
        sl_open_run
        sl_open_pay
        simp only [ld_rows, ld_tri, readAt_blk _ _ 0 _ _ (rfl : (![0, 0] : Fin 2 → ℕ) = ![256 * 0, 0])]
        rw [read_stack2]
        refine congrArg₂ stack2 ?_ ?_
        · rw [cov_plane2_0, cov_planec4_0, cov_planec4_1]; unfold bStart; rw [if_pos hj]; rfl
        · rw [cov_plane2_10, cov_planec4_2, cov_planec4_3]; unfold bStart; rw [if_pos hj]; rfl
      · rw [← owns_eq_rep]; unfold owns
        iexists _; isplitr; swap; · iexact H13
        ipureintro
        sl_open_run
        sl_open_pay
        simp only [ld_rows, ld_tri, readAt_blk _ _ 0 _ _ (rfl : (![0, 0] : Fin 2 → ℕ) = ![256 * 0, 0])]
        rw [read_stackc4]
        congr 1
        · rw [cov_planec4_0]; unfold bStart; rw [if_pos hj]; rfl
        · rw [cov_planec4_0, cov_planec4_1]; unfold bStart; rw [if_pos hj]; rfl
        · rw [cov_planec4_2]; unfold bStart; rw [if_pos hj]; rfl
        · rw [cov_planec4_2, cov_planec4_3]; unfold bStart; rw [if_pos hj]; rfl
    · iintro %r ⟨H3, H4, H7, H8, H10, H11, H12, H13⟩
      sl_exec
      rw [wp_ret]; imodintro
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · rw [← owns_eq_rep]; unfold owns
        iexists _; isplitr; swap; · iexact H9
        ipureintro
        rw [View.read_writes_full]
        sl_open_run
        simp only [ld_rows, ld_stack2_0, ld_stack2_1, k1_pay2]
        rw [plane2_stack_0, plane2_stack_1]
        rfl
      isplitl [H10]; · iexact H10
      isplitl [H11]; · iexact H11
      isplitl [H12]
      · iexists _; iexact H12
      · iexists _; iexact H13
  · have hc1 : ¬Scalar.cmpi .ne (Scalar.extui (Scalar.cmpi .eq (BitVec.ofNat 32 (i 1).val) 0#32) : BitVec 32) 0#32 = 1#1 := by rw [cond1_of (i 1), if_neg hj]; decide
    have hc2 : ¬k1_cond2 i = 1#1 := by rw [k1_cond2_of, if_neg hj]; decide
    have hc3 : k1_cond3 i = 1#1 := by rw [k1_cond3_of, if_neg hj]
    obtain ⟨m, hm⟩ : ∃ m, (i 1).val = m + 1 := ⟨(i 1).val - 1, by omega⟩
    have ho1 : k1_off1 i = ![256 * m + 256, 0] := by rw [k1_off1_of, hm]; rfl
    have ho2 : k1_off2 i = ![256 * m, 0] := by rw [k1_off2_of i hj, hm]; rfl
    letI : ClosedOff (k1_off1 i) := ⟨![256 * m + 256, 0], ho1⟩
    letI : ClosedOff (k1_off2 i) := ⟨![256 * m, 0], ho2⟩
    simp only [owns_eq_rep]
    iintro ⟨H2, H3, H4, H5, H6, H7, H8, ⟨%d9, H9⟩, H10, H11, ⟨%d12, H12⟩, ⟨%d13, H13⟩, Hk⟩
    sl_exec
    rw [alive1_eq1 (F := F) _ _ (bStart x7 x8 (bIn0 x2 x6 x5) (bIn1 x2 x6 x5) x3 x4 (i 1).val x10 x11).h0.cl (bStart x7 x8 (bIn0 x2 x6 x5) (bIn1 x2 x6 x5) x3 x4 (i 1).val x10 x11).h1.cl ?e2 ?e3]
    case e2 =>
      sl_open_run
      refine congrArg k1_pay143 ?_
      sl_open_pay
      simp only [ld_rows, ld_tri, readAt_blk _ _ (i 1).val _ _ (k1_off1_of i), readAt_blk _ _ ((i 1).val - 1) _ _ (k1_off2_of i hj)]
      rw [cov_stackc4_0]
      refine congrArg (fun z => shapeCast S1x256x1 z shapeCasts_S256x1_S1x256x1) ?_
      rw [cov_planec4_0]; unfold bStart; rw [if_neg hj]; rfl
    case e3 =>
      sl_open_run
      refine congrArg k1_pay144 ?_
      sl_open_pay
      simp only [ld_rows, ld_tri, readAt_blk _ _ (i 1).val _ _ (k1_off1_of i), readAt_blk _ _ ((i 1).val - 1) _ _ (k1_off2_of i hj)]
      rw [cov_stackc4_2]
      refine congrArg (fun z => shapeCast S1x256x1 z shapeCasts_S256x1_S1x256x1) ?_
      rw [cov_planec4_2]; unfold bStart; rw [if_neg hj]; rfl
    iapply (wp_call_spec Variants.nat (c : Thread nD τ) none E
      (bSpec c arg3 arg4 arg7 arg8 arg10 arg11 arg12 arg13 (bIn0 x2 x6 x5) (bIn1 x2 x6 x5) x3 x4 x7 x8 ((i 1).val - 1) (alive1 (bStart x7 x8 (bIn0 x2 x6 x5) (bIn1 x2 x6 x5) x3 x4 (i 1).val x10 x11).h0.cl (bStart x7 x8 (bIn0 x2 x6 x5) (bIn1 x2 x6 x5) x3 x4 (i 1).val x10 x11).h1.cl) (bStart x7 x8 (bIn0 x2 x6 x5) (bIn1 x2 x6 x5) x3 x4 (i 1).val x10 x11)) ((i 1).val - 1)
      (fun u hu => nomatch hu) ?call')
    case call' =>
      exact fun K => bSpec_le_of c i arg3 harg3 arg4 harg4 arg7 harg7 arg8 harg8 arg10 harg10 arg11 harg11 arg12 harg12 arg13 harg13 (bIn0 x2 x6 x5) (bIn1 x2 x6 x5) x3 x4 x7 x8 E _ _ _ (ctr_start (i 1)) _ K _ _ _ _ _ _ (by sl_open_run; simp only [ld_rows]; rfl) (by sl_open_run; simp only [ld_rows]; rfl)
        (by sl_open_run; simp only [ld_rows]; rfl) (by sl_open_run; simp only [ld_rows]; rfl) (by sl_open_run; simp only [ld_rows]; rfl) (by sl_open_run; simp only [ld_rows]; rfl)
    rw [bSpec_apply]; unfold bHeld
    simp only [owns_eq_rep]
    isplitl [H3 H4 H7 H8 H10 H11 H12 H13]
    · isplitl [H3]; · iexact H3
      isplitl [H4]; · iexact H4
      isplitl [H7]; · iexact H7
      isplitl [H8]; · iexact H8
      isplitl [H10]
      · rw [← owns_eq_rep]; unfold owns
        iexists _; isplitr; swap; · iexact H10
        ipureintro
        sl_open_run
        sl_open_pay
        simp only [ld_rows, ld_tri, readAt_blk _ _ (i 1).val _ _ (k1_off1_of i), readAt_blk _ _ ((i 1).val - 1) _ _ (k1_off2_of i hj)]
        rw [read_addBlk2 _ _ (i 1).val ((i 1).val - 1) _ _ _ _ _ _ (k1_off1_of i) (k1_off2_of i hj) (by have : (i 1).val < 32 := (i 1).isLt; omega) (by omega)]
        unfold bStart; rw [if_neg hj]
        refine congrArg₂ (fun u w => addBlk (addBlk x10 (i 1).val u) ((i 1).val - 1) w) (congrArg₂ addf ?_ ?_) (congrArg₂ addf ?_ ?_)
        · rw [cov_planec4_0, cov_planec4_1]; rfl
        · rw [cov_planec4_2, cov_planec4_3]; rfl
        · rw [cov_planec4_0, cov_planec4_1]; rfl
        · rw [cov_planec4_2, cov_planec4_3]; rfl
      isplitl [H11]
      · rw [← owns_eq_rep]; unfold owns
        iexists _; isplitr; swap; · iexact H11
        ipureintro
        sl_open_run
        sl_open_pay
        simp only [ld_rows, ld_tri, readAt_blk _ _ (i 1).val _ _ (k1_off1_of i), readAt_blk _ _ ((i 1).val - 1) _ _ (k1_off2_of i hj)]
        rw [read_addBlk2 _ _ (i 1).val ((i 1).val - 1) _ _ _ _ _ _ (k1_off1_of i) (k1_off2_of i hj) (by have : (i 1).val < 32 := (i 1).isLt; omega) (by omega)]
        unfold bStart; rw [if_neg hj]
        refine congrArg₂ (fun u w => addBlk (addBlk x11 (i 1).val u) ((i 1).val - 1) w) (congrArg₂ addf ?_ ?_) (congrArg₂ addf ?_ ?_)
        · rw [cov_planec4_0]; rfl
        · rw [cov_planec4_2]; rfl
        · rw [cov_planec4_0]; rfl
        · rw [cov_planec4_2]; rfl
      isplitl [H12]
      · rw [← owns_eq_rep]; unfold owns
        iexists _; isplitr; swap; · iexact H12
        ipureintro
        sl_open_run
        sl_open_pay
        simp only [ld_rows, ld_tri, readAt_blk _ _ (i 1).val _ _ (k1_off1_of i), readAt_blk _ _ ((i 1).val - 1) _ _ (k1_off2_of i hj)]
        rw [read_stack2]
        refine congrArg₂ stack2 ?_ ?_
        · rw [cov_plane2_0, cov_planec4_0, cov_planec4_1]; unfold bStart; rw [if_neg hj]; rfl
        · rw [cov_plane2_10, cov_planec4_2, cov_planec4_3]; unfold bStart; rw [if_neg hj]; rfl
      · rw [← owns_eq_rep]; unfold owns
        iexists _; isplitr; swap; · iexact H13
        ipureintro
        sl_open_run
        sl_open_pay
        simp only [ld_rows, ld_tri, readAt_blk _ _ (i 1).val _ _ (k1_off1_of i), readAt_blk _ _ ((i 1).val - 1) _ _ (k1_off2_of i hj)]
        rw [read_stackc4]
        congr 1
        · rw [cov_planec4_0]; unfold bStart; rw [if_neg hj]; rfl
        · rw [cov_planec4_0, cov_planec4_1]; unfold bStart; rw [if_neg hj]; rfl
        · rw [cov_planec4_2]; unfold bStart; rw [if_neg hj]; rfl
        · rw [cov_planec4_2, cov_planec4_3]; unfold bStart; rw [if_neg hj]; rfl
    · iintro %r ⟨H3, H4, H7, H8, H10, H11, H12, H13⟩
      sl_exec
      rw [wp_ret]; imodintro
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · rw [← owns_eq_rep]; unfold owns
        iexists _; isplitr; swap; · iexact H9
        ipureintro
        rw [View.read_writes_full]
        sl_open_run
        simp only [ld_rows, ld_stack2_0, ld_stack2_1, k1_pay2]
        rw [plane2_stack_0, plane2_stack_1]
        rfl
      isplitl [H10]; · iexact H10
      isplitl [H11]; · iexact H11
      isplitl [H12]
      · iexists _; iexact H12
      · iexists _; iexact H13

end Cert.KernelIdeal.Own
-- ==== Proof.Regions.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.BwdBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when a region is entered
variable (V : (c : Dev nD) → (b : Ref sig .tc) → Buf (Elt F) ((c : Thread nD τ).loc b))

/-- A scratch buffer at some contents, as a whole memref's. -/
theorem scratch_eq (c : Dev nD) (b : Ref sig .tc) :
    (iprop(∃ f : Buf (Elt F) ((c : Thread nD τ).loc b), ((c : Thread nD τ).loc b) ↦{fullShare} f) : sProp 𝕄)
      = iprop(∃ f : b.ty.Contents (Elt F), owns (c : Thread nD τ) (Memref.whole b) fullShare f) := by
  simp only [owns_whole]

/-! ## The forward sweep's region -/

/-- Window `w`'s block at point `t`, read off the array the region finds. -/
def iblk0 (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Pipeline.arrRef spec0 w))

/-- The two heads' states after the queries' tile at point `t`. -/
def tile0 (c : Dev nD) (t : Fin (cfg0 (F := F)).N) : FHead F × FHead F :=
  fTile (iblk0 V c 3 t) (iblk0 V c 0 t) (iblk0 V c 1 t) (iblk0 V c 2 t) (grid0.coords t 1).val

/-- The proof data: the arrays as found; each input's buffer at its block, each output's at the tile's; nothing owed. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => oOf (tile0 V c t)
    | ⟨5, _⟩ => truncf .bf16 (oOf (tile0 V c t)) bitsLt_bf16_f32
  Φ _ := Pipeline.ΦA spec0 c
  q _ := fullShare
  owed _ := 0

theorem A_eq0 (c : Dev nD) (w : Fin (cfg0 (F := F)).W) : (dat0 V c).A w = V c (Pipeline.arrRef spec0 w) := by
  dsimp only [dat0]

theorem after0_0 (c : Dev nD) (t : Fin (cfg0 (F := F)).N) : (dat0 V c).after 0 t = iblk0 V c 0 t := by dsimp only [dat0]; rfl
theorem after0_1 (c : Dev nD) (t : Fin (cfg0 (F := F)).N) : (dat0 V c).after 1 t = iblk0 V c 1 t := by dsimp only [dat0]; rfl
theorem after0_2 (c : Dev nD) (t : Fin (cfg0 (F := F)).N) : (dat0 V c).after 2 t = iblk0 V c 2 t := by dsimp only [dat0]; rfl
theorem after0_3 (c : Dev nD) (t : Fin (cfg0 (F := F)).N) : (dat0 V c).after 3 t = iblk0 V c 3 t := by dsimp only [dat0]; rfl
theorem after0_4 (c : Dev nD) (t : Fin (cfg0 (F := F)).N) : (dat0 V c).after 4 t = oOf (tile0 V c t) := by dsimp only [dat0]; rfl
theorem after0_5 (c : Dev nD) (t : Fin (cfg0 (F := F)).N) : (dat0 V c).after 5 t = truncf .bf16 (oOf (tile0 V c t)) bitsLt_bf16_f32 := by dsimp only [dat0]; rfl

/-- The inputs' staging buffers hold their blocks at every point. -/
theorem before0_0 (c : Dev nD) (t : Fin (cfg0 (F := F)).N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin (cfg0 (F := F)).N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin (cfg0 (F := F)).N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin (cfg0 (F := F)).N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, -/
def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))
/-- and what it returns. -/
def bodyPost0 (c : Dev nD) (t : Fin (cfg0 (F := F)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 400000 in
/-- The body at any point: the kernel's scratch taken out of the region's invariant and given back. -/
theorem sound_body0 (c : Dev nD) (t : Fin (cfg0 (F := F)).N) :
    bodyPre0 V c t ⊢ wp frame (wpE (defs₀ (F := F)) Variants.nat c none) Set.univ (bodyAt0 t) (fun _ => bodyPost0 V c t) := by
  unfold bodyPre0 bodyPost0 bodyAt0
  simp only [before0_0, before0_1, before0_2, before0_3]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5]
  unfold Pipeline.ΦA
  rw [scopedRest0_eq, scratch_eq c cc0_scratch0, scratch_eq c cc0_scratch1]
  iintro ⟨⟨⟨⟨%f0, Hs0⟩, ⟨%f1, Hs1⟩, Hr⟩, Hp⟩, Ho, ⟨%d0, H0⟩, ⟨%d1, H1⟩, ⟨%d2, H2⟩, ⟨%d3, H3⟩, ⟨%d4, H4⟩, ⟨%d5, H5⟩⟩
  iapply (sound_fwd c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [Hs0]; · iexists _; iexact Hs0
  isplitl [Hs1]; · iexists _; iexact Hs1
  iintro ⟨H0, H1, H2, H3, H4, H5, ⟨%g0, Hs0⟩, ⟨%g1, Hs1⟩⟩
  isplitl [Hs0 Hs1 Hr Hp]
  · isplitr [Hp]
    · isplitl [Hs0]; · iexists _; iexact Hs0
      isplitl [Hs1]; · iexists _; iexact Hs1
      iexact Hr
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation0 (c : Dev nD) : BodyObligation (dat0 (F := F) V c) (defs₀ (F := F)) Variants.nat () Set.univ := fun t => by
  rw [bigSep_W0, bigSep_W0, defs₀_row0]
  exact triple_restated (sound_body0 V c t) rfl .rfl fun _ => .rfl

/-! ## The backward sweep's region -/

/-- Window `w`'s block at point `t`, read off the array the region finds. -/
def iblk1 (c : Dev nD) (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (V c (Pipeline.arrRef spec1 w))

/-- The state after the queries' tile at point `t`, from the two resident arrays before it. -/
def tile1 (c : Dev nD) (t : Fin (cfg1 (F := F)).N) (dk dv : Vec F S8192x128 .f32) : BSt F :=
  bTile (iblk1 V c 5 t) (iblk1 V c 6 t) (bIn0 (iblk1 V c 0 t) (iblk1 V c 4 t) (iblk1 V c 3 t)) (bIn1 (iblk1 V c 0 t) (iblk1 V c 4 t) (iblk1 V c 3 t))
    (iblk1 V c 1 t) (iblk1 V c 2 t) (grid1.coords t 1).val dk dv

/-- The two resident arrays before point `n`. -/
def acc1 (c : Dev nD) : ℕ → Vec F S8192x128 .f32 × Vec F S8192x128 .f32
  | 0 => (zeroB, zeroB)
  | n + 1 => if h : n < (cfg1 (F := F)).N then
      ((tile1 V c ⟨n, h⟩ (acc1 c n).1 (acc1 c n).2).dk, (tile1 V c ⟨n, h⟩ (acc1 c n).1 (acc1 c n).2).dv)
    else acc1 c n

/-- The state after point `t`. -/
def st1 (c : Dev nD) (t : Fin (cfg1 (F := F)).N) : BSt F := tile1 V c t (acc1 V c t.val).1 (acc1 V c t.val).2

theorem acc1_succ (c : Dev nD) (t : Fin (cfg1 (F := F)).N) : acc1 V c (t.val + 1) = ((st1 V c t).dk, (st1 V c t).dv) := by
  rw [acc1, dif_pos t.isLt]; rfl

theorem coords1_1 : ∀ t : Fin (cfg1 (F := F)).N, (grid1.coords t 1).val = t.val % 32 :=
  (fun t => by rw [Pipeline.Grid.coords_val (G := grid1) t 1 (S := 1) (B := 32) rfl rfl, Nat.div_one] : ∀ t : Fin grid1.N, (grid1.coords t 1).val = t.val % 32)

/-- The first tile of a sweep does not read the resident arrays. -/
theorem tile1_first (c : Dev nD) (t : Fin (cfg1 (F := F)).N) (ht : t.val % 32 = 0) (dk dv dk' dv' : Vec F S8192x128 .f32) :
    tile1 V c t dk dv = tile1 V c t dk' dv' := by
  have h : (grid1.coords t 1).val = 0 := (coords1_1 t).trans ht
  unfold tile1; rw [h]; rfl

/-- The proof data: the arrays as found; each input's buffer at its block, each output's at the tile's; nothing owed. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => dqOf (st1 V c t)
    | ⟨8, _⟩ => (st1 V c t).dk
    | ⟨9, _⟩ => (st1 V c t).dv
  Φ _ := Pipeline.ΦA spec1 c
  q _ := fullShare
  owed _ := 0

theorem A_eq1 (c : Dev nD) (w : Fin (cfg1 (F := F)).W) : (dat1 V c).A w = V c (Pipeline.arrRef spec1 w) := by
  dsimp only [dat1]

theorem after1_0 (c : Dev nD) (t : Fin (cfg1 (F := F)).N) : (dat1 V c).after 0 t = iblk1 V c 0 t := by dsimp only [dat1]; rfl
theorem after1_1 (c : Dev nD) (t : Fin (cfg1 (F := F)).N) : (dat1 V c).after 1 t = iblk1 V c 1 t := by dsimp only [dat1]; rfl
theorem after1_2 (c : Dev nD) (t : Fin (cfg1 (F := F)).N) : (dat1 V c).after 2 t = iblk1 V c 2 t := by dsimp only [dat1]; rfl
theorem after1_3 (c : Dev nD) (t : Fin (cfg1 (F := F)).N) : (dat1 V c).after 3 t = iblk1 V c 3 t := by dsimp only [dat1]; rfl
theorem after1_4 (c : Dev nD) (t : Fin (cfg1 (F := F)).N) : (dat1 V c).after 4 t = iblk1 V c 4 t := by dsimp only [dat1]; rfl
theorem after1_5 (c : Dev nD) (t : Fin (cfg1 (F := F)).N) : (dat1 V c).after 5 t = iblk1 V c 5 t := by dsimp only [dat1]; rfl
theorem after1_6 (c : Dev nD) (t : Fin (cfg1 (F := F)).N) : (dat1 V c).after 6 t = iblk1 V c 6 t := by dsimp only [dat1]; rfl
theorem after1_7 (c : Dev nD) (t : Fin (cfg1 (F := F)).N) : (dat1 V c).after 7 t = dqOf (st1 V c t) := by dsimp only [dat1]; rfl
theorem after1_8 (c : Dev nD) (t : Fin (cfg1 (F := F)).N) : (dat1 V c).after 8 t = (st1 V c t).dk := by dsimp only [dat1]; rfl
theorem after1_9 (c : Dev nD) (t : Fin (cfg1 (F := F)).N) : (dat1 V c).after 9 t = (st1 V c t).dv := by dsimp only [dat1]; rfl

/-- The inputs' staging buffers hold their blocks at every point. -/
theorem before1_0 (c : Dev nD) (t : Fin (cfg1 (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfg1 (F := F)).N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin (cfg1 (F := F)).N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin (cfg1 (F := F)).N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin (cfg1 (F := F)).N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- A resident array's buffer, past a sweep's first point, holds what the point before left. -/
theorem before1_8 (c : Dev nD) (t : Fin (cfg1 (F := F)).N) (ht : t.val % 32 ≠ 0) (d) : (dat1 V c).before 8 t d = (acc1 V c t.val).1 := by
  have h0 : t.val ≠ 0 := fun h => ht (by rw [h])
  have hf : ((cfg1 (F := F)).win 8).flush ⟨t.val - 1, Nat.lt_of_le_of_lt (Nat.sub_le _ _) t.isLt⟩ = false := by
    rw [← Bool.not_eq_true, flush1_8]; show ¬(t.val - 1) % 32 = 31; omega
  rw [(dat1 V c).before_out_kept 8 rfl t h0 hf (fun _ => rfl) (fun _ _ => rfl), after1_8]
  have hs := acc1_succ V c ⟨t.val - 1, Nat.lt_of_le_of_lt (Nat.sub_le _ _) t.isLt⟩
  rw [show (⟨t.val - 1, Nat.lt_of_le_of_lt (Nat.sub_le _ _) t.isLt⟩ : Fin (cfg1 (F := F)).N).val + 1 = t.val from Nat.succ_pred_eq_of_ne_zero h0] at hs
  rw [hs]
/-- A resident array's buffer, past a sweep's first point, holds what the point before left. -/
theorem before1_9 (c : Dev nD) (t : Fin (cfg1 (F := F)).N) (ht : t.val % 32 ≠ 0) (d) : (dat1 V c).before 9 t d = (acc1 V c t.val).2 := by
  have h0 : t.val ≠ 0 := fun h => ht (by rw [h])
  have hf : ((cfg1 (F := F)).win 9).flush ⟨t.val - 1, Nat.lt_of_le_of_lt (Nat.sub_le _ _) t.isLt⟩ = false := by
    rw [← Bool.not_eq_true, flush1_9]; show ¬(t.val - 1) % 32 = 31; omega
  rw [(dat1 V c).before_out_kept 9 rfl t h0 hf (fun _ => rfl) (fun _ _ => rfl), after1_9]
  have hs := acc1_succ V c ⟨t.val - 1, Nat.lt_of_le_of_lt (Nat.sub_le _ _) t.isLt⟩
  rw [show (⟨t.val - 1, Nat.lt_of_le_of_lt (Nat.sub_le _ _) t.isLt⟩ : Fin (cfg1 (F := F)).N).val + 1 = t.val from Nat.succ_pred_eq_of_ne_zero h0] at hs
  rw [hs]

/-- The tile's state at what its resident buffers hold. -/
theorem tile1_before (c : Dev nD) (t : Fin (cfg1 (F := F)).N) (d8 d9) : tile1 V c t ((dat1 V c).before 8 t d8) ((dat1 V c).before 9 t d9) = st1 V c t := by
  by_cases ht : t.val % 32 = 0
  · exact tile1_first V c t ht _ _ _ _
  · rw [before1_8 V c t ht, before1_9 V c t ht]; rfl

/-- What the body is called with at point `t`, -/
def bodyPre1 (c : Dev nD) (t : Fin (cfg1 (F := F)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))
/-- and what it returns. -/
def bodyPost1 (c : Dev nD) (t : Fin (cfg1 (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 400000 in
@[inherit_doc sound_body0]
theorem sound_body1 (c : Dev nD) (t : Fin (cfg1 (F := F)).N) :
    bodyPre1 V c t ⊢ wp frame (wpE (defs₀ (F := F)) Variants.nat c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9]
  unfold Pipeline.ΦA
  rw [scopedRest1_eq, scratch_eq c cc1_scratch0, scratch_eq c cc1_scratch1]
  iintro ⟨⟨⟨Hr0, Hr1, Hr2, Hr3, Hr4, Hr5, Hr6, Hr7, Hr8, Hr9, Hr10, Hr11, Hr12, ⟨%f0, Hs0⟩, ⟨%f1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← tile1_before V c t d8 d9]; unfold tile1
  iapply (sound_bwd c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)
    ((dat1 V c).before 8 t d8) ((dat1 V c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [Hs0]; · iexists _; iexact Hs0
  isplitl [Hs1]; · iexists _; iexact Hs1
  iintro ⟨H0, H1, H2, H3, H4, H5, H6, H7, H8, H9, ⟨%g0, Hs0⟩, ⟨%g1, Hs1⟩⟩
  isplitl [Hr0 Hr1 Hr2 Hr3 Hr4 Hr5 Hr6 Hr7 Hr8 Hr9 Hr10 Hr11 Hr12 Hs0 Hs1 Hp]
  · isplitr [Hp]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hs0]; · iexists _; iexact Hs0
      iexists _; iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

theorem body_obligation1 (c : Dev nD) : BodyObligation (dat1 (F := F) V c) (defs₀ (F := F)) Variants.nat () Set.univ := fun t => by
  rw [bigSep_W1, bigSep_W1, defs₀_row1]
  exact triple_restated (sound_body1 V c t) rfl .rfl fun _ => .rfl

end Cert.KernelIdeal.Own

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import proofs.«01_k».proof.Proof.Regions
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host's stretches write -/

/-- The argument arrays. -/
abbrev argRefs : List (Ref sig .tc) := [main_arg0, main_arg1, main_arg2, main_arg3]

theorem hostOps0_fresh : (hostOps0 : List (HloOp τ sig (Elt F))).Forall fun op => op.fresh = ∅ := by
  simp only [List.Forall]; exact ⟨rfl, rfl⟩
/-- The references `hostOps0` writes. -/
abbrev hostOps0_W : List (Ref sig .tc) := [main_cst, main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; exact ⟨rfl, rfl, rfl, rfl, rfl, rfl, rfl, rfl, rfl⟩
/-- The references `hostOps0_1` writes. -/
abbrev hostOps0_1_W : List (Ref sig .tc) := [main_call0_v0, main_call0_c, main_call0_v1, main_call0_v2, main_call0_v3, main_call0_v4, main_call0_cst, main_call0_v5, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; exact ⟨rfl, rfl, rfl⟩
/-- The references `hostOps0_2` writes. -/
abbrev hostOps0_2_W : List (Ref sig .tc) := [main_v2, main_cst_0, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; exact ⟨rfl, rfl, rfl, rfl, rfl, rfl, rfl, rfl, rfl⟩
/-- The references `hostOps0_3` writes. -/
abbrev hostOps0_3_W : List (Ref sig .tc) := [main_call1_v0, main_call1_c, main_call1_v1, main_call1_v2, main_call1_v3, main_call1_v4, main_call1_cst, main_call1_v5, main_v4]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; exact ⟨rfl, rfl, rfl, rfl, rfl, rfl, rfl⟩
/-- The references `hostOps0_4` writes. -/
abbrev hostOps0_4_W : List (Ref sig .tc) := [main_v5, main_cst_1, main_v6, main_v7, main_v8, main_v9, main_v10]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

/-! ## The buffers' contents between @main's items -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
/-- At region 0's exit: its arrays at what its write-backs leave, every other buffer as entered. -/
def W6 (c : Dev nD) : Valuation τ sig (Elt F) :=
  Pipeline.withArrays spec0 c (W5 m ρ c) fun w => (dat0 (V5 m ρ) c).arrAt w (cfg0 (F := F)).N
theorem W6_arr (c : Dev nD) (w : Fin (cfg0 (F := F)).W) :
    W6 m ρ c (Proc.devRef .tc (Pipeline.arrRef spec0 w)) = (dat0 (V5 m ρ) c).arrAt w (cfg0 (F := F)).N := by
  unfold W6; exact Pipeline.withArrays_arr spec0 (launch0 (F := F)).win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is no output array of the region keeps its contents. -/
theorem W6_of (c : Dev nD) (r : Ref sig .tc) (h : ∀ w : Fin (cfg0 (F := F)).W, Pipeline.arrRef spec0 w = r → ((cfg0 (F := F)).win w).isOut = false) :
    W6 m ρ c (Proc.devRef .tc r) = W5 m ρ c (Proc.devRef .tc r) := by
  by_cases hw : ∃ w : Fin (cfg0 (F := F)).W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin (cfg0 (F := F)).W, Pipeline.arrRef spec0 w = a → ((cfg0 (F := F)).win w).isOut = false :=
  (ListAll.forall_mem_of_all_decide (by decide +kernel) : ∀ a ∈ argRefs, ∀ w : Fin 6, Pipeline.arrRef spec0 w = a → (win0 w).isOut = false)
theorem W6_args (c : Dev nD) : ∀ a ∈ argRefs, W6 m ρ c (Proc.devRef .tc a) = m ((c : Thread nD τ).loc a) :=
  fun a ha => (W6_of m ρ c a (argsIn0 (F := F) a ha)).trans (W5_args m ρ c a ha)
abbrev V6 : (c : Dev nD) → (b : Ref sig .tc) → Buf (Elt F) ((c : Thread nD τ).loc b) := fun c b => W6 m ρ c b
theorem hF0 (c : Dev nD) (w : Fin (cfg0 (F := F)).W) : (dat0 (V5 m ρ) c).arrAt w (cfg0 (F := F)).N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: its arrays at what its write-backs leave, every other buffer as entered. -/
def W7 (c : Dev nD) : Valuation τ sig (Elt F) :=
  Pipeline.withArrays spec1 c (W6 m ρ c) fun w => (dat1 (V6 m ρ) c).arrAt w (cfg1 (F := F)).N
theorem W7_arr (c : Dev nD) (w : Fin (cfg1 (F := F)).W) :
    W7 m ρ c (Proc.devRef .tc (Pipeline.arrRef spec1 w)) = (dat1 (V6 m ρ) c).arrAt w (cfg1 (F := F)).N := by
  unfold W7; exact Pipeline.withArrays_arr spec1 (launch1 (F := F)).win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A reference that is no output array of the region keeps its contents. -/
theorem W7_of (c : Dev nD) (r : Ref sig .tc) (h : ∀ w : Fin (cfg1 (F := F)).W, Pipeline.arrRef spec1 w = r → ((cfg1 (F := F)).win w).isOut = false) :
    W7 m ρ c (Proc.devRef .tc r) = W6 m ρ c (Proc.devRef .tc r) := by
  by_cases hw : ∃ w : Fin (cfg1 (F := F)).W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
theorem argsIn1 : ∀ a ∈ argRefs, ∀ w : Fin (cfg1 (F := F)).W, Pipeline.arrRef spec1 w = a → ((cfg1 (F := F)).win w).isOut = false :=
  (ListAll.forall_mem_of_all_decide (by decide +kernel) : ∀ a ∈ argRefs, ∀ w : Fin 10, Pipeline.arrRef spec1 w = a → (win1 w).isOut = false)
theorem W7_args (c : Dev nD) : ∀ a ∈ argRefs, W7 m ρ c (Proc.devRef .tc a) = m ((c : Thread nD τ).loc a) :=
  fun a ha => (W7_of m ρ c a (argsIn1 (F := F) a ha)).trans (W6_args m ρ c a ha)
abbrev V7 : (c : Dev nD) → (b : Ref sig .tc) → Buf (Elt F) ((c : Thread nD τ).loc b) := fun c b => W7 m ρ c b
theorem hF1 (c : Dev nD) (w : Fin (cfg1 (F := F)).W) : (dat1 (V6 m ρ) c).arrAt w (cfg1 (F := F)).N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The run -/

abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.nat
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · (cfg0 (F := F)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · (cfg1 (F := F)).N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, nothing faulting: every array the host sees at its contents after the last region, every counter at zero. -/
theorem run : θ_run defs (onTc (τ := τ) (main (F := F))) ⟨m, fun _ => 0, ρ⟩ (fun r =>
      (∀ (c : Dev nD) (b : Ref sig .tc), ¬ (Proc.devRef .tc b : DevRef τ sig).isScoped → r.2.mem ((c.tc : Thread nD τ).loc b) = W7 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; first | decide | exact (by decide : [(0 : Fin 2), 1].Nodup))
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c _ (mem_uc b hb), funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c main_arg0 (by decide)).trans (W7_args m ρ c main_arg0 (by decide)),
     (h.1 c main_arg1 (by decide)).trans (W7_args m ρ c main_arg1 (by decide)),
     (h.1 c main_arg2 (by decide)).trans (W7_args m ρ c main_arg2 (by decide)),
     (h.1 c main_arg3 (by decide)).trans (W7_args m ρ c main_arg3 (by decide))⟩, h.2⟩) (run m ρ)

end Cert.KernelIdeal.Own

end
-- ==== Proof.Spec.lean ====
/-
  The stick-breaking attention of one head in the reals: the weights, their gradient and the scores' gradient, and the
  sums over a block of keys that a sweep takes.
-/
module

public import Mathlib.Analysis.SpecialFunctions.Log.Basic
public import Mathlib.Analysis.SpecialFunctions.Exp
public import Mathlib.Algebra.BigOperators.Intervals

@[expose] public section

noncomputable section

namespace Cert.Attn

open Finset

/-! ## The logistic function's logarithm -/

/-- The log-sigmoid, in the form that never overflows. -/
def lb (z : ℝ) : ℝ := min z 0 - Real.log (1 + Real.exp (-|z|))

theorem lb_eq (z : ℝ) : lb z = -Real.log (1 + Real.exp (-z)) := by
  unfold lb
  rcases le_total 0 z with h | h
  · rw [min_eq_right h, abs_of_nonneg h, zero_sub]
  · rw [min_eq_left h, abs_of_nonpos h, neg_neg]
    have h1 : (1 : ℝ) + Real.exp (-z) = Real.exp (-z) * (1 + Real.exp z) := by
      rw [mul_add, mul_one, ← Real.exp_add, neg_add_cancel, Real.exp_zero, add_comm]
    rw [h1, Real.log_mul (Real.exp_pos _).ne' (by positivity), Real.log_exp]; ring

theorem exp_lb (z : ℝ) : Real.exp (lb z) = (1 + Real.exp (-z))⁻¹ := by
  rw [lb_eq, Real.exp_neg, Real.exp_log (by positivity)]

/-- The derivative of the log-sigmoid, as the reference has it. -/
theorem one_sub_exp_lb (z : ℝ) : Real.exp (-z + lb z) = 1 - Real.exp (lb z) := by
  rw [Real.exp_add, exp_lb]
  have h : (1 : ℝ) + Real.exp (-z) ≠ 0 := by positivity
  field_simp
  ring

/-! ## Sums over later keys -/

/-- The sum over keys `a, …, 8191`. -/
def suf (f : ℕ → ℝ) (a : ℕ) : ℝ := ∑ t ∈ Ico a 8192, f t

theorem suf_last (f : ℕ → ℝ) (a : ℕ) (h : 8192 ≤ a) : suf f a = 0 := by
  unfold suf; rw [Ico_eq_empty (by omega), sum_empty]

theorem suf_zero (f : ℕ → ℝ) (a : ℕ) (h : ∀ t, a ≤ t → f t = 0) : suf f a = 0 :=
  sum_eq_zero fun t ht => h t (mem_Ico.mp ht).1

theorem suf_split (f : ℕ → ℝ) (a b : ℕ) (h : a ≤ b) (hb : b ≤ 8192) : suf f a = ∑ t ∈ Ico a b, f t + suf f b :=
  (sum_Ico_consecutive f h hb).symm

theorem sum_blk (f : ℕ → ℝ) (a b : ℕ) : ∑ t ∈ Ico a (a + b), f t = ∑ j ∈ range b, f (a + j) := by
  rw [sum_Ico_eq_sum_range]; congr 2; omega

theorem suf_blk (f : ℕ → ℝ) (n : ℕ) (h : n < 32) : suf f (256 * n) = suf f (256 * (n + 1)) + ∑ j ∈ range 256, f (256 * n + j) := by
  rw [suf_split f _ (256 * n + 256) (by omega) (by omega), sum_blk, add_comm, show 256 * n + 256 = 256 * (n + 1) by ring]

theorem sum_after (f : ℕ → ℝ) (a k : ℕ) (hk : k ≤ 256) :
    ∑ m ∈ range 256, f (a + m) * (if k ≤ m then 1 else 0) = ∑ t ∈ Ico (a + k) (a + 256), f t := by
  rw [sum_Ico_eq_sum_range, show a + 256 - (a + k) = 256 - k by omega]
  rw [show (∑ m ∈ range 256, f (a + m) * (if k ≤ m then 1 else 0)) = ∑ m ∈ range 256, if k ≤ m then f (a + m) else 0 from
    sum_congr rfl fun m _ => by split <;> simp]
  rw [← sum_filter, show (range 256).filter (fun m => k ≤ m) = Ico k 256 by ext m; simp only [mem_filter, mem_range, mem_Ico]; omega,
    sum_Ico_eq_sum_range]
  exact sum_congr rfl fun m _ => by rw [add_assoc]

/-- The strict suffix sum inside a block, completed by the later blocks'. -/
theorem suf_excl (f : ℕ → ℝ) (n j : ℕ) (h : n < 32) (hj : j < 256) :
    (∑ m ∈ range 256, f (256 * n + m) * (if j < m then 1 else 0)) + suf f (256 * (n + 1)) = suf f (256 * n + j + 1) := by
  rw [suf_split f (256 * n + j + 1) (256 * n + 256) (by omega) (by omega), show 256 * (n + 1) = 256 * n + 256 by ring]
  exact congrArg (· + _) (sum_after f (256 * n) (j + 1) (by omega))

/-- The inclusive suffix sum inside a block, completed by the later blocks'. -/
theorem suf_incl (f : ℕ → ℝ) (n j : ℕ) (h : n < 32) (hj : j < 256) :
    (∑ m ∈ range 256, f (256 * n + m) * (if j ≤ m then 1 else 0)) + suf f (256 * (n + 1)) = suf f (256 * n + j) := by
  rw [suf_split f (256 * n + j) (256 * n + 256) (by omega) (by omega), show 256 * (n + 1) = 256 * n + 256 by ring]
  exact congrArg (· + _) (sum_after f (256 * n) j (by omega))

/-! ## One head -/

/-- The log of one minus the sigmoid, on the keys a query sees. -/
def lom (z : ℕ → ℕ → ℝ) (s t : ℕ) : ℝ := if t < s then lb (z s t) - z s t else 0

/-- The weight of key `t` for query `s`. -/
def wt (z : ℕ → ℕ → ℝ) (s t : ℕ) : ℝ := if t < s then Real.exp (lb (z s t) + suf (lom z s) (t + 1)) else 0

/-- The weight's gradient times the weight. -/
def gw (z D : ℕ → ℕ → ℝ) (s t : ℕ) : ℝ := D s t * wt z s t

/-- The score's gradient. -/
def dz (z D : ℕ → ℕ → ℝ) (s t : ℕ) : ℝ :=
  if t < s then gw z D s t * (1 - Real.exp (lb (z s t))) - Real.exp (lb (z s t)) * (suf (gw z D s) 0 - suf (gw z D s) t) else 0

theorem lom_of_le (z : ℕ → ℕ → ℝ) {s t : ℕ} (h : s ≤ t) : lom z s t = 0 := if_neg (by omega)
theorem wt_of_le (z : ℕ → ℕ → ℝ) {s t : ℕ} (h : s ≤ t) : wt z s t = 0 := if_neg (by omega)
theorem gw_of_le (z D : ℕ → ℕ → ℝ) {s t : ℕ} (h : s ≤ t) : gw z D s t = 0 := by unfold gw; rw [wt_of_le z h, mul_zero]
theorem dz_of_le (z D : ℕ → ℕ → ℝ) {s t : ℕ} (h : s ≤ t) : dz z D s t = 0 := if_neg (by omega)

/-! ## The results, head by head: lane `x` belongs to head `x / 64` -/

/-- A head's scaled scores. -/
def zz (Q K : ℕ → ℕ → ℝ) (a s t : ℕ) : ℝ := (∑ l ∈ range 64, Q s (64 * a + l) * K t (64 * a + l)) * (1 / 8)
/-- A head's weights' gradients. -/
def dd (D V : ℕ → ℕ → ℝ) (a s t : ℕ) : ℝ := ∑ l ∈ range 64, D s (64 * a + l) * V t (64 * a + l)
/-- The attention's output. -/
def oT (Z : ℕ → ℕ → ℕ → ℝ) (V : ℕ → ℕ → ℝ) (s x : ℕ) : ℝ := ∑ t ∈ range 8192, wt (Z (x / 64)) s t * V t x
/-- The gradients of the values, -/
def dvT (Z : ℕ → ℕ → ℕ → ℝ) (D : ℕ → ℕ → ℝ) (t x : ℕ) : ℝ := ∑ s ∈ range 8192, wt (Z (x / 64)) s t * D s x
/-- of the keys, -/
def dkT (Z E : ℕ → ℕ → ℕ → ℝ) (Q : ℕ → ℕ → ℝ) (t x : ℕ) : ℝ := ∑ s ∈ range 8192, dz (Z (x / 64)) (E (x / 64)) s t * (1 / 8) * Q s x
/-- and of the queries. -/
def dqT (Z E : ℕ → ℕ → ℕ → ℝ) (K : ℕ → ℕ → ℝ) (s x : ℕ) : ℝ := ∑ t ∈ range 8192, dz (Z (x / 64)) (E (x / 64)) s t * (1 / 8) * K t x

end Cert.Attn
-- ==== Proof.Lift.lean ====
/-
  The tile functions on tables of reals: a vector whose elements are the reals of a table goes to a vector whose elements
  are the reals of another.
-/
module

public import proofs.«01_k».proof.Proof.FwdBody
public import proofs.«01_k».proof.Proof.BwdBody
public import proofs.«01_k».proof.Proof.Spec
public import Idealize.ShloMosaic.Lib.Pointwise
public import Idealize.ShloMosaic.PureOps.Ideal

@[expose] public section

set_option maxRecDepth 16384
set_option maxHeartbeats 400000

noncomputable section

namespace Cert.Attn

open Cert.KernelIdeal Cert.KernelIdeal.Gen Cert.KernelIdeal.Own
open Idealize.ShloMosaic Finset

/-- The elements of a matrix are the reals of a table. -/
def R2 {M N : ℕ} (x : (⟨2, ![M, N]⟩ : Shape).Idx → EReal) (f : ℕ → ℕ → ℝ) : Prop := ∀ i j, x (ix2 i j) = ((f i.val j.val : ℝ) : EReal)

/-- The elements of a column are the reals of a list. -/
def R1 {M : ℕ} (x : (⟨2, ![M, 1]⟩ : Shape).Idx → EReal) (f : ℕ → ℝ) : Prop := ∀ i, x (ix2 i 0) = ((f i.val : ℝ) : EReal)

theorem R2.congr {M N : ℕ} {x : (⟨2, ![M, N]⟩ : Shape).Idx → EReal} {f g : ℕ → ℕ → ℝ} (h : R2 x f)
    (e : ∀ i < M, ∀ j < N, f i j = g i j) : R2 x g := fun i j => by rw [h i j, e i.val i.isLt j.val j.isLt]

theorem R1.congr {M : ℕ} {x : (⟨2, ![M, 1]⟩ : Shape).Idx → EReal} {f g : ℕ → ℝ} (h : R1 x f)
    (e : ∀ i < M, f i = g i) : R1 x g := fun i => by rw [h i, e i.val i.isLt]

theorem coe_sum {α : Type*} (s : Finset α) (f : α → ℝ) : ∑ k ∈ s, ((f k : ℝ) : EReal) = ((∑ k ∈ s, f k : ℝ) : EReal) := by
  classical
  induction s using Finset.induction_on with
  | empty => simp
  | insert a s ha ih => rw [sum_insert ha, sum_insert ha, ih, EReal.coe_add]

theorem coe_sum_fin (n : ℕ) (f : ℕ → ℝ) : ∑ k : Fin n, ((f k.val : ℝ) : EReal) = ((∑ k ∈ range n, f k : ℝ) : EReal) := by
  rw [coe_sum, Finset.sum_range]

theorem exp_coe (r : ℝ) : Ideal.exp ((r : ℝ) : EReal) = ((Real.exp r : ℝ) : EReal) := rfl

theorem log_coe (r : ℝ) (h : 0 < r) : Ideal.log ((r : ℝ) : EReal) = ((Real.log r : ℝ) : EReal) := by
  show (if r ≤ 0 then (⊥ : EReal) else _) = _
  rw [if_neg (not_le.mpr h)]

theorem bits_zero : Ideal.ofBits .f32 0x00000000#32 = 0 := Ideal.ofBits_zero_f32
theorem zero_coe : (0 : EReal) = ((0 : ℝ) : EReal) := rfl

theorem abs_coe (r : ℝ) : max ((r : ℝ) : EReal) (-((r : ℝ) : EReal)) = ((|r| : ℝ) : EReal) := by
  rw [← EReal.coe_neg]; exact (EReal.coe_strictMono.monotone.map_max).symm

theorem min_coe (r s : ℝ) : min ((r : ℝ) : EReal) ((s : ℝ) : EReal) = ((min r s : ℝ) : EReal) :=
  (EReal.coe_strictMono.monotone.map_min).symm

theorem cmpi_slt_ofNat (a b : ℕ) (ha : a < 8192) (hb : b < 8192) :
    IntOp.cmpi .slt (BitVec.ofNat 32 a) (BitVec.ofNat 32 b) = if a < b then 1#1 else 0#1 := by
  have e : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 a).slt (BitVec.ofNat 32 b)) = _
  rw [BitVec.slt_eq_decide, e a ha, e b hb]
  by_cases h : a < b
  · rw [if_pos h, decide_eq_true (by exact_mod_cast h)]; rfl
  · rw [if_neg h, decide_eq_false (by exact_mod_cast h)]; rfl

/-- The constant below which a sweep stops is the least extended real. -/
theorem dead_eq : (Named.named κ "dead" 0xC2D40000#32 : Ideal .f32) = (⊥ : EReal) := IdealRules.named_const.ideal_named_scalar _ _ _ _ rfl

section Lift

variable {q k : FVec Ideal S256x128 .bf16} {tri : FVec Ideal S256x256 .bf16} {z x y lbv lomv w : FVec Ideal S256x256 .f32}
variable {fq fk ft f g fl fm fw : ℕ → ℕ → ℝ} {c c' total : FVec Ideal S256x1 .f32} {fc fc' ftot : ℕ → ℝ}

theorem lift_z (hq : R2 q fq) (hk : R2 k fk) : R2 (zOf q k) (fun i j => ∑ l ∈ range 128, fq i l * fk j l) := by
  intro i j
  pointwise [zOf]
  rw [← coe_sum_fin 128 (fun l => fq i.val l * fk j.val l)]
  exact Finset.sum_congr rfl fun l _ => by rw [hq i l, hk j l, EReal.coe_mul]

theorem lift_lb (h : R2 z f) : R2 (lbOf z) (fun i j => lb (f i j)) := by
  intro i j
  pointwise [lbOf]
  rw [h i j, show FloatOps.absf (F := Ideal) (φ := .f32) ((f i.val j.val : ℝ) : EReal) = ((|f i.val j.val| : ℝ) : EReal) from abs_coe _,
    zero_coe, min_coe, ← EReal.coe_sub, zero_sub, exp_coe, ← EReal.coe_one, ← EReal.coe_add, log_coe _ (by positivity), ← EReal.coe_sub]
  rfl

theorem lift_sub (h : R2 x f) (h' : R2 y g) : R2 (subf x y) (fun i j => f i j - g i j) := by
  intro i j
  pointwise
  rw [h i j, h' i j, EReal.coe_sub]

theorem lift_tri (ht : R2 tri ft) (h : R2 x f) : R2 (triDot tri x) (fun i j => ∑ m ∈ range 256, f i m * ft m j) := by
  intro i j
  pointwise [triDot]
  rw [← coe_sum_fin 256 (fun m => f i.val m * ft m j.val)]
  rw [show (∑ m : Fin 256, (x (ix2 i m) - x (ix2 i m)) * tri (ix2 m j)) = 0 from
    Finset.sum_eq_zero fun m _ => by rw [h i m, ← EReal.coe_sub, sub_self, EReal.coe_zero, zero_mul], add_zero]
  exact Finset.sum_congr rfl fun m _ => by rw [h i m, ht m j, EReal.coe_mul]

theorem lift_addc (hc : R1 c fc) (h : R2 x f) : R1 (addc c x) (fun i => fc i + ∑ m ∈ range 256, f i m) := by
  intro i
  pointwise [addc]
  rw [hc i, EReal.coe_add, ← coe_sum_fin 256 (fun m => f i.val m)]
  exact congrArg _ (Finset.sum_congr rfl fun m _ => h i m)

theorem lift_w (ht : R2 tri ft) (hl : R2 lbv fl) (hm : R2 lomv fm) (hc : R1 c fc) :
    R2 (wOf tri lbv lomv c) (fun i j => Real.exp (fl i j + ((∑ m ∈ range 256, fm i m * ft m j) + fc i))) := by
  intro i j
  have e := lift_tri ht hm i j
  pointwise [wOf]
  rw [hl i j, e, hc i, ← EReal.coe_add, ← EReal.coe_add, exp_coe, add_assoc]

theorem lift_pv (h : R2 w fw) (hk : R2 k fk) : R2 (pvOf w k) (fun i l => ∑ m ∈ range 256, fw i m * fk m l) := by
  intro i l
  pointwise [pvOf]
  rw [← coe_sum_fin 256 (fun m => fw i.val m * fk m l.val)]
  exact Finset.sum_congr rfl fun m _ => by rw [h i m, hk m l, EReal.coe_mul]

theorem lift_tn (h : R2 w fw) (hk : R2 q fq) : R2 (tnOf w q) (fun m l => ∑ i ∈ range 256, fw i m * fq i l) := by
  intro m l
  pointwise [tnOf]
  rw [← coe_sum_fin 256 (fun i => fw i m.val * fq i l.val)]
  exact Finset.sum_congr rfl fun i _ => by rw [h i m, hk i l, EReal.coe_mul]

theorem cmask_apply (i j : Fin 256) : cmask (ix2 i j) = if j.val < i.val then 1#1 else 0#1 := by
  pointwise [cmask, k0_pay60]
  exact cmpi_slt_ofNat _ _ (by omega) (by omega)

theorem lift_selz (h : R2 x f) : R2 (selz cmask x) (fun i j => if j < i then f i j else 0) := by
  intro i j
  have e := cmask_apply i j
  pointwise [selz]
  rw [e]
  by_cases hij : j.val < i.val
  · rw [if_pos hij, if_pos hij]; exact (if_pos rfl).trans (h i j)
  · rw [if_neg hij, if_neg hij]; exact if_neg (by decide)

theorem lift_g (h : R2 x f) (h' : R2 y g) : R2 (gOf x y) (fun i j => f i j * g i j) := by
  intro i j
  pointwise [gOf]
  rw [h i j, h' i j, EReal.coe_mul]

theorem lift_dz (ht : R2 tri ft) (hl : R2 lbv fl) (h : R2 x f) (htot : R1 total ftot) (hc : R1 c fc) :
    R2 (dzOf tri lbv x total c) (fun i j => f i j * (1 - Real.exp (fl i j))
      - Real.exp (fl i j) * (ftot i - ((∑ m ∈ range 256, f i m * ft m j) + fc i))) := by
  intro i j
  have e := lift_tri ht h i j
  pointwise [dzOf]
  rw [hl i j, e, hc i, h i j, htot i, exp_coe, ← EReal.coe_one, ← EReal.coe_sub, ← EReal.coe_add, ← EReal.coe_sub, ← EReal.coe_mul, ← EReal.coe_mul, ← EReal.coe_sub]

theorem lift_add {M N : ℕ} {a b : FVec Ideal ⟨2, ![M, N]⟩ .f32} (h : R2 a f) (h' : R2 b g) : R2 (addf a b) (fun i j => f i j + g i j) := by
  intro i j
  pointwise
  rw [h i j, h' i j, EReal.coe_add]

theorem lift_blk {a : Vec Ideal S8192x128 .bf16} (h : R2 a f) (n : ℕ) (hn : n < 32) : R2 (blk (F := Ideal) a n) (fun i l => f (256 * n + i) l) := by
  intro i l
  have hi := i.isLt
  show a (ix2 _ l) = _
  rw [h _ l]
  show ((f ((256 * n + i.val) % 8192) l.val : ℝ) : EReal) = _
  rw [Nat.mod_eq_of_lt (by omega)]

theorem lift_blk32 {a : Vec Ideal S8192x128 .f32} (h : R2 a f) (n : ℕ) (hn : n < 32) : R2 (blk (F := Ideal) a n) (fun i l => f (256 * n + i) l) := by
  intro i l
  have hi := i.isLt
  show a (ix2 _ l) = _
  rw [h _ l]
  show ((f ((256 * n + i.val) % 8192) l.val : ℝ) : EReal) = _
  rw [Nat.mod_eq_of_lt (by omega)]

theorem lift_addBlk {a : Vec Ideal S8192x128 .f32} {b : FVec Ideal S256x128 .f32} (h : R2 a f) (h' : R2 b g) (n : ℕ) (hn : n < 32) :
    R2 (addBlk a n b) (fun t l => f t l + if 256 * n ≤ t ∧ t < 256 * n + 256 then g (t - 256 * n) l else 0) := by
  intro t l
  have ht := t.isLt
  have hl := l.isLt
  show addBlk a n b (ix2 t l) = ((f t.val l.val + if 256 * n ≤ t.val ∧ t.val < 256 * n + 256 then g (t.val - 256 * n) l.val else 0 : ℝ) : EReal)
  by_cases hc : 256 * n ≤ t.val ∧ t.val < 256 * n + 256
  · have e := (R2.congr (lift_add (lift_blk32 h n hn) h') (fun _ _ _ _ => rfl)) ⟨t.val - 256 * n, by omega⟩ l
    rw [if_pos hc]
    have hw : addBlk a n b (ix2 t l) = addf (shapeCast S256x128 (blk a n) shapeCasts_S256x128_S256x128) b (ix2 ⟨t.val - 256 * n, by omega⟩ l) := by
      refine (dif_pos ?_).trans (congrArg _ ?_)
      · intro i
        fin_cases i
        · exact hc
        · exact ⟨Nat.zero_le _, (Nat.zero_add 128).symm ▸ hl⟩
      · funext i
        fin_cases i
        · exact Fin.ext rfl
        · exact Fin.ext (Nat.sub_zero _)
    rw [hw]
    pointwise at e ⊢
    rw [e]
    rw [show 256 * n + (t.val - 256 * n) = t.val by omega]
  · rw [if_neg hc, add_zero]
    refine (dif_neg fun hall => hc ?_).trans (h t l)
    exact hall 0

theorem init_c : R1 (fInit (F := Ideal)).c (fun _ => 0) := by
  intro i
  pointwise [fInit]
  rfl
theorem init_a : R2 (fInit (F := Ideal)).a (fun _ _ => 0) := by
  intro i j
  pointwise [fInit]
  rfl
theorem zeroB_real : R2 (zeroB (F := Ideal)) (fun _ _ => 0) := by
  intro i j
  pointwise [zeroB]
  rfl

theorem alive0_real (h : R1 c fc) (h' : R1 c' fc') : alive0 c c' = 1#32 := by
  pointwise [alive0, k0_pay6]
  rw [dead_eq, decide_eq_true]
  · rfl
  · refine (Finset.lt_fold_max _).mpr (.inr ⟨ix4 0 0 0 0, Finset.mem_filter.mpr ⟨Finset.mem_univ _, ?_⟩, ?_⟩)
    · funext a; obtain rfl : a = 0 := Subsingleton.elim _ _; exact Subsingleton.elim (α := Fin 1) _ _
    · show (⊥ : EReal) < c (ix2 0 0)
      rw [h 0]; exact EReal.bot_lt_coe _
theorem alive1_real (h : R1 c fc) (h' : R1 c' fc') : alive1 c c' = 1#32 := by
  pointwise [alive1, k1_pay4]
  rw [dead_eq, decide_eq_true]
  · rfl
  · refine lt_max_of_lt_left ((Finset.lt_fold_max _).mpr (.inr ⟨(0, 0), Finset.mem_univ _, ?_⟩))
    show (⊥ : EReal) < c (ix2 0 0)
    rw [h 0]; exact EReal.bot_lt_coe _

end Lift

end Cert.Attn
-- ==== Proof.Sweep.lean ====
/-
  The two sweeps on tables of reals: after the blocks `≥ n` a head's running sums are the sums over the keys from `256 * n`
  on, so the whole sweep takes the sums over all keys.
-/
module

public import proofs.«01_k».proof.Proof.Lift

@[expose] public section

set_option maxRecDepth 16384
set_option maxHeartbeats 400000

noncomputable section

namespace Cert.Attn

open Cert.KernelIdeal Cert.KernelIdeal.Gen Cert.KernelIdeal.Own
open Idealize.ShloMosaic Finset

/-- The products of the rows of two tables of 128 columns. -/
def zt (X Y : ℕ → ℕ → ℝ) (s t : ℕ) : ℝ := ∑ l ∈ range 128, X s l * Y t l

/-- A tile's 256 rows of `w` applied to the rows of `X`. -/
def colsum (w X : ℕ → ℕ → ℝ) (j t l : ℕ) : ℝ := ∑ i ∈ range 256, w (256 * j + i) t * X (256 * j + i) l

section Tiles

variable {te ti : FVec Ideal S256x256 .bf16}
variable (hte : R2 te (fun m j => if j < m then 1 else 0)) (hti : R2 ti (fun m j => if j ≤ m then 1 else 0))
variable {q d k v : FVec Ideal S256x128 .bf16} {Q Dd K V : ℕ → ℕ → ℝ} {c cg total : FVec Ideal S256x1 .f32}
variable {lbv lomv g : FVec Ideal S256x256 .f32} {z D : ℕ → ℕ → ℝ} {j n : ℕ}

include hte in
theorem w_gen (hn : n < 32) (hl : R2 lbv (fun i m => lb (z (256 * j + i) (256 * n + m)))) (hm : R2 lomv (fun i m => lom z (256 * j + i) (256 * n + m)))
    (hc : R1 c (fun i => suf (lom z (256 * j + i)) (256 * (n + 1)))) :
    R2 (wOf te lbv lomv c) (fun i m => Real.exp (lb (z (256 * j + i) (256 * n + m)) + suf (lom z (256 * j + i)) (256 * n + m + 1))) :=
  (lift_w hte hl hm hc).congr fun i _ m hm' => by rw [suf_excl (lom z (256 * j + i)) n m hn hm']

include hti in
theorem dz_gen (hn : n < 32) (hl : R2 lbv (fun i m => lb (z (256 * j + i) (256 * n + m)))) (hg : R2 g (fun i m => gw z D (256 * j + i) (256 * n + m)))
    (htot : R1 total (fun i => suf (gw z D (256 * j + i)) 0)) (hc : R1 cg (fun i => suf (gw z D (256 * j + i)) (256 * (n + 1)))) :
    R2 (dzOf ti lbv g total cg) (fun i m => gw z D (256 * j + i) (256 * n + m) * (1 - Real.exp (lb (z (256 * j + i) (256 * n + m))))
      - Real.exp (lb (z (256 * j + i) (256 * n + m))) * (suf (gw z D (256 * j + i)) 0 - suf (gw z D (256 * j + i)) (256 * n + m))) :=
  (lift_dz hti hl hg htot hc).congr fun i _ m hm' => by rw [suf_incl (gw z D (256 * j + i)) n m hn hm']

theorem sum_next {f : ℕ → ℕ → ℝ} {x : FVec Ideal S256x256 .f32} (hn : n < 32) (hc : R1 c (fun i => suf (f (256 * j + i)) (256 * (n + 1))))
    (hx : R2 x (fun i m => f (256 * j + i) (256 * n + m))) : R1 (addc c x) (fun i => suf (f (256 * j + i)) (256 * n)) :=
  (lift_addc hc hx).congr fun i _ => (suf_blk (f (256 * j + i)) n hn).symm

variable (hq : R2 q (fun i l => Q (256 * j + i) l)) (hd : R2 d (fun i l => Dd (256 * j + i) l))
variable (hk : R2 k (fun i l => K (256 * n + i) l)) (hv : R2 v (fun i l => V (256 * n + i) l))

include hq hk in
theorem z_tile : R2 (zOf q k) (fun i m => zt Q K (256 * j + i) (256 * n + m)) := lift_z hq hk

include hq hk in
theorem lb_tile : R2 (lbOf (zOf q k)) (fun i m => lb (zt Q K (256 * j + i) (256 * n + m))) := lift_lb (lift_z hq hk)

include hq hk in
theorem lom_plain (h : n < j) : R2 (lomOf (zOf q k)) (fun i m => lom (zt Q K) (256 * j + i) (256 * n + m)) :=
  (lift_sub (lift_lb (lift_z hq hk)) (lift_z hq hk)).congr fun i _ m hm => by unfold lom; rw [if_pos (by omega)]; rfl

include hq hk in
theorem lom_mask (h : n = j) : R2 (selz cmask (lomOf (zOf q k))) (fun i m => lom (zt Q K) (256 * j + i) (256 * n + m)) :=
  (lift_selz (lift_sub (lift_lb (lift_z hq hk)) (lift_z hq hk))).congr fun i _ m hm => by
    subst h; unfold lom
    by_cases h : m < i
    · rw [if_pos h, if_pos (by omega)]; rfl
    · rw [if_neg h, if_neg (by omega)]

include hte hq hk in
theorem w_plain (hj : j < 32) (h : n < j) (hc : R1 c (fun i => suf (lom (zt Q K) (256 * j + i)) (256 * (n + 1)))) :
    R2 (wPlain te q k c) (fun i m => wt (zt Q K) (256 * j + i) (256 * n + m)) :=
  (w_gen hte (by omega) (lb_tile hq hk) (lom_plain hq hk h) hc).congr fun i _ m hm => by unfold wt; rw [if_pos (by omega)]

include hte hq hk in
theorem w_mask (hj : j < 32) (h : n = j) (hc : R1 c (fun i => suf (lom (zt Q K) (256 * j + i)) (256 * (n + 1)))) :
    R2 (wMask te q k c) (fun i m => wt (zt Q K) (256 * j + i) (256 * n + m)) :=
  (lift_selz (w_gen hte (by omega) (lb_tile hq hk) (lom_mask hq hk h) hc)).congr fun i _ m hm => by
    subst h; unfold wt
    by_cases h : m < i
    · rw [if_pos h, if_pos (by omega)]
    · rw [if_neg h, if_neg (by omega)]

/-! ## The forward sweep -/

/-- A forward tile's sums are those over the block's keys. -/
structure FTileReal (t : FTile Ideal) (Q K V : ℕ → ℕ → ℝ) (j n : ℕ) : Prop where
  c : R1 t.c (fun i => suf (lom (zt Q K) (256 * j + i)) (256 * n))
  pv : R2 t.pv (fun i l => ∑ m ∈ range 256, wt (zt Q K) (256 * j + i) (256 * n + m) * V (256 * n + m) l)

include hte hq hk hv in
theorem fPlain_real (hj : j < 32) (h : n < j) (hc : R1 c (fun i => suf (lom (zt Q K) (256 * j + i)) (256 * (n + 1)))) :
    FTileReal (fPlain te q k v c) Q K V j n :=
  ⟨sum_next (by omega) hc (lom_plain hq hk h), lift_pv (w_plain hte hq hk hj h hc) hv⟩

include hte hq hk hv in
theorem fMask_real (hj : j < 32) (h : n = j) (hc : R1 c (fun i => suf (lom (zt Q K) (256 * j + i)) (256 * (n + 1)))) :
    FTileReal (fMask te q k v c) Q K V j n :=
  ⟨sum_next (by omega) hc (lom_mask hq hk h), lift_pv (w_mask hte hq hk hj h hc) hv⟩

/-- A head's forward state after the blocks `≥ n`. -/
structure FHeadReal (s : FHead Ideal) (Q K V : ℕ → ℕ → ℝ) (j n : ℕ) : Prop where
  c : R1 s.c (fun i => suf (lom (zt Q K) (256 * j + i)) (256 * n))
  a : R2 s.a (fun i l => suf (fun t => wt (zt Q K) (256 * j + i) t * V t l) (256 * n))

theorem fInit_real : FHeadReal fInit Q K V j (j + 1) where
  c := init_c.congr fun i hi => (suf_zero _ _ fun t ht => lom_of_le _ (by omega)).symm
  a := init_a.congr fun i hi l _ => (suf_zero _ _ fun t ht => by rw [wt_of_le _ (by omega), zero_mul]).symm

theorem a_next {a pv : FVec Ideal S256x128 .f32} {f : ℕ → ℕ → ℝ} (hn : n < 32) (h : R2 a (fun i l => suf (fun t => f (256 * j + i) t * V t l) (256 * (n + 1))))
    (hp : R2 pv (fun i l => ∑ m ∈ range 256, f (256 * j + i) (256 * n + m) * V (256 * n + m) l)) :
    R2 (addf a pv) (fun i l => suf (fun t => f (256 * j + i) t * V t l) (256 * n)) :=
  (lift_add h hp).congr fun i _ l _ => (suf_blk _ n hn).symm

theorem a_next2 {a p1 p2 : FVec Ideal S256x128 .f32} {f : ℕ → ℕ → ℝ} (hn : n + 1 < 32)
    (h : R2 a (fun i l => suf (fun t => f (256 * j + i) t * V t l) (256 * (n + 1 + 1))))
    (h1 : R2 p1 (fun i l => ∑ m ∈ range 256, f (256 * j + i) (256 * (n + 1) + m) * V (256 * (n + 1) + m) l))
    (h2 : R2 p2 (fun i l => ∑ m ∈ range 256, f (256 * j + i) (256 * n + m) * V (256 * n + m) l)) :
    R2 (addf a (addf p1 p2)) (fun i l => suf (fun t => f (256 * j + i) t * V t l) (256 * n)) :=
  (lift_add h (lift_add h1 h2)).congr fun i _ l _ => by
    rw [suf_blk _ n (by omega), suf_blk _ (n + 1) hn]; ring

end Tiles

section Forward

variable {te : FVec Ideal S256x256 .bf16} (hte : R2 te (fun m j => if j < m then 1 else 0))
variable {Kx Vx : Vec Ideal S8192x128 .bf16} {K V : ℕ → ℕ → ℝ} (hK : R2 Kx K) (hV : R2 Vx V)
variable {q : FVec Ideal S256x128 .bf16} {Q : ℕ → ℕ → ℝ} {j n : ℕ} (hj : j < 32) (hq : R2 q (fun i l => Q (256 * j + i) l))

include hte hK hV hj hq in
theorem fStep_real {s : FHead Ideal} (h : n < j) (hs : FHeadReal s Q K V j (n + 1)) : FHeadReal (fStep te q (blk Kx n) (blk Vx n) s) Q K V j n :=
  have t := fPlain_real hte hq (lift_blk hK n (by omega)) (lift_blk hV n (by omega)) hj h hs.c
  ⟨t.c, a_next (by omega) hs.a t.pv⟩

include hte hK hV hj hq in
theorem fDiag_real : FHeadReal (fDiag te q (blk Kx j) (blk Vx j) fInit) Q K V j j :=
  have t := fMask_real hte hq (lift_blk hK j hj) (lift_blk hV j hj) hj rfl (fInit_real (V := V)).c
  ⟨t.c, a_next hj (fInit_real (Q := Q) (K := K)).a t.pv⟩

include hte hK hV hj hq in
theorem fTwo_real (h : j = n + 1) : FHeadReal (fTwo te q (blk Kx j) (blk Vx j) (blk Kx n) (blk Vx n) fInit) Q K V j n := by
  subst h
  have t := fMask_real hte hq (lift_blk hK (n + 1) hj) (lift_blk hV (n + 1) hj) hj rfl (fInit_real (V := V)).c
  have t' := fPlain_real hte hq (lift_blk hK n (by omega)) (lift_blk hV n (by omega)) hj (Nat.lt_succ_self n) t.c
  exact ⟨t'.c, a_next2 hj (fInit_real (Q := Q) (K := K)).a t.pv t'.pv⟩

variable {q1 : FVec Ideal S256x128 .bf16} {Q1 : ℕ → ℕ → ℝ} (hq1 : R2 q1 (fun i l => Q1 (256 * j + i) l))

theorem live_pos : Scalar.cmpi .sgt (1#32 : BitVec 32) 0#32 = 1#1 := by decide

include hte hK hV hj hq hq1 in
theorem fLoop_real (h : n ≤ j) (s : FHead Ideal × FHead Ideal) (h0 : FHeadReal s.1 Q K V j n) (h1 : FHeadReal s.2 Q1 K V j n) :
    FHeadReal (fLoop te q q1 Kx Vx n 1#32 s).1 Q K V j 0 ∧ FHeadReal (fLoop te q q1 Kx Vx n 1#32 s).2 Q1 K V j 0 := by
  induction n generalizing s with
  | zero => exact ⟨h0, h1⟩
  | succ n ih =>
    have e0 := fStep_real hte hK hV hj hq (by omega) h0
    have e1 := fStep_real hte hK hV hj hq1 (by omega) h1
    rw [fLoop, if_pos live_pos, alive0_real (c := (fTrip te q q1 Kx Vx n s).1.c) (c' := (fTrip te q q1 Kx Vx n s).2.c) e0.c e1.c]
    exact ih (by omega) _ e0 e1

include hte hK hV hj in
theorem fTile_real {x : FVec Ideal S256x128 .bf16} (hq : R2 (k0_pay56 (F := Ideal) x) (fun i l => Q (256 * j + i) l)) (hq1 : R2 (k0_pay57 (F := Ideal) x) (fun i l => Q1 (256 * j + i) l)) :
    FHeadReal (fTile te x Kx Vx j).1 Q K V j 0 ∧ FHeadReal (fTile te x Kx Vx j).2 Q1 K V j 0 := by
  have key : FHeadReal (fStart te (k0_pay56 x) (k0_pay57 x) Kx Vx j).1 Q K V j (j - 1) ∧ FHeadReal (fStart te (k0_pay56 x) (k0_pay57 x) Kx Vx j).2 Q1 K V j (j - 1) := by
    unfold fStart
    by_cases h : j = 0
    · rw [if_pos h]
      subst h
      exact ⟨fDiag_real hte hK hV hj hq, fDiag_real hte hK hV hj hq1⟩
    · rw [if_neg h]
      exact ⟨fTwo_real hte hK hV hj hq (by omega), fTwo_real hte hK hV hj hq1 (by omega)⟩
  unfold fTile
  rw [alive0_real key.1.c key.2.c]
  exact fLoop_real hte hK hV hj hq hq1 (by omega) _ key.1 key.2

end Forward

/-! ## The backward sweep -/

/-- A backward tile's sums are those over the block's keys. -/
structure BTileReal (t : BTile Ideal) (Q Dd K V : ℕ → ℕ → ℝ) (j n : ℕ) : Prop where
  cl : R1 t.cl (fun i => suf (lom (zt Q K) (256 * j + i)) (256 * n))
  cg : R1 t.cg (fun i => suf (gw (zt Q K) (zt Dd V) (256 * j + i)) (256 * n))
  dq : R2 t.dq (fun i l => ∑ m ∈ range 256, dz (zt Q K) (zt Dd V) (256 * j + i) (256 * n + m) * K (256 * n + m) l)
  dk : R2 t.dk (fun m l => colsum (dz (zt Q K) (zt Dd V)) Q j (256 * n + m) l)
  dv : R2 t.dv (fun m l => colsum (wt (zt Q K)) Dd j (256 * n + m) l)

/-- A head's inputs to the backward sweep. -/
structure BInReal (i : BIn Ideal) (Q Dd K V : ℕ → ℕ → ℝ) (j : ℕ) : Prop where
  q : R2 i.q (fun r l => Q (256 * j + r) l)
  d : R2 i.d (fun r l => Dd (256 * j + r) l)
  total : R1 i.total (fun r => suf (gw (zt Q K) (zt Dd V) (256 * j + r)) 0)

/-- A head's backward state after the blocks `≥ n`. -/
structure BHeadReal (s : BHead Ideal) (Q Dd K V : ℕ → ℕ → ℝ) (j n : ℕ) : Prop where
  cl : R1 s.cl (fun i => suf (lom (zt Q K) (256 * j + i)) (256 * n))
  cg : R1 s.cg (fun i => suf (gw (zt Q K) (zt Dd V) (256 * j + i)) (256 * n))
  dq : R2 s.dq (fun i l => suf (fun t => dz (zt Q K) (zt Dd V) (256 * j + i) t * K t l) (256 * n))

/-- The backward state after the blocks `≥ n`, the resident arrays' values before the tile being `bk` and `bv`. -/
structure BStReal (s : BSt Ideal) (Q0 Q1 D0 D1 K V bk bv : ℕ → ℕ → ℝ) (j n : ℕ) : Prop where
  h0 : BHeadReal s.h0 Q0 D0 K V j n
  h1 : BHeadReal s.h1 Q1 D1 K V j n
  dk : R2 s.dk (fun t l => bk t l + if 256 * n ≤ t then colsum (dz (zt Q0 K) (zt D0 V)) Q0 j t l + colsum (dz (zt Q1 K) (zt D1 V)) Q1 j t l else 0)
  dv : R2 s.dv (fun t l => bv t l + if 256 * n ≤ t then colsum (wt (zt Q0 K)) D0 j t l + colsum (wt (zt Q1 K)) D1 j t l else 0)

section Backward

variable {te ti : FVec Ideal S256x256 .bf16} (hte : R2 te (fun m j => if j < m then 1 else 0)) (hti : R2 ti (fun m j => if j ≤ m then 1 else 0))
variable {Kx Vx : Vec Ideal S8192x128 .bf16} {K V : ℕ → ℕ → ℝ} (hK : R2 Kx K) (hV : R2 Vx V)
variable {i0 i1 i : BIn Ideal} {Q Dd Q0 Q1 D0 D1 bk bv : ℕ → ℕ → ℝ} {j n : ℕ} (hj : j < 32)
variable (hi : BInReal i Q Dd K V j) (h0 : BInReal i0 Q0 D0 K V j) (h1 : BInReal i1 Q1 D1 K V j)
variable {k v : FVec Ideal S256x128 .bf16} (hk : R2 k (fun i l => K (256 * n + i) l)) (hv : R2 v (fun i l => V (256 * n + i) l))
variable {c cg : FVec Ideal S256x1 .f32}

include hte hti hi hk hv in
theorem bPlain_real (hj : j < 32) (h : n < j) (hc : R1 c (fun i => suf (lom (zt Q K) (256 * j + i)) (256 * (n + 1))))
    (hg : R1 cg (fun i => suf (gw (zt Q K) (zt Dd V) (256 * j + i)) (256 * (n + 1)))) :
    BTileReal (bPlain te ti i.q i.d i.total k v c cg) Q Dd K V j n := by
  have w := w_plain hte hi.q hk hj h hc
  have g : R2 (gOf (zOf i.d v) (wPlain te i.q k c)) (fun i m => gw (zt Q K) (zt Dd V) (256 * j + i) (256 * n + m)) := lift_g (z_tile hi.d hv) w
  have e : R2 (dzOf ti (lbOf (zOf i.q k)) (gOf (zOf i.d v) (wPlain te i.q k c)) i.total cg) (fun i m => dz (zt Q K) (zt Dd V) (256 * j + i) (256 * n + m)) :=
    (dz_gen hti (by omega) (lb_tile hi.q hk) g hi.total hg).congr fun i _ m hm => by unfold dz; rw [if_pos (by omega)]
  exact ⟨sum_next (by omega) hc (lom_plain hi.q hk h), sum_next (by omega) hg g, lift_pv e hk, lift_tn e hi.q, lift_tn w hi.d⟩

include hte hti hi hk hv in
theorem bMask_real (hj : j < 32) (h : n = j) (hc : R1 c (fun i => suf (lom (zt Q K) (256 * j + i)) (256 * (n + 1))))
    (hg : R1 cg (fun i => suf (gw (zt Q K) (zt Dd V) (256 * j + i)) (256 * (n + 1)))) :
    BTileReal (bMask te ti i.q i.d i.total k v c cg) Q Dd K V j n := by
  have w := w_mask hte hi.q hk hj h hc
  have g : R2 (gOf (zOf i.d v) (wMask te i.q k c)) (fun i m => gw (zt Q K) (zt Dd V) (256 * j + i) (256 * n + m)) := lift_g (z_tile hi.d hv) w
  have e : R2 (selz cmask (dzOf ti (lbOf (zOf i.q k)) (gOf (zOf i.d v) (wMask te i.q k c)) i.total cg)) (fun i m => dz (zt Q K) (zt Dd V) (256 * j + i) (256 * n + m)) :=
    (lift_selz (dz_gen hti (by omega) (lb_tile hi.q hk) g hi.total hg)).congr fun i _ m hm => by
      subst h; unfold dz
      by_cases h : m < i
      · rw [if_pos h, if_pos (by omega)]
      · rw [if_neg h, if_neg (by omega)]
  exact ⟨sum_next (by omega) hc (lom_mask hi.q hk h), sum_next (by omega) hg g, lift_pv e hk, lift_tn e hi.q, lift_tn w hi.d⟩

theorem bInit_real : BHeadReal bInit Q Dd K V j (j + 1) where
  cl := init_c.congr fun i hi => (suf_zero _ _ fun t ht => lom_of_le _ (by omega)).symm
  cg := init_c.congr fun i hi => (suf_zero _ _ fun t ht => gw_of_le _ _ (by omega)).symm
  dq := init_a.congr fun i hi l _ => (suf_zero _ _ fun t ht => by rw [dz_of_le _ _ (by omega), zero_mul]).symm

theorem colsum_dz_of_le {z D X : ℕ → ℕ → ℝ} {t l : ℕ} (h : 256 * (j + 1) ≤ t) : colsum (dz z D) X j t l = 0 :=
  sum_eq_zero fun i hi => by have := mem_range.mp hi; rw [dz_of_le _ _ (by omega), zero_mul]
theorem colsum_wt_of_le {z X : ℕ → ℕ → ℝ} {t l : ℕ} (h : 256 * (j + 1) ≤ t) : colsum (wt z) X j t l = 0 :=
  sum_eq_zero fun i hi => by have := mem_range.mp hi; rw [wt_of_le _ (by omega), zero_mul]

/-- A resident array after one more block. -/
theorem res_next {x : Vec Ideal S8192x128 .f32} {b0 b1 : FVec Ideal S256x128 .f32} {b f0 f1 : ℕ → ℕ → ℝ} (hn : n < 32)
    (hx : R2 x (fun t l => b t l + if 256 * (n + 1) ≤ t then f0 t l + f1 t l else 0))
    (hb0 : R2 b0 (fun m l => f0 (256 * n + m) l)) (hb1 : R2 b1 (fun m l => f1 (256 * n + m) l)) :
    R2 (addBlk x n (addf b0 b1)) (fun t l => b t l + if 256 * n ≤ t then f0 t l + f1 t l else 0) :=
  (lift_addBlk hx (lift_add hb0 hb1) n hn).congr fun t _ l _ => by
    show (b t l + if 256 * (n + 1) ≤ t then f0 t l + f1 t l else 0) + (if 256 * n ≤ t ∧ t < 256 * n + 256 then f0 (256 * n + (t - 256 * n)) l + f1 (256 * n + (t - 256 * n)) l else 0) = _
    by_cases h1 : 256 * (n + 1) ≤ t
    · rw [if_pos h1, if_neg (by omega), if_pos (by omega), add_zero]
    · rw [if_neg h1, add_zero]
      by_cases h2 : 256 * n ≤ t
      · rw [if_pos ⟨h2, by omega⟩, if_pos h2, show 256 * n + (t - 256 * n) = t by omega]
      · rw [if_neg (by omega), if_neg h2]

theorem head_take {s : BHead Ideal} {t : BTile Ideal} (hn : n < 32) (hs : BHeadReal s Q Dd K V j (n + 1)) (ht : BTileReal t Q Dd K V j n) :
    BHeadReal (s.take t) Q Dd K V j n := ⟨ht.cl, ht.cg, a_next hn hs.dq ht.dq⟩

include hte hti hK hV hj h0 h1 in
theorem bTrip_real {s : BSt Ideal} (h : n < j) (hs : BStReal s Q0 Q1 D0 D1 K V bk bv j (n + 1)) :
    BStReal (bTrip te ti i0 i1 Kx Vx n s) Q0 Q1 D0 D1 K V bk bv j n :=
  have hn : n < 32 := by omega
  have t0 := bPlain_real hte hti h0 (lift_blk hK n hn) (lift_blk hV n hn) hj h hs.h0.cl hs.h0.cg
  have t1 := bPlain_real hte hti h1 (lift_blk hK n hn) (lift_blk hV n hn) hj h hs.h1.cl hs.h1.cg
  ⟨head_take hn hs.h0 t0, head_take hn hs.h1 t1, res_next hn hs.dk t0.dk t1.dk, res_next hn hs.dv t0.dv t1.dv⟩

include hte hti hK hV hj h0 h1 in
theorem bLoop_real (h : n ≤ j) (s : BSt Ideal) (hs : BStReal s Q0 Q1 D0 D1 K V bk bv j n) :
    BStReal (bLoop te ti i0 i1 Kx Vx n 1#32 s) Q0 Q1 D0 D1 K V bk bv j 0 := by
  induction n generalizing s with
  | zero => exact hs
  | succ n ih =>
    have e := bTrip_real hte hti hK hV hj h0 h1 (by omega) hs
    rw [bLoop, if_pos live_pos, alive1_real e.h0.cl e.h1.cl]
    exact ih (by omega) _ e

include hte hti hK hV hj hi in
theorem bOn_real : BTileReal (bOn te ti i Kx Vx j) Q Dd K V j j :=
  bMask_real hte hti hi (lift_blk hK j hj) (lift_blk hV j hj) hj rfl (bInit_real (Dd := Dd) (V := V)).cl bInit_real.cg

include hte hti hK hV hj hi in
theorem bNext_real (h : j = n + 1) : BTileReal (bNext te ti i Kx Vx j) Q Dd K V j n := by
  subst h
  have t := bOn_real hte hti hK hV hj hi
  exact bPlain_real hte hti hi (lift_blk hK n (by omega)) (lift_blk hV n (by omega)) hj (Nat.lt_succ_self n) t.cl t.cg

include hte hti hK hV hj hi in
theorem bTwo_real (h : j = n + 1) : BHeadReal (bTwo te ti i Kx Vx j) Q Dd K V j n := by
  have t := bOn_real hte hti hK hV hj hi
  have t' := bNext_real hte hti hK hV hj hi h
  subst h
  exact ⟨t'.cl, t'.cg, a_next2 hj (bInit_real (Q := Q) (Dd := Dd)).dq t.dq t'.dq⟩

theorem res_start_dk {x : Vec Ideal S8192x128 .f32} {b z0 d0 x0 z1 d1 x1 : ℕ → ℕ → ℝ} (h : R2 x b) :
    R2 x (fun t l => b t l + if 256 * (j + 1) ≤ t then colsum (dz z0 d0) x0 j t l + colsum (dz z1 d1) x1 j t l else 0) :=
  h.congr fun t _ l _ => by
    by_cases ht : 256 * (j + 1) ≤ t
    · rw [if_pos ht, colsum_dz_of_le ht, colsum_dz_of_le ht, add_zero, add_zero]
    · rw [if_neg ht, add_zero]
theorem res_start_dv {x : Vec Ideal S8192x128 .f32} {b z0 x0 z1 x1 : ℕ → ℕ → ℝ} (h : R2 x b) :
    R2 x (fun t l => b t l + if 256 * (j + 1) ≤ t then colsum (wt z0) x0 j t l + colsum (wt z1) x1 j t l else 0) :=
  h.congr fun t _ l _ => by
    by_cases ht : 256 * (j + 1) ≤ t
    · rw [if_pos ht, colsum_wt_of_le ht, colsum_wt_of_le ht, add_zero, add_zero]
    · rw [if_neg ht, add_zero]

include hte hti hK hV hj h0 h1 in
/-- A tile's whole sweep: the first tile starts the resident arrays at zero. -/
theorem bTile_real {dk dv : Vec Ideal S8192x128 .f32} (hdk : R2 dk bk) (hdv : R2 dv bv) (hz : j = 0 → (∀ t l, bk t l = 0) ∧ ∀ t l, bv t l = 0) :
    BStReal (bTile te ti i0 i1 Kx Vx j dk dv) Q0 Q1 D0 D1 K V bk bv j 0 := by
  have key : BStReal (bStart te ti i0 i1 Kx Vx j dk dv) Q0 Q1 D0 D1 K V bk bv j (j - 1) := by
    have t0 := bOn_real hte hti hK hV hj h0
    have t1 := bOn_real hte hti hK hV hj h1
    unfold bStart
    by_cases h : j = 0
    · rw [if_pos h]
      obtain ⟨zk, zv⟩ := hz h
      subst h
      exact ⟨head_take hj bInit_real t0, head_take hj bInit_real t1,
        res_next hj (res_start_dk (zeroB_real.congr fun t _ l _ => (zk t l).symm)) t0.dk t1.dk,
        res_next hj (res_start_dv (zeroB_real.congr fun t _ l _ => (zv t l).symm)) t0.dv t1.dv⟩
    · rw [if_neg h]
      obtain ⟨m, rfl⟩ : ∃ m, j = m + 1 := ⟨j - 1, by omega⟩
      have t0' := bNext_real hte hti hK hV hj h0 rfl
      have t1' := bNext_real hte hti hK hV hj h1 rfl
      exact ⟨bTwo_real hte hti hK hV hj h0 rfl, bTwo_real hte hti hK hV hj h1 rfl,
        res_next (by omega) (res_next hj (res_start_dk hdk) t0.dk t1.dk) t0'.dk t1'.dk,
        res_next (by omega) (res_next hj (res_start_dv hdv) t0.dv t1.dv) t0'.dv t1'.dv⟩
  unfold bTile
  rw [alive1_real key.h0.cl key.h1.cl]
  exact bLoop_real hte hti hK hV hj h0 h1 (by omega) _ key

end Backward

end Cert.Attn
-- ==== Proof.Lanes.lean ====
/-
  The two heads of a pair of lanes' blocks: the masked inputs, the rows' totals, and the outputs put side by side.
-/
module

public import proofs.«01_k».proof.Proof.Sweep

@[expose] public section

set_option maxRecDepth 16384

noncomputable section

namespace Cert.Attn

open Finset
open Cert.KernelIdeal Cert.KernelIdeal.Own Cert.KernelIdeal.Gen
open Idealize.ShloMosaic

/-- The lanes of the pair's first head, -/
def lo (X : ℕ → ℕ → ℝ) (s l : ℕ) : ℝ := if l < 64 then X s l else 0
/-- and of its second. -/
def hi (X : ℕ → ℕ → ℝ) (s l : ℕ) : ℝ := if 64 ≤ l then X s l else 0

theorem cmpi_sge_ofNat (a b : ℕ) (ha : a < 8192) (hb : b < 8192) :
    IntOp.cmpi .sge (BitVec.ofNat 32 a) (BitVec.ofNat 32 b) = if b ≤ a then 1#1 else 0#1 := by
  have e : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 b).sle (BitVec.ofNat 32 a)) = _
  rw [BitVec.sle_eq_decide, e a ha, e b hb]
  by_cases h : b ≤ a
  · rw [if_pos h, decide_eq_true (by exact_mod_cast h)]; rfl
  · rw [if_neg h, decide_eq_false (by exact_mod_cast h)]; rfl

theorem scale_eq : Ideal.ofBits .f32 0x3E000000#32 = ((1 / 8 : ℝ) : EReal) := by
  simp [Ideal.ofBits, Ideal.ieee, -EReal.coe_mul]; norm_num

/-- A choice by a lane's side of the pair. -/
theorem select_if {p : Prop} [Decidable p] (x y : EReal) : Scalar.select (if p then 1#1 else 0#1) x y = if p then x else y := by
  by_cases h : p
  · rw [if_pos h, if_pos h]; exact if_pos rfl
  · rw [if_neg h, if_neg h]; exact if_neg (by decide)

theorem lanes0 (l : Fin 128) : k0_pay54 (ix2 0 l) = if l.val < 64 then 1#1 else 0#1 := by
  pointwise [k0_pay54]
  exact cmpi_slt_ofNat l.val 64 (by omega) (by omega)
theorem lanes1 (l : Fin 128) : k1_pay123 (ix2 0 l) = if l.val < 64 then 1#1 else 0#1 := by
  pointwise [k1_pay123]
  exact cmpi_slt_ofNat l.val 64 (by omega) (by omega)
theorem lanes2 (l : Fin 128) : k1_pay124 (ix2 0 l) = if 64 ≤ l.val then 1#1 else 0#1 := by
  pointwise [k1_pay124]
  exact cmpi_sge_ofNat l.val 64 (by omega) (by omega)
theorem lanes3 (i : Fin 256) (l : Fin 128) : k1_pay133 (ix2 i l) = if 64 ≤ l.val then 1#1 else 0#1 := by
  pointwise [k1_pay133]
  exact lanes2 l

section

variable {d o : FVec Ideal S256x128 .f32} {q : FVec Ideal S256x128 .bf16} {f g : ℕ → ℕ → ℝ}

theorem in0 (h : R2 q f) (i : Fin 256) (l : Fin 128) : k0_pay55 (F := Ideal) q (ix2 i l) = ((f i.val l.val : ℝ) : EReal) := by
  pointwise [k0_pay55]
  exact h i l
theorem in1 (h : R2 q f) (i : Fin 256) (l : Fin 128) : k1_pay125 (F := Ideal) q (ix2 i l) = ((f i.val l.val : ℝ) : EReal) := by
  pointwise [k1_pay125]
  exact h i l
theorem in2 (h : R2 d f) (i : Fin 256) (l : Fin 128) : k1_pay126 (F := Ideal) d (ix2 i l) = ((f i.val l.val : ℝ) : EReal) := by
  pointwise [k1_pay126]
  exact h i l
theorem in3 (h : R2 d f) (h' : R2 o g) (i : Fin 256) (l : Fin 128) :
    k1_pay127 (F := Ideal) d o (ix2 i l) = ((f i.val l.val * g i.val l.val : ℝ) : EReal) := by
  have e := in2 h i l
  pointwise [k1_pay127]
  rw [e, h' i l, EReal.coe_mul]

theorem if_lo (f : ℕ → ℕ → ℝ) (i l : ℕ) : (if l < 64 then ((f i l : ℝ) : EReal) else 0) = ((lo f i l : ℝ) : EReal) := by
  unfold lo; split_ifs <;> rfl
theorem if_hi (f : ℕ → ℕ → ℝ) (i l : ℕ) : (if 64 ≤ l then ((f i l : ℝ) : EReal) else 0) = ((hi f i l : ℝ) : EReal) := by
  unfold hi; split_ifs <;> rfl

theorem k0_lo (h : R2 q f) : R2 (k0_pay56 (F := Ideal) q) (lo f) := by
  intro i l
  pointwise [k0_pay56]
  rw [lanes0, select_if, in0 h, if_lo]
theorem k0_hi (h : R2 q f) : R2 (k0_pay57 (F := Ideal) q) (hi f) := by
  intro i l
  have e : IntOp.cmpi .sge (BitVec.ofNat 32 l.val) 64#32 = if 64 ≤ l.val then 1#1 else 0#1 := cmpi_sge_ofNat l.val 64 (by omega) (by omega)
  pointwise [k0_pay57]
  rw [e, select_if, in0 h, if_hi]
theorem k1_lo (h : R2 q f) : R2 (k1_pay128 (F := Ideal) q) (lo f) := by
  intro i l
  pointwise [k1_pay128]
  rw [lanes1, select_if, in1 h, if_lo]
theorem k1_hi (h : R2 q f) : R2 (k1_pay129 (F := Ideal) q) (hi f) := by
  intro i l
  pointwise [k1_pay129]
  rw [lanes2, select_if, in1 h, if_hi]
theorem k1_dlo (h : R2 d f) : R2 (k1_pay130 (F := Ideal) d) (lo f) := by
  intro i l
  pointwise [k1_pay130]
  rw [lanes1, select_if, in2 h, if_lo]
theorem k1_dhi (h : R2 d f) : R2 (k1_pay131 (F := Ideal) d) (hi f) := by
  intro i l
  pointwise [k1_pay131]
  rw [lanes2, select_if, in2 h, if_hi]
theorem total_lo (h : R2 d f) (h' : R2 o g) : R1 (k1_pay132 (F := Ideal) d o) (fun i => ∑ l ∈ range 128, lo f i l * g i l) := by
  intro i
  pointwise [k1_pay132]
  rw [← coe_sum_fin 128 (fun l => lo f i.val l * g i.val l)]
  refine sum_congr rfl fun l _ => ?_
  rw [lanes1, select_if, in3 h h', if_lo (fun i l => f i l * g i l)]
  unfold lo; split_ifs
  · rfl
  · rw [zero_mul]
theorem total_hi (h : R2 d f) (h' : R2 o g) :
    R1 (k1_pay134 (F := Ideal) (k1_pay127 d o) (Scalar.ofBits .f32 0x00000000#32) k1_pay133) (fun i => ∑ l ∈ range 128, hi f i l * g i l) := by
  intro i
  pointwise [k1_pay134]
  rw [← coe_sum_fin 128 (fun l => hi f i.val l * g i.val l)]
  refine sum_congr rfl fun l _ => ?_
  rw [lanes3, select_if, in3 h h', if_hi (fun i l => f i l * g i l)]
  unfold hi; split_ifs
  · rfl
  · rw [zero_mul]
theorem oOf_real {s : FHead Ideal × FHead Ideal} (h : R2 s.1.a f) (h' : R2 s.2.a g) : R2 (oOf s) (fun i l => if l < 64 then f i l else g i l) := by
  intro i l
  pointwise [oOf]
  rw [lanes0, select_if, h i l, h' i l]
  split_ifs <;> rfl
theorem dqOf_real {s : BSt Ideal} (h : R2 s.h0.dq f) (h' : R2 s.h1.dq g) : R2 (dqOf s) (fun i l => (if l < 64 then f i l else g i l) * (1 / 8)) := by
  intro i l
  pointwise [dqOf]
  rw [lanes1, select_if, h i l, h' i l, scale_eq, EReal.coe_mul]
  split_ifs <;> rfl

end

/-! ## A head's scores and totals -/

section

variable {Q D K V : ℕ → ℕ → ℝ}

theorem sum_lo (X Y : ℕ → ℕ → ℝ) (s t : ℕ) : zt (lo X) Y s t = ∑ l ∈ range 64, X s l * Y t l := by
  unfold zt
  rw [← sum_range_add_sum_Ico _ (show 64 ≤ 128 by omega), sum_eq_zero (s := Ico 64 128) fun l hl => by
    unfold lo; rw [if_neg (by have := mem_Ico.mp hl; omega), zero_mul], add_zero]
  exact sum_congr rfl fun l hl => by unfold lo; rw [if_pos (mem_range.mp hl)]

theorem sum_hi (X Y : ℕ → ℕ → ℝ) (s t : ℕ) : zt (hi X) Y s t = ∑ l ∈ range 64, X s (64 + l) * Y t (64 + l) := by
  unfold zt
  rw [← sum_range_add_sum_Ico _ (show 64 ≤ 128 by omega), sum_eq_zero (s := range 64) fun l hl => by
    unfold hi; rw [if_neg (by have := mem_range.mp hl; omega), zero_mul], zero_add, sum_Ico_eq_sum_range]
  exact sum_congr rfl fun l hl => by unfold hi; rw [if_pos (by omega)]

/-- The products of the output's gradient with the output add up to the weights' gradients times the weights. -/
theorem total_eq (E z : ℕ → ℕ → ℝ) (s : ℕ) (g : ℕ → ℝ) (hg : ∀ l < 128, E s l ≠ 0 → g l = suf (fun t => wt z s t * V t l) 0) :
    ∑ l ∈ range 128, E s l * g l = suf (gw z (zt E V) s) 0 := by
  have e : ∀ l ∈ range 128, E s l * g l = ∑ t ∈ Ico 0 8192, E s l * V t l * wt z s t := fun l hl => by
    by_cases h : E s l = 0
    · rw [h, zero_mul]; exact (sum_eq_zero fun t _ => by rw [zero_mul, zero_mul]).symm
    · rw [hg l (mem_range.mp hl) h, suf, mul_sum]
      exact sum_congr rfl fun t _ => by ring
  rw [sum_congr rfl e, sum_comm]
  unfold suf gw zt
  exact sum_congr rfl fun t _ => by rw [sum_mul]

end

end Cert.Attn
-- ==== Proof.Windows.lean ====
/-
  The blocks a grid point reads, as blocks of the arrays' tables: point `t` is tile `t % 32` of the pair of heads `t / 32`.
-/
module

public import proofs.«01_k».proof.Proof.Lanes
public import proofs.«01_k».proof.Proof.Run
public import Idealize.ShloMosaic.Lib.Pipeline.ValueKit

@[expose] public section

set_option maxRecDepth 16384

noncomputable section

namespace Cert.Attn

open Finset
open Cert.KernelIdeal Cert.KernelIdeal.Own Cert.KernelIdeal.Gen
open Idealize.ShloMosaic Idealize.ShloMosaic.TcCoe

variable (V : (c : Dev nD) → (b : Ref sig .tc) → Buf (Elt Ideal) ((c : Thread nD τ).loc b)) (c : Dev nD) {f : ℕ → ℕ → ℝ}

/-! ## The forward region -/

theorem index0_0 : ∀ t : Fin grid0.N, win0_0.index t = ![t.val % 32, t.val / 32] := by decide +kernel
theorem blk0_0 (t : Fin (cfg0 (F := Ideal)).N) (h : R2 (V c main_v8) f) :
    R2 (iblk0 V c 0 t) (fun i l => f (256 * (t.val % 32) + i) (128 * (t.val / 32) + l)) := by
  intro i l
  have ht : t.val < 128 := t.isLt
  refine Eq.trans (b := V c main_v8 (ix2 ⟨256 * (t.val % 32) + i.val, by omega⟩ ⟨128 * (t.val / 32) + l.val, by omega⟩)) ?_ (h _ _)
  blk_simp [iblk0]
  refine congrArg (V c main_v8) ?_
  blk_ext [index0_0]

theorem index0_1 : ∀ t : Fin grid0.N, win0_1.index t = ![0, t.val / 32] := by decide +kernel
theorem blk0_1 (t : Fin (cfg0 (F := Ideal)).N) (h : R2 (V c main_v9) f) :
    R2 (iblk0 V c 1 t) (fun i l => f (i) (128 * (t.val / 32) + l)) := by
  intro i l
  have ht : t.val < 128 := t.isLt
  refine Eq.trans (b := V c main_v9 (ix2 ⟨i.val, by omega⟩ ⟨128 * (t.val / 32) + l.val, by omega⟩)) ?_ (h _ _)
  blk_simp [iblk0]
  refine congrArg (V c main_v9) ?_
  blk_ext [index0_1]

theorem index0_2 : ∀ t : Fin grid0.N, win0_2.index t = ![0, t.val / 32] := by decide +kernel
theorem blk0_2 (t : Fin (cfg0 (F := Ideal)).N) (h : R2 (V c main_v10) f) :
    R2 (iblk0 V c 2 t) (fun i l => f (i) (128 * (t.val / 32) + l)) := by
  intro i l
  have ht : t.val < 128 := t.isLt
  refine Eq.trans (b := V c main_v10 (ix2 ⟨i.val, by omega⟩ ⟨128 * (t.val / 32) + l.val, by omega⟩)) ?_ (h _ _)
  blk_simp [iblk0]
  refine congrArg (V c main_v10) ?_
  blk_ext [index0_2]

theorem index0_3 : ∀ t : Fin grid0.N, win0_3.index t = ![0, 0] := by decide +kernel
theorem blk0_3 (t : Fin (cfg0 (F := Ideal)).N) (h : R2 (V c main_v5) f) :
    R2 (iblk0 V c 3 t) (fun i l => f (i) (l)) := by
  intro i l
  have ht : t.val < 128 := t.isLt
  refine Eq.trans (b := V c main_v5 (ix2 ⟨i.val, by omega⟩ ⟨l.val, by omega⟩)) ?_ (h _ _)
  blk_simp [iblk0]
  refine congrArg (V c main_v5) ?_
  blk_ext [index0_3]

theorem index0_4 : ∀ t : Fin grid0.N, win0_4.index t = ![t.val % 32, t.val / 32] := by decide +kernel

/-! ## The backward region -/

theorem index1_0 : ∀ t : Fin grid1.N, win1_0.index t = ![t.val % 32, t.val / 32] := by decide +kernel
theorem blk1_0 (t : Fin (cfg1 (F := Ideal)).N) (h : R2 (V c main_v8) f) :
    R2 (iblk1 V c 0 t) (fun i l => f (256 * (t.val % 32) + i) (128 * (t.val / 32) + l)) := by
  intro i l
  have ht : t.val < 128 := t.isLt
  refine Eq.trans (b := V c main_v8 (ix2 ⟨256 * (t.val % 32) + i.val, by omega⟩ ⟨128 * (t.val / 32) + l.val, by omega⟩)) ?_ (h _ _)
  blk_simp [iblk1]
  refine congrArg (V c main_v8) ?_
  blk_ext [index1_0]

theorem index1_1 : ∀ t : Fin grid1.N, win1_1.index t = ![0, t.val / 32] := by decide +kernel
theorem blk1_1 (t : Fin (cfg1 (F := Ideal)).N) (h : R2 (V c main_v9) f) :
    R2 (iblk1 V c 1 t) (fun i l => f (i) (128 * (t.val / 32) + l)) := by
  intro i l
  have ht : t.val < 128 := t.isLt
  refine Eq.trans (b := V c main_v9 (ix2 ⟨i.val, by omega⟩ ⟨128 * (t.val / 32) + l.val, by omega⟩)) ?_ (h _ _)
  blk_simp [iblk1]
  refine congrArg (V c main_v9) ?_
  blk_ext [index1_1]

theorem index1_2 : ∀ t : Fin grid1.N, win1_2.index t = ![0, t.val / 32] := by decide +kernel
theorem blk1_2 (t : Fin (cfg1 (F := Ideal)).N) (h : R2 (V c main_v10) f) :
    R2 (iblk1 V c 2 t) (fun i l => f (i) (128 * (t.val / 32) + l)) := by
  intro i l
  have ht : t.val < 128 := t.isLt
  refine Eq.trans (b := V c main_v10 (ix2 ⟨i.val, by omega⟩ ⟨128 * (t.val / 32) + l.val, by omega⟩)) ?_ (h _ _)
  blk_simp [iblk1]
  refine congrArg (V c main_v10) ?_
  blk_ext [index1_2]

theorem index1_3 : ∀ t : Fin grid1.N, win1_3.index t = ![t.val % 32, t.val / 32] := by decide +kernel
theorem blk1_3 (t : Fin (cfg1 (F := Ideal)).N) (h : R2 (V c main_v11_0) f) :
    R2 (iblk1 V c 3 t) (fun i l => f (256 * (t.val % 32) + i) (128 * (t.val / 32) + l)) := by
  intro i l
  have ht : t.val < 128 := t.isLt
  refine Eq.trans (b := V c main_v11_0 (ix2 ⟨256 * (t.val % 32) + i.val, by omega⟩ ⟨128 * (t.val / 32) + l.val, by omega⟩)) ?_ (h _ _)
  blk_simp [iblk1]
  refine congrArg (V c main_v11_0) ?_
  blk_ext [index1_3]

theorem index1_4 : ∀ t : Fin grid1.N, win1_4.index t = ![t.val % 32, t.val / 32] := by decide +kernel
theorem blk1_4 (t : Fin (cfg1 (F := Ideal)).N) (h : R2 (V c main_arg3) f) :
    R2 (iblk1 V c 4 t) (fun i l => f (256 * (t.val % 32) + i) (128 * (t.val / 32) + l)) := by
  intro i l
  have ht : t.val < 128 := t.isLt
  refine Eq.trans (b := V c main_arg3 (ix2 ⟨256 * (t.val % 32) + i.val, by omega⟩ ⟨128 * (t.val / 32) + l.val, by omega⟩)) ?_ (h _ _)
  blk_simp [iblk1]
  refine congrArg (V c main_arg3) ?_
  blk_ext [index1_4]

theorem index1_5 : ∀ t : Fin grid1.N, win1_5.index t = ![0, 0] := by decide +kernel
theorem blk1_5 (t : Fin (cfg1 (F := Ideal)).N) (h : R2 (V c main_v5) f) :
    R2 (iblk1 V c 5 t) (fun i l => f (i) (l)) := by
  intro i l
  have ht : t.val < 128 := t.isLt
  refine Eq.trans (b := V c main_v5 (ix2 ⟨i.val, by omega⟩ ⟨l.val, by omega⟩)) ?_ (h _ _)
  blk_simp [iblk1]
  refine congrArg (V c main_v5) ?_
  blk_ext [index1_5]

theorem index1_6 : ∀ t : Fin grid1.N, win1_6.index t = ![0, 0] := by decide +kernel
theorem blk1_6 (t : Fin (cfg1 (F := Ideal)).N) (h : R2 (V c main_v2) f) :
    R2 (iblk1 V c 6 t) (fun i l => f (i) (l)) := by
  intro i l
  have ht : t.val < 128 := t.isLt
  refine Eq.trans (b := V c main_v2 (ix2 ⟨i.val, by omega⟩ ⟨l.val, by omega⟩)) ?_ (h _ _)
  blk_simp [iblk1]
  refine congrArg (V c main_v2) ?_
  blk_ext [index1_6]

theorem index1_7 : ∀ t : Fin grid1.N, win1_7.index t = ![t.val % 32, t.val / 32] := by decide +kernel
theorem index1_8 : ∀ t : Fin grid1.N, win1_8.index t = ![0, t.val / 32] := by decide +kernel
theorem index1_9 : ∀ t : Fin grid1.N, win1_9.index t = ![0, t.val / 32] := by decide +kernel

end Cert.Attn
-- ==== Proof.Values.lean ====
/-
  What the two regions leave, as tables: the attention's output, and the gradients of the queries, keys and values.
-/
module

public import proofs.«01_k».proof.Proof.Windows

@[expose] public section

set_option maxRecDepth 16384

noncomputable section

namespace Cert.Attn

open Finset
open Cert.KernelIdeal Cert.KernelIdeal.Own Cert.KernelIdeal.Gen
open Idealize.ShloMosaic Idealize.ShloMosaic.TcCoe

/-! ## A pair of heads' lanes -/

/-- The 128 columns of pair `p`. -/
def sh (p : ℕ) (X : ℕ → ℕ → ℝ) (s l : ℕ) : ℝ := X s (128 * p + l)

theorem zt_lo (p : ℕ) (X Y : ℕ → ℕ → ℝ) : zt (lo (sh p X)) (sh p Y) = dd X Y (2 * p) := by
  funext s t
  rw [sum_lo]; unfold dd sh
  exact sum_congr rfl fun l _ => by rw [show 128 * p + l = 64 * (2 * p) + l by ring]
theorem zt_hi (p : ℕ) (X Y : ℕ → ℕ → ℝ) : zt (hi (sh p X)) (sh p Y) = dd X Y (2 * p + 1) := by
  funext s t
  rw [sum_hi]; unfold dd sh
  exact sum_congr rfl fun l _ => by rw [show 128 * p + (64 + l) = 64 * (2 * p + 1) + l by ring]

theorem head_lo {p l : ℕ} (h : l < 64) : (128 * p + l) / 64 = 2 * p := by omega
theorem head_hi {p l : ℕ} (h : ¬l < 64) (h' : l < 128) : (128 * p + l) / 64 = 2 * p + 1 := by omega

theorem suf_all (f : ℕ → ℝ) : suf f 0 = ∑ t ∈ range 8192, f t := by unfold suf; rw [range_eq_Ico]

/-- A sum over the 32 tiles of 256 rows. -/
theorem sum_tiles (f : ℕ → ℝ) (n : ℕ) : ∑ i ∈ range n, ∑ r ∈ range 256, f (256 * i + r) = ∑ s ∈ range (256 * n), f s := by
  induction n with
  | zero => rfl
  | succ n ih => rw [sum_range_succ, ih, show 256 * (n + 1) = 256 * n + 256 by ring, sum_range_add]

variable {V : (c : Dev nD) → (b : Ref sig .tc) → Buf (Elt Ideal) ((c : Thread nD τ).loc b)} {c : Dev nD} {Q K X D : ℕ → ℕ → ℝ}

/-- What a sweep reads. -/
structure FwdIn (V : (c : Dev nD) → (b : Ref sig .tc) → Buf (Elt Ideal) ((c : Thread nD τ).loc b)) (c : Dev nD) (Q K X : ℕ → ℕ → ℝ) : Prop where
  q : R2 (V c main_v8) Q
  k : R2 (V c main_v9) K
  v : R2 (V c main_v10) X
  te : R2 (V c main_v5) (fun m j => if j < m then 1 else 0)

/-! ## The forward region -/

theorem coords0_1 : ∀ t : Fin (cfg0 (F := Ideal)).N, (grid0.coords t 1).val = t.val % 32 :=
  (fun t => by rw [Pipeline.Grid.coords_val (G := grid0) t 1 (S := 1) (B := 32) rfl rfl, Nat.div_one] : ∀ t : Fin grid0.N, (grid0.coords t 1).val = t.val % 32)

theorem tile0_real (h : FwdIn V c Q K X) (t : Fin (cfg0 (F := Ideal)).N) :
    R2 (oOf (tile0 V c t)) (fun i l => oT (dd Q K) X (256 * (t.val % 32) + i) (128 * (t.val / 32) + l)) := by
  have e := fTile_real (j := t.val % 32) (x := iblk0 V c 0 t) (Q := lo (sh (t.val / 32) Q)) (Q1 := hi (sh (t.val / 32) Q)) (K := sh (t.val / 32) K)
    (V := sh (t.val / 32) X) (blk0_3 V c t h.te) (blk0_1 V c t h.k) (blk0_2 V c t h.v) (Nat.mod_lt _ (by omega)) (k0_lo (blk0_0 V c t h.q)) (k0_hi (blk0_0 V c t h.q))
  unfold tile0
  rw [coords0_1]
  refine (oOf_real e.1.a e.2.a).congr fun i _ l hl => ?_
  rw [zt_lo, zt_hi]
  unfold oT
  by_cases h64 : l < 64
  · rw [if_pos h64, head_lo h64, Nat.mul_zero, suf_all]; rfl
  · rw [if_neg h64, head_hi h64 hl, Nat.mul_zero, suf_all]; rfl

theorem R2.at {M N : ℕ} {x : (⟨2, ![M, N]⟩ : Shape).Idx → EReal} {f : ℕ → ℕ → ℝ} (h : R2 x f) (y : (⟨2, ![M, N]⟩ : Shape).Idx) :
    x y = ((f (y 0).val (y 1).val : ℝ) : EReal) := by
  rw [← h (y 0) (y 1)]
  exact congrArg x (funext fun a => by fin_cases a <;> rfl)

theorem arr_o (h : FwdIn V c Q K X) : R2 ((dat0 V c).arrAt 4 (cfg0 (F := Ideal)).N) (oT (dd Q K) X) := by
  intro a b
  refine congrFun ((dat0 V c).arrAt_eq_of_covers 4 (fun i => ((oT (dd Q K) X (i 0).val (i 1).val : ℝ) : EReal)) (by decide +kernel) fun t _ y => ?_) (ix2 a b)
  blk_simp [index0_4]
  rw [after0_4]
  refine ((tile0_real h t).at y).trans ?_
  rw [Nat.mul_comm 256, Nat.mul_comm 128]

/-! ## The backward region -/

structure BwdIn (V : (c : Dev nD) → (b : Ref sig .tc) → Buf (Elt Ideal) ((c : Thread nD τ).loc b)) (c : Dev nD) (Q K X D : ℕ → ℕ → ℝ) : Prop
    extends FwdIn V c Q K X where
  o : R2 (V c main_v11_0) (oT (dd Q K) X)
  d : R2 (V c main_arg3) D
  ti : R2 (V c main_v2) (fun m j => if j ≤ m then 1 else 0)

/-- A tile's part of the keys' gradient, over the pair's 128 columns, -/
def kPart (Q K X D : ℕ → ℕ → ℝ) (p i t l : ℕ) : ℝ :=
  colsum (dz (dd Q K (2 * p)) (dd D X (2 * p))) (lo (sh p Q)) i t l + colsum (dz (dd Q K (2 * p + 1)) (dd D X (2 * p + 1))) (hi (sh p Q)) i t l
/-- and of the values'. -/
def vPart (Q K D : ℕ → ℕ → ℝ) (p i t l : ℕ) : ℝ :=
  colsum (wt (dd Q K (2 * p))) (lo (sh p D)) i t l + colsum (wt (dd Q K (2 * p + 1))) (hi (sh p D)) i t l

section

variable (h : BwdIn V c Q K X D) (t : Fin (cfg1 (F := Ideal)).N)

include h in
theorem in_lo : BInReal (bIn0 (iblk1 V c 0 t) (iblk1 V c 4 t) (iblk1 V c 3 t)) (lo (sh (t.val / 32) Q)) (lo (sh (t.val / 32) D))
    (sh (t.val / 32) K) (sh (t.val / 32) X) (t.val % 32) where
  q := k1_lo (blk1_0 V c t h.q)
  d := k1_dlo (blk1_4 V c t h.d)
  total := (total_lo (blk1_4 V c t h.d) (blk1_3 V c t h.o)).congr fun i _ =>
    total_eq (lo (sh (t.val / 32) D)) _ (256 * (t.val % 32) + i) (fun l => oT (dd Q K) X (256 * (t.val % 32) + i) (128 * (t.val / 32) + l)) fun l hl hne => by
      have h64 : l < 64 := by by_contra hn; exact hne (if_neg hn)
      rw [zt_lo]; beta_reduce; unfold oT; rw [head_lo h64, suf_all]; rfl

include h in
theorem in_hi : BInReal (bIn1 (iblk1 V c 0 t) (iblk1 V c 4 t) (iblk1 V c 3 t)) (hi (sh (t.val / 32) Q)) (hi (sh (t.val / 32) D))
    (sh (t.val / 32) K) (sh (t.val / 32) X) (t.val % 32) where
  q := k1_hi (blk1_0 V c t h.q)
  d := k1_dhi (blk1_4 V c t h.d)
  total := (total_hi (blk1_4 V c t h.d) (blk1_3 V c t h.o)).congr fun i _ =>
    total_eq (hi (sh (t.val / 32) D)) _ (256 * (t.val % 32) + i) (fun l => oT (dd Q K) X (256 * (t.val % 32) + i) (128 * (t.val / 32) + l)) fun l hl hne => by
      have h64 : ¬l < 64 := fun hn => hne (if_neg (by omega))
      rw [zt_hi]; beta_reduce; unfold oT; rw [head_hi h64 hl, suf_all]; rfl

include h in
theorem tile1_real {dk dv : Vec Ideal S8192x128 .f32} {bk bv : ℕ → ℕ → ℝ} (hdk : R2 dk bk) (hdv : R2 dv bv)
    (hz : t.val % 32 = 0 → (∀ t l, bk t l = 0) ∧ ∀ t l, bv t l = 0) :
    BStReal (tile1 V c t dk dv) (lo (sh (t.val / 32) Q)) (hi (sh (t.val / 32) Q)) (lo (sh (t.val / 32) D)) (hi (sh (t.val / 32) D))
      (sh (t.val / 32) K) (sh (t.val / 32) X) bk bv (t.val % 32) 0 := by
  unfold tile1
  rw [coords1_1]
  exact bTile_real (blk1_5 V c t h.te) (blk1_6 V c t h.ti) (blk1_1 V c t h.k) (blk1_2 V c t h.v) (Nat.mod_lt _ (by omega)) (in_lo h t) (in_hi h t) hdk hdv hz

/-- What a tile leaves. -/
structure StReal (V : (c : Dev nD) → (b : Ref sig .tc) → Buf (Elt Ideal) ((c : Thread nD τ).loc b)) (c : Dev nD) (Q K X D : ℕ → ℕ → ℝ)
    (t : Fin (cfg1 (F := Ideal)).N) : Prop where
  dq : R2 (dqOf (st1 V c t)) (fun i l => dqT (dd Q K) (dd D X) K (256 * (t.val % 32) + i) (128 * (t.val / 32) + l))
  dk : R2 (st1 V c t).dk (fun x l => ∑ i ∈ range (t.val % 32 + 1), kPart Q K X D (t.val / 32) i x l)
  dv : R2 (st1 V c t).dv (fun x l => ∑ i ∈ range (t.val % 32 + 1), vPart Q K D (t.val / 32) i x l)

include h in
theorem st_of {dk dv : Vec Ideal S8192x128 .f32} (hs : st1 V c t = tile1 V c t dk dv)
    (hdk : R2 dk (fun x l => ∑ i ∈ range (t.val % 32), kPart Q K X D (t.val / 32) i x l))
    (hdv : R2 dv (fun x l => ∑ i ∈ range (t.val % 32), vPart Q K D (t.val / 32) i x l)) : StReal V c Q K X D t := by
  have e := tile1_real h t hdk hdv fun hz => ⟨fun x l => by rw [hz]; rfl, fun x l => by rw [hz]; rfl⟩
  rw [← hs] at e
  refine ⟨(dqOf_real e.h0.dq e.h1.dq).congr fun i _ l hl => ?_, e.dk.congr fun x _ l _ => ?_, e.dv.congr fun x _ l _ => ?_⟩
  · simp only [zt_lo, zt_hi]
    unfold dqT
    by_cases h64 : l < 64
    · rw [if_pos h64, head_lo h64, Nat.mul_zero, suf_all, sum_mul]
      exact sum_congr rfl fun x _ => by unfold sh; ring
    · rw [if_neg h64, head_hi h64 hl, Nat.mul_zero, suf_all, sum_mul]
      exact sum_congr rfl fun x _ => by unfold sh; ring
  · rw [sum_range_succ, if_pos (by omega)]
    simp only [zt_lo, zt_hi]
    rfl
  · rw [sum_range_succ, if_pos (by omega)]
    simp only [zt_lo, zt_hi]
    rfl

include h in
theorem st_real (n : ℕ) (hn : n < (cfg1 (F := Ideal)).N) : StReal V c Q K X D ⟨n, hn⟩ := by
  induction n with
  | zero =>
    exact st_of h ⟨0, hn⟩ rfl (zeroB_real.congr fun _ _ _ _ => rfl) (zeroB_real.congr fun _ _ _ _ => rfl)
  | succ n ih =>
    by_cases hz : (n + 1) % 32 = 0
    · refine st_of h ⟨n + 1, hn⟩ (tile1_first V c ⟨n + 1, hn⟩ hz _ _ zeroB zeroB) (zeroB_real.congr fun _ _ _ _ => ?_) (zeroB_real.congr fun _ _ _ _ => ?_)
      · show 0 = ∑ i ∈ range ((n + 1) % 32), _
        rw [hz]; rfl
      · show 0 = ∑ i ∈ range ((n + 1) % 32), _
        rw [hz]; rfl
    · have e := ih (by omega)
      have hd : n / 32 = (n + 1) / 32 := by omega
      have hm : n % 32 + 1 = (n + 1) % 32 := by omega
      have hs := acc1_succ V c ⟨n, by omega⟩
      refine st_of h ⟨n + 1, hn⟩ (dk := (st1 V c ⟨n, by omega⟩).dk) (dv := (st1 V c ⟨n, by omega⟩).dv) ?_ ?_ ?_
      · unfold st1 at hs ⊢; rw [hs]
      · have := e.dk; rw [hd, hm] at this; exact this
      · have := e.dv; rw [hd, hm] at this; exact this

theorem colsum_lo (w Y : ℕ → ℕ → ℝ) (p x l : ℕ) (h64 : l < 64) : ∑ i ∈ range 32, colsum w (lo (sh p Y)) i x l = ∑ s ∈ range 8192, w s x * Y s (128 * p + l) := by
  unfold colsum
  rw [sum_tiles (fun s => w s x * lo (sh p Y) s l) 32]
  exact sum_congr rfl fun s _ => by unfold lo; rw [if_pos h64]; rfl
theorem colsum_lo_zero (w Y : ℕ → ℕ → ℝ) (p x l : ℕ) (h64 : ¬l < 64) (i : ℕ) : colsum w (lo (sh p Y)) i x l = 0 :=
  sum_eq_zero fun s _ => by unfold lo; rw [if_neg h64, mul_zero]
theorem colsum_hi (w Y : ℕ → ℕ → ℝ) (p x l : ℕ) (h64 : ¬l < 64) : ∑ i ∈ range 32, colsum w (hi (sh p Y)) i x l = ∑ s ∈ range 8192, w s x * Y s (128 * p + l) := by
  unfold colsum
  rw [sum_tiles (fun s => w s x * hi (sh p Y) s l) 32]
  exact sum_congr rfl fun s _ => by unfold hi; rw [if_pos (by omega)]; rfl
theorem colsum_hi_zero (w Y : ℕ → ℕ → ℝ) (p x l : ℕ) (h64 : l < 64) (i : ℕ) : colsum w (hi (sh p Y)) i x l = 0 :=
  sum_eq_zero fun s _ => by unfold hi; rw [if_neg (by omega), mul_zero]

/-- The keys' gradient from the scaled queries. -/
def dkS (Z E : ℕ → ℕ → ℕ → ℝ) (Q : ℕ → ℕ → ℝ) (t x : ℕ) : ℝ := ∑ s ∈ range 8192, dz (Z (x / 64)) (E (x / 64)) s t * Q s x

theorem kPart_all (p x l : ℕ) (hl : l < 128) : ∑ i ∈ range 32, kPart Q K X D p i x l = dkS (dd Q K) (dd D X) Q x (128 * p + l) := by
  unfold kPart dkS
  rw [sum_add_distrib]
  by_cases h64 : l < 64
  · rw [colsum_lo _ _ _ _ _ h64, sum_eq_zero (fun i _ => colsum_hi_zero _ _ _ _ _ h64 i), add_zero, head_lo h64]
  · rw [colsum_hi _ _ _ _ _ h64, sum_eq_zero (fun i _ => colsum_lo_zero _ _ _ _ _ h64 i), zero_add, head_hi h64 hl]

theorem vPart_all (p x l : ℕ) (hl : l < 128) : ∑ i ∈ range 32, vPart Q K D p i x l = dvT (dd Q K) D x (128 * p + l) := by
  unfold vPart dvT
  rw [sum_add_distrib]
  by_cases h64 : l < 64
  · rw [colsum_lo _ _ _ _ _ h64, sum_eq_zero (fun i _ => colsum_hi_zero _ _ _ _ _ h64 i), add_zero, head_lo h64]
  · rw [colsum_hi _ _ _ _ _ h64, sum_eq_zero (fun i _ => colsum_lo_zero _ _ _ _ _ h64 i), zero_add, head_hi h64 hl]

include h in
theorem arr_dq : R2 ((dat1 V c).arrAt 7 (cfg1 (F := Ideal)).N) (dqT (dd Q K) (dd D X) K) := by
  intro a b
  refine congrFun ((dat1 V c).arrAt_eq_of_covers 7 (fun i => ((dqT (dd Q K) (dd D X) K (i 0).val (i 1).val : ℝ) : EReal)) (by decide +kernel) fun t _ y => ?_) (ix2 a b)
  blk_simp [index1_7]
  rw [after1_7]
  refine ((st_real h t.val t.isLt).dq.at y).trans ?_
  rw [Nat.mul_comm 256, Nat.mul_comm 128]

include h in
theorem arr_dk : R2 ((dat1 V c).arrAt 8 (cfg1 (F := Ideal)).N) (dkS (dd Q K) (dd D X) Q) := by
  intro a b
  refine congrFun ((dat1 V c).arrAt_eq_of_covers 8 (fun i => ((dkS (dd Q K) (dd D X) Q (i 0).val (i 1).val : ℝ) : EReal)) (by decide +kernel) fun t hf y => ?_) (ix2 a b)
  have ht := (flush1_8 (F := Ideal) t).mp hf
  blk_simp [index1_8]
  rw [after1_8]
  refine ((st_real h t.val t.isLt).dk.at y).trans ?_
  show ((∑ i ∈ range (t.val % 32 + 1), _ : ℝ) : EReal) = _
  rw [ht, kPart_all _ _ _ (y 1).isLt, Nat.mul_comm 128]

include h in
theorem arr_dv : R2 ((dat1 V c).arrAt 9 (cfg1 (F := Ideal)).N) (dvT (dd Q K) D) := by
  intro a b
  refine congrFun ((dat1 V c).arrAt_eq_of_covers 9 (fun i => ((dvT (dd Q K) D (i 0).val (i 1).val : ℝ) : EReal)) (by decide +kernel) fun t hf y => ?_) (ix2 a b)
  have ht := (flush1_9 (F := Ideal) t).mp hf
  blk_simp [index1_9]
  rw [after1_9]
  refine ((st_real h t.val t.isLt).dv.at y).trans ?_
  show ((∑ i ∈ range (t.val % 32 + 1), _ : ℝ) : EReal) = _
  rw [ht, vPart_all _ _ _ (y 1).isLt, Nat.mul_comm 128]

end

end Cert.Attn
-- ==== Proof.Entry.lean ====
/-
  What the regions find: the host's stretch prepares the two triangles, the scaled queries and the keys and values.
-/
module

public import proofs.«01_k».proof.Proof.Values
public import Idealize.ShloMosaic.Lib.StableHlo.RunRead

@[expose] public section

set_option maxRecDepth 16384

noncomputable section

namespace Cert.Attn

open Finset
open Cert.KernelIdeal Cert.KernelIdeal.Own Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD) {f : ℕ → ℕ → ℝ}

/-- A triangle of ones, made by comparing the row's number plus `k` with the column's. -/
def tri (k : BitVec 32) : FVec Ideal S256x256 .bf16 :=
  truncf .bf16 (select (cmpi .sge (addi (iotaInDim S256x256 32 0)
      (broadcastInDim S256x256 ![] bcast_S_S256x256 (constantI S_ 32 k))) (iotaInDim S256x256 32 1))
      (broadcastInDim S256x256 ![] bcast_S_S256x256 (constant S_ FTy.f32 1065353216#32))
      (broadcastInDim S256x256 ![] bcast_S_S256x256 (constant S_ FTy.f32 0#32))) bitsLt_bf16_f32

theorem pred_row : ∀ i : Fin 256, 0 < i.val → IntOp.addi (BitVec.ofNat 32 i.val) 4294967295#32 = BitVec.ofNat 32 (i.val - 1) := by decide +kernel
theorem pred_zero : ∀ j : Fin 256, IntOp.cmpi .sge (IntOp.addi (BitVec.ofNat 32 0) 4294967295#32) (BitVec.ofNat 32 j.val) = 0#1 := by decide +kernel

theorem cmp_below (i j : Fin 256) : IntOp.cmpi .sge (IntOp.addi (BitVec.ofNat 32 i.val) 4294967295#32) (BitVec.ofNat 32 j.val) =
    if j.val < i.val then 1#1 else 0#1 := by
  by_cases h : 0 < i.val
  · rw [pred_row i h, cmpi_sge_ofNat _ _ (by omega) (by omega)]
    exact if_congr (by omega) rfl rfl
  · rw [show i.val = 0 by omega, pred_zero, if_neg (by omega)]

theorem cmp_upto (i j : Fin 256) : IntOp.cmpi .sge (IntOp.addi (BitVec.ofNat 32 i.val) 0#32) (BitVec.ofNat 32 j.val) =
    if j.val ≤ i.val then 1#1 else 0#1 := by
  rw [show IntOp.addi (BitVec.ofNat 32 i.val) 0#32 = BitVec.ofNat 32 i.val from BitVec.add_zero _]
  exact cmpi_sge_ofNat _ _ (by omega) (by omega)

theorem coe_if (p : Prop) [Decidable p] : (if p then (1 : EReal) else 0) = (((if p then 1 else 0 : ℝ)) : EReal) := by
  split <;> simp

theorem tri_entry_te : R2 (tri 4294967295#32) (fun m j => if j < m then 1 else 0) := by
  intro i j
  pointwise [tri]
  rw [cmp_below, select_if]
  exact coe_if _

theorem tri_entry_ti : R2 (tri 0#32) (fun m j => if j ≤ m then 1 else 0) := by
  intro i j
  pointwise [tri]
  rw [cmp_upto, select_if]
  exact coe_if _

theorem entry_q (h : R2 (m ((c : Thread nD τ).loc main_arg0)) f) : R2 (V5 m ρ c main_v8) (fun s x => f s x * (1 / 8)) := by
  intro i j
  show W5 m ρ c (Proc.devRef .tc main_v8) (ix2 i j) = _
  rw [show W5 m ρ c = after hostOps0_4 (W4 m ρ c) from rfl]
  after_results
  have e : (W0 m ρ c (Proc.devRef .tc main_arg0)) (ix2 i j) = ((f i.val j.val : ℝ) : EReal) := h i j
  rw [EReal.coe_mul, ← e, ← scale_eq]
  rfl

theorem entry_k (h : R2 (m ((c : Thread nD τ).loc main_arg1)) f) : R2 (V5 m ρ c main_v9) f := by
  intro i j
  show W5 m ρ c (Proc.devRef .tc main_v9) (ix2 i j) = _
  rw [show W5 m ρ c = after hostOps0_4 (W4 m ρ c) from rfl]
  after_results
  exact h i j

theorem entry_x (h : R2 (m ((c : Thread nD τ).loc main_arg2)) f) : R2 (V5 m ρ c main_v10) f := by
  intro i j
  show W5 m ρ c (Proc.devRef .tc main_v10) (ix2 i j) = _
  rw [show W5 m ρ c = after hostOps0_4 (W4 m ρ c) from rfl]
  after_results
  exact h i j

theorem entry_te : R2 (V5 m ρ c main_v5) (fun m j => if j < m then 1 else 0) := by
  intro i j
  show W5 m ρ c (Proc.devRef .tc main_v5) (ix2 i j) = _
  rw [show W5 m ρ c = after hostOps0_4 (W4 m ρ c) from rfl]
  after_results
  simp only [TRef.ofBuf_toBuf]
  simp only [TRef.toBuf, TRef.ofBuf, cast_eq]
  exact tri_entry_te i j

theorem entry_ti : R2 (V5 m ρ c main_v2) (fun m j => if j ≤ m then 1 else 0) := by
  intro i j
  show W5 m ρ c (Proc.devRef .tc main_v2) (ix2 i j) = _
  rw [show W5 m ρ c = after hostOps0_4 (W4 m ρ c) from rfl]
  after_results
  simp only [TRef.ofBuf_toBuf]
  simp only [TRef.toBuf, TRef.ofBuf, cast_eq]
  exact tri_entry_ti i j

end Cert.Attn
-- ==== Proof.Ref.lean ====
/-
  The reference's results as named stages of its arguments: scores, softplus, weights, gradients.
-/
module

public import proofs.«01_k».proof.Proof.Gen.ReferenceIdeal.Run

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The eight heads' rows. -/
def heads (x : FVec F S8192x512 .f32) : FVec F S8x8192x64 .f32 :=
  transpose S8x8192x64 [1, 0, 2] (shapeCast S8192x8x64 x shapeCasts_S8192x512_S8192x8x64) transposes_S8192x8x64_S8x8192x64_1_0_2
/-- The heads side by side again. -/
def flat (y : FVec F S8x8192x64 .f32) : FVec F S8192x512 .f32 :=
  shapeCast S8192x512 (transpose S8192x8x64 [1, 0, 2] y transposes_S8x8192x64_S8192x8x64_1_0_2) shapeCasts_S8192x8x64_S8192x512
/-- The left half of the columns. -/
def half (x : FVec F S8192x1024 .f32) : FVec F S8192x512 .f32 := extractStridedSlice S8192x512 ![0, 0] x slices_S8192x1024_S8192x512_0_0
/-- One number everywhere. -/
def everywhere (w : BitVec 32) : FVec F S8x8192x8192 .f32 := broadcastInDim S8x8192x8192 ![] bcast_S_S8x8192x8192 (constant S_ .f32 w)
def dots (a b : FVec F S8x8192x64 .f32) : FVec F S8x8192x8192 .f32 := Host.dotGeneral dot_S8x8192x64_S8x8192x64_S8x8192x8192_2_2_1_1_0_0 none a b
/-- The scaled scores. -/
def scores (q k : FVec F S8x8192x64 .f32) : FVec F S8x8192x8192 .f32 := mulf (dots q k) (everywhere 0x3E000000#32)
def mask2 : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- The keys a query sees. -/
def mask : IVec S8x8192x8192 1 := broadcastInDim S8x8192x8192 ![1, 2] bcast_S8192x8192_S8x8192x8192_1_2 mask2
def masked (x : FVec F S8x8192x8192 .f32) : FVec F S8x8192x8192 .f32 := select mask x (everywhere 0x00000000#32)
/-- Softplus. -/
def sp (x : FVec F S8x8192x8192 .f32) : FVec F S8x8192x8192 .f32 :=
  select (cmpf .une (subf x (everywhere 0x00000000#32)) (subf x (everywhere 0x00000000#32))) (addf x (everywhere 0x00000000#32))
    (addf (maximumf x (everywhere 0x00000000#32)) (Host.log1p (Host.exp (Host.negf (Host.absf (subf x (everywhere 0x00000000#32)))))))
/-- Softplus's derivative. -/
def dsp (x : FVec F S8x8192x8192 .f32) : FVec F S8x8192x8192 .f32 :=
  Host.exp (subf (select (cmpf .oeq x (everywhere 0x7F800000#32)) (everywhere 0x00000000#32) x)
    (select (cmpf .oeq (sp x) (everywhere 0x7F800000#32)) (everywhere 0x00000000#32) (sp x)))
/-- The scores' log-sigmoid. -/
def lbs (z : FVec F S8x8192x8192 .f32) : FVec F S8x8192x8192 .f32 := Host.negf (sp (Host.negf z))
def zero0 : FVec F S_ .f32 := broadcastInDim S_ ![] bcast_S_S_ (constant S_ .f32 0x00000000#32)
/-- Sums over the later keys. -/
def sufs (x : FVec F S8x8192x8192 .f32) : FVec F S8x8192x8192 .f32 :=
  Host.reduceWindowAdd ![1, 1, 8192] ![1, 1, 1] ![0, 0, 0] ![0, 0, 8191] x zero0 reduceWindows_S8x8192x8192_S8x8192x8192_w1s1p0_0_w1s1p0_0_w8192s1p0_8191 h_S_
/-- Sums over the earlier keys. -/
def pres (x : FVec F S8x8192x8192 .f32) : FVec F S8x8192x8192 .f32 :=
  Host.reduceWindowAdd ![1, 1, 8192] ![1, 1, 1] ![0, 0, 8191] ![0, 0, 0] x zero0 reduceWindows_S8x8192x8192_S8x8192x8192_w1s1p0_0_w1s1p0_0_w8192s1p8191_0 h_S_
/-- The logs of one minus the sigmoid, on the keys seen. -/
def loms (z : FVec F S8x8192x8192 .f32) : FVec F S8x8192x8192 .f32 := masked (subf (lbs z) z)
def exps (z : FVec F S8x8192x8192 .f32) : FVec F S8x8192x8192 .f32 := Host.exp (addf (lbs z) (subf (sufs (loms z)) (loms z)))
/-- The weights. -/
def wts (z : FVec F S8x8192x8192 .f32) : FVec F S8x8192x8192 .f32 := masked (exps z)
def apply (w : FVec F S8x8192x8192 .f32) (v : FVec F S8x8192x64 .f32) : FVec F S8x8192x64 .f32 :=
  Host.dotGeneral dot_S8x8192x8192_S8x8192x64_S8x8192x64_2_1_1_2_0_0 none w v
/-- The weights' gradient times the weights. -/
def gws (z dw : FVec F S8x8192x8192 .f32) : FVec F S8x8192x8192 .f32 := mulf (masked dw) (exps z)
def pgs (z dw : FVec F S8x8192x8192 .f32) : FVec F S8x8192x8192 .f32 := masked (addf (Host.negf (gws z dw)) (pres (gws z dw)))
/-- The unscaled scores' gradient. -/
def dzs (z dw : FVec F S8x8192x8192 .f32) : FVec F S8x8192x8192 .f32 :=
  mulf (addf (Host.negf (pgs z dw)) (Host.negf (mulf (Host.negf (addf (gws z dw) (pgs z dw))) (dsp (Host.negf z))))) (everywhere 0x3E000000#32)
def dvs (w : FVec F S8x8192x8192 .f32) (d : FVec F S8x8192x64 .f32) : FVec F S8x8192x64 .f32 :=
  transpose S8x8192x64 [0, 2, 1] (Host.dotGeneral dot_S8x8192x64_S8x8192x8192_S8x64x8192_1_1_2_2_0_0 none d w) transposes_S8x64x8192_S8x8192x64_0_2_1
def dks (w : FVec F S8x8192x8192 .f32) (q : FVec F S8x8192x64 .f32) : FVec F S8x8192x64 .f32 :=
  Host.dotGeneral dot_S8x8192x8192_S8x8192x64_S8x8192x64_1_1_2_2_0_0 none w q

variable (m : (ℓ : Loc nD τ sig) → Buf (Elt F) ℓ) (c : Dev nD)

def a0 : FVec F S8192x512 .f32 := m ((c.tc : Thread nD τ).loc main_arg0)
def a1 : FVec F S8192x512 .f32 := m ((c.tc : Thread nD τ).loc main_arg1)
def a2 : FVec F S8192x512 .f32 := m ((c.tc : Thread nD τ).loc main_arg2)
def a3 : FVec F S8192x1024 .f32 := m ((c.tc : Thread nD τ).loc main_arg3)

theorem dv_eq : Value.res_main_v34 m c = flat (dvs (wts (scores (heads (a0 m c)) (heads (a1 m c)))) (heads (half (a3 m c)))) := rfl
set_option maxHeartbeats 1000000 in
theorem dk_eq : Value.res_main_v50 m c
    = flat (dks (dzs (scores (heads (a0 m c)) (heads (a1 m c))) (dots (heads (half (a3 m c))) (heads (a2 m c)))) (heads (a0 m c))) := rfl
set_option maxHeartbeats 1000000 in
theorem dq_eq : Value.res_main_v52 m c
    = flat (apply (dzs (scores (heads (a0 m c)) (heads (a1 m c))) (dots (heads (half (a3 m c))) (heads (a2 m c)))) (heads (a1 m c))) := rfl
theorem o_eq : Value.res_main_v26 m c = flat (apply (wts (scores (heads (a0 m c)) (heads (a1 m c)))) (heads (a2 m c))) := rfl

end Cert.ReferenceIdeal.Stage
-- ==== Proof.RefLift.lean ====
/-
  The reference's stages on tables of reals.
-/
module

public import proofs.«01_k».proof.Proof.Ref
public import proofs.«01_k».proof.Proof.Lift

@[expose] public section

set_option maxRecDepth 16384
set_option maxHeartbeats 400000

noncomputable section

namespace Cert.Attn

open Cert.ReferenceIdeal Cert.ReferenceIdeal.Gen Cert.ReferenceIdeal.Stage
open Idealize.ShloMosaic Finset

/-- The elements of a stack are the reals of a stack of tables. -/
def R3 {L M N : ℕ} (x : (⟨3, ![L, M, N]⟩ : Shape).Idx → EReal) (f : ℕ → ℕ → ℕ → ℝ) : Prop :=
  ∀ h i j, x (ix3 h i j) = ((f h.val i.val j.val : ℝ) : EReal)

theorem R3.congr {L M N : ℕ} {x : (⟨3, ![L, M, N]⟩ : Shape).Idx → EReal} {f g : ℕ → ℕ → ℕ → ℝ} (h : R3 x f)
    (e : ∀ a < L, ∀ i < M, ∀ j < N, f a i j = g a i j) : R3 x g := fun a i j => by rw [h a i j, e a.val a.isLt i.val i.isLt j.val j.isLt]

theorem eighth : Ideal.ofBits .f32 0x3E000000#32 = ((1 / 8 : ℝ) : EReal) := by
  simp [Ideal.ofBits, Ideal.ieee, -EReal.coe_mul]; norm_num
theorem inf_eq : Ideal.ofBits .f32 0x7F800000#32 = (⊤ : EReal) := by
  simp [Ideal.ofBits, Ideal.ieee]
theorem max_coe (r s : ℝ) : max ((r : ℝ) : EReal) ((s : ℝ) : EReal) = ((max r s : ℝ) : EReal) :=
  (EReal.coe_strictMono.monotone.map_max).symm

theorem foldl_add {α : Type*} (l : List α) (g : α → EReal) (v : EReal) : l.foldl (fun r n => r + g n) v = v + (l.map g).sum := by
  induction l generalizing v with
  | nil => simp
  | cons a l ih => rw [List.foldl_cons, ih, List.map_cons, List.sum_cons, add_assoc]

theorem foldl_sum (n : ℕ) (g : Fin n → EReal) (v : EReal) : (List.finRange n).foldl (fun r k => r + g k) v = v + ∑ k, g k := by
  rw [foldl_add, Fin.sum_univ_def]

section

variable {x z dw w : FVec Ideal S8x8192x8192 .f32} {q k : FVec Ideal S8x8192x64 .f32} {f g fz fw fq fk : ℕ → ℕ → ℕ → ℝ}
variable {y : FVec Ideal S8192x512 .f32} {fy : ℕ → ℕ → ℝ}

theorem ref_heads (h : R2 y fy) : R3 (heads y) (fun a s l => fy s (64 * a + l)) := by
  intro a s l
  pointwise [heads]
  rw [h]
  show ((fy s.val (a.val * 64 + l.val) : ℝ) : EReal) = _
  rw [Nat.mul_comm]

theorem ref_flat (h : R3 q fq) : R2 (flat q) (fun s l => fq (l / 64) s (l % 64)) := by
  intro s l
  pointwise [flat]
  exact h _ _ _

theorem ref_half {u : FVec Ideal S8192x1024 .f32} (h : R2 u fy) : R2 (half u) fy := by
  intro s l
  pointwise [half]
  exact h _ _

theorem ref_dots (h : R3 q fq) (h' : R3 k fk) : R3 (dots q k) (fun a s t => ∑ l ∈ range 64, fq a s l * fk a t l) := by
  intro a s t
  pointwise [dots]
  rw [← coe_sum_fin 64 (fun l => fq a.val s.val l * fk a.val t.val l)]
  exact Finset.sum_congr rfl fun l _ => by rw [h a s l, h' a t l, EReal.coe_mul]

theorem ref_scores (h : R3 q fq) (h' : R3 k fk) : R3 (scores q k) (fun a s t => (∑ l ∈ range 64, fq a s l * fk a t l) * (1 / 8)) := by
  intro a s t
  have e := ref_dots h h' a s t
  pointwise [scores, everywhere]
  rw [e, eighth, ← EReal.coe_mul]

theorem ref_masked (h : R3 x f) : R3 (masked x) (fun a s t => if t < s then f a s t else 0) := by
  intro a s t
  pointwise [masked, mask, mask2, everywhere]
  rw [cmpi_slt_ofNat _ _ t.isLt s.isLt]
  by_cases hts : t.val < s.val
  · rw [if_pos hts, if_pos hts]; exact (if_pos rfl).trans (h a s t)
  · rw [if_neg hts, if_neg hts]; exact if_neg (by decide)

theorem ref_sp (h : R3 x f) : R3 (sp x) (fun a s t => -lb (-f a s t)) := by
  intro a s t
  pointwise [sp, everywhere]
  rw [if_neg (not_not.mpr rfl), h a s t,
    show FloatOps.absf (F := Ideal) (φ := .f32) ((f a.val s.val t.val : ℝ) : EReal) = ((|f a.val s.val t.val| : ℝ) : EReal) from abs_coe _,
    ← EReal.coe_neg, exp_coe, Ideal.log1p, ← EReal.coe_one, ← EReal.coe_add, log_coe _ (by positivity), zero_coe, max_coe, ← EReal.coe_add]
  unfold lb
  rw [abs_neg, neg_sub, sub_eq_add_neg, add_comm, ← max_neg_neg, neg_neg, neg_zero]

theorem ref_dsp (h : R3 x f) : R3 (dsp x) (fun a s t => 1 - Real.exp (lb (-f a s t))) := by
  intro a s t
  have e := ref_sp h a s t
  pointwise [dsp, everywhere]
  rw [e, h a s t, inf_eq, if_neg (EReal.coe_ne_top _), if_neg (EReal.coe_ne_top _), ← EReal.coe_sub, exp_coe, ← one_sub_exp_lb,
    sub_eq_add_neg, neg_neg, neg_neg]

theorem ref_apply (h : R3 w fw) (h' : R3 k fk) : R3 (apply w k) (fun a s l => ∑ t ∈ range 8192, fw a s t * fk a t l) := by
  intro a s l
  pointwise [apply]
  rw [← coe_sum_fin 8192 (fun t => fw a.val s.val t * fk a.val t l.val)]
  exact Finset.sum_congr rfl fun t _ => by rw [h a s t, h' a t l, EReal.coe_mul]

theorem ref_dvs (h : R3 w fw) (h' : R3 k fk) : R3 (dvs w k) (fun a t l => ∑ s ∈ range 8192, fw a s t * fk a s l) := by
  intro a t l
  pointwise [dvs]
  rw [← coe_sum_fin 8192 (fun s => fw a.val s t.val * fk a.val s l.val)]
  exact Finset.sum_congr rfl fun s _ => by rw [h a s t, h' a s l, EReal.coe_mul, mul_comm]

theorem ref_dks (h : R3 w fw) (h' : R3 k fk) : R3 (dks w k) (fun a t l => ∑ s ∈ range 8192, fw a s t * fk a s l) := by
  intro a t l
  pointwise [dks]
  rw [← coe_sum_fin 8192 (fun s => fw a.val s t.val * fk a.val s l.val)]
  exact Finset.sum_congr rfl fun s _ => by rw [h a s t, h' a s l, EReal.coe_mul]

theorem zero0_eq : zero0 (F := Ideal) (Shape.Idx.first h_S_) = 0 := Ideal.ofBits_zero_f32

/-- A sum over windows along the last axis is a sum over the window's positions. -/
theorem window_sum (lo hi : ℕ) (hw : S8x8192x8192.ReduceWindows ![1, 1, 8192] ![1, 1, 1] ![0, 0, lo] ![0, 0, hi] S8x8192x8192) (a : Fin 8) (s t : Fin 8192) :
    Host.reduceWindowAdd (F := Ideal) ![1, 1, 8192] ![1, 1, 1] ![0, 0, lo] ![0, 0, hi] x zero0 hw h_S_ (ix3 a s t)
      = ∑ n : Fin 8192, if hin : lo ≤ t.val + n.val ∧ t.val + n.val - lo < 8192 then x (ix3 a s ⟨t.val + n.val - lo, hin.2⟩) else 0 := by
  simp only [Host.reduceWindowAdd, Ideal.hostReduceWindowAdd_def, Ideal.hostReduceWindowAdd, Host.reduceWindow]
  rw [foldl_sum, zero0_eq, zero_add]
  refine (Equiv.sum_comp (Shape.rowMajor (⟨3, ![1, 1, 8192]⟩ : Shape)).symm (fun p : (⟨3, ![1, 1, 8192]⟩ : Shape).Idx =>
    if hin : ∀ b : Fin 3, (![0, 0, lo] : Fin 3 → ℕ) b ≤ (ix3 a s t b).val * (![1, 1, 1] : Fin 3 → ℕ) b + (p b).val
        ∧ (ix3 a s t b).val * (![1, 1, 1] : Fin 3 → ℕ) b + (p b).val - (![0, 0, lo] : Fin 3 → ℕ) b < S8x8192x8192.size b
      then x (fun b => ⟨(ix3 a s t b).val * (![1, 1, 1] : Fin 3 → ℕ) b + (p b).val - (![0, 0, lo] : Fin 3 → ℕ) b, (hin b).2⟩) else 0)).trans ?_
  rw [sum_idx3, Fintype.sum_unique, Fintype.sum_unique]
  refine Finset.sum_congr rfl fun n _ => ?_
  have ha := a.isLt
  have hs := s.isLt
  by_cases hin : lo ≤ t.val + n.val ∧ t.val + n.val - lo < 8192
  · rw [dif_pos hin, dif_pos]
    · refine congrArg x (funext fun b => Fin.ext ?_)
      fin_cases b
      · show a.val * 1 + 0 - 0 = a.val; omega
      · show s.val * 1 + 0 - 0 = s.val; omega
      · show t.val * 1 + n.val - lo = t.val + n.val - lo; omega
    · intro b
      fin_cases b
      · show 0 ≤ a.val * 1 + 0 ∧ a.val * 1 + 0 - 0 < 8; omega
      · show 0 ≤ s.val * 1 + 0 ∧ s.val * 1 + 0 - 0 < 8192; omega
      · show lo ≤ t.val * 1 + n.val ∧ t.val * 1 + n.val - lo < 8192; omega
  · rw [dif_neg hin, dif_neg]
    intro hall
    have h2 : lo ≤ t.val * 1 + n.val ∧ t.val * 1 + n.val - lo < 8192 := hall 2
    exact hin (by omega)

theorem ref_sufs (h : R3 x f) : R3 (sufs x) (fun a s t => suf (f a s) t) := by
  intro a s t
  have ht := t.isLt
  refine (window_sum 0 8191 _ a s t).trans ?_
  rw [Finset.sum_congr rfl (g := fun n : Fin 8192 => ((if t.val + n.val < 8192 then f a.val s.val (t.val + n.val) else 0 : ℝ) : EReal)) fun n _ => ?_]
  · rw [coe_sum_fin 8192 (fun n => if t.val + n < 8192 then f a.val s.val (t.val + n) else 0)]
    congr 1
    show _ = suf (f a.val s.val) t.val
    unfold suf
    rw [← sum_filter, show (range 8192).filter (fun n => t.val + n < 8192) = range (8192 - t.val) by ext n; simp only [mem_filter, mem_range]; omega,
      sum_Ico_eq_sum_range]
  · by_cases hn : t.val + n.val < 8192
    · rw [dif_pos (by omega), if_pos hn, h]; rfl
    · rw [dif_neg (by omega), if_neg hn]; rfl

theorem ref_pres (h : R3 x f) : R3 (pres x) (fun a s t => suf (f a s) 0 - suf (f a s) (t + 1)) := by
  intro a s t
  have ht := t.isLt
  refine (window_sum 8191 0 _ a s t).trans ?_
  rw [Finset.sum_congr rfl (g := fun n : Fin 8192 => ((if 8191 ≤ t.val + n.val then f a.val s.val (t.val + n.val - 8191) else 0 : ℝ) : EReal)) fun n _ => ?_]
  · rw [coe_sum_fin 8192 (fun n => if 8191 ≤ t.val + n then f a.val s.val (t.val + n - 8191) else 0)]
    congr 1
    show _ = suf (f a.val s.val) 0 - suf (f a.val s.val) (t.val + 1)
    rw [suf_split (f a.val s.val) 0 (t.val + 1) (by omega) (by omega), add_sub_cancel_right]
    rw [← sum_filter, show (range 8192).filter (fun n => 8191 ≤ t.val + n) = Ico (8191 - t.val) 8192 by
      ext n; simp only [mem_filter, mem_range, mem_Ico]; omega, sum_Ico_eq_sum_range, sum_Ico_eq_sum_range]
    rw [show 8192 - (8191 - t.val) = t.val + 1 - 0 by omega]
    exact sum_congr rfl fun n _ => by rw [show t.val + (8191 - t.val + n) - 8191 = 0 + n by omega]
  · have := n.isLt
    by_cases hn : 8191 ≤ t.val + n.val
    · rw [dif_pos (by omega), if_pos hn, h]
    · rw [dif_neg (by omega), if_neg hn]; rfl

/-! ## The stages in sequence -/

theorem ref_neg (h : R3 x f) : R3 (Host.negf x) (fun a s t => -f a s t) := by
  intro a s t
  pointwise
  rw [h a s t, EReal.coe_neg]

theorem ref_lbs (h : R3 z fz) : R3 (lbs z) (fun a s t => lb (fz a s t)) :=
  (ref_neg (ref_sp (ref_neg h))).congr fun _ _ _ _ _ _ => by rw [neg_neg, neg_neg]

theorem ref_loms (h : R3 z fz) : R3 (loms z) (fun a s t => lom (fz a) s t) := by
  refine ref_masked (f := fun a s t => lb (fz a s t) - fz a s t) ?_
  intro a s t
  have e := ref_lbs h a s t
  pointwise
  rw [e, h a s t, EReal.coe_sub]

theorem suf_next (f : ℕ → ℝ) {t : ℕ} (ht : t < 8192) : suf f t - f t = suf f (t + 1) := by
  rw [suf_split f t (t + 1) (by omega) (by omega), sum_Ico_eq_sum_range, show t + 1 - t = 1 by omega, sum_range_one, add_zero, add_sub_cancel_left]

theorem ref_exps (h : R3 z fz) : R3 (exps z) (fun a s t => Real.exp (lb (fz a s t) + suf (lom (fz a) s) (t + 1))) := by
  intro a s t
  have e1 := ref_lbs h a s t
  have e2 := ref_loms h a s t
  have e3 := ref_sufs (ref_loms h) a s t
  pointwise [exps]
  rw [e1, e2, e3, ← EReal.coe_sub, ← EReal.coe_add, exp_coe, suf_next _ t.isLt]

theorem ref_wts (h : R3 z fz) : R3 (wts z) (fun a s t => wt (fz a) s t) := ref_masked (ref_exps h)

theorem ref_gws (h : R3 z fz) (h' : R3 dw fw) : R3 (gws z dw) (fun a s t => gw (fz a) (fw a) s t) := by
  intro a s t
  have e1 := ref_masked h' a s t
  have e2 := ref_exps h a s t
  pointwise [gws]
  rw [e1, e2, ← EReal.coe_mul]
  unfold gw wt
  by_cases hts : t.val < s.val
  · beta_reduce; rw [if_pos hts, if_pos hts]
  · beta_reduce; rw [if_neg hts, if_neg hts, zero_mul, mul_zero]

theorem ref_pgs (h : R3 z fz) (h' : R3 dw fw) :
    R3 (pgs z dw) (fun a s t => if t < s then suf (gw (fz a) (fw a) s) 0 - suf (gw (fz a) (fw a) s) t else 0) := by
  refine (ref_masked (f := fun a s t => -gw (fz a) (fw a) s t + (suf (gw (fz a) (fw a) s) 0 - suf (gw (fz a) (fw a) s) (t + 1))) ?_).congr ?_
  · intro a s t
    have e1 := ref_gws h h' a s t
    have e2 := ref_pres (ref_gws h h') a s t
    pointwise
    rw [e1, e2, ← EReal.coe_neg, ← EReal.coe_add]
  · intro a _ s _ t ht
    by_cases hts : t < s
    · rw [if_pos hts, if_pos hts, ← suf_next _ ht]; ring
    · rw [if_neg hts, if_neg hts]

theorem ref_dzs (h : R3 z fz) (h' : R3 dw fw) : R3 (dzs z dw) (fun a s t => dz (fz a) (fw a) s t * (1 / 8)) := by
  intro a s t
  have e1 := ref_gws h h' a s t
  have e2 := ref_pgs h h' a s t
  have e3 := ref_dsp (ref_neg h) a s t
  pointwise [dzs, everywhere]
  rw [e1, e2, e3, eighth, ← EReal.coe_neg, ← EReal.coe_add, ← EReal.coe_neg, ← EReal.coe_mul, ← EReal.coe_neg, ← EReal.coe_add, ← EReal.coe_mul]
  unfold dz
  beta_reduce
  rw [neg_neg (fz a.val s.val t.val)]
  by_cases hts : t.val < s.val
  · rw [if_pos hts, if_pos hts]; congr 1; ring
  · rw [if_neg hts, if_neg hts, gw_of_le _ _ (by omega)]; congr 1; ring

/-! ## The results -/

theorem div_mod64 (x : ℕ) : 64 * (x / 64) + x % 64 = x := Nat.div_add_mod x 64

variable {m : (ℓ : Loc Cert.ReferenceIdeal.nD Cert.ReferenceIdeal.τ Cert.ReferenceIdeal.sig) → Buf (Elt Ideal) ℓ} {c : Dev Cert.ReferenceIdeal.nD}
  {Q K V D : ℕ → ℕ → ℝ}

theorem ref_zz (h0 : R2 (a0 m c) Q) (h1 : R2 (a1 m c) K) : R3 (scores (heads (a0 m c)) (heads (a1 m c))) (zz Q K) :=
  ref_scores (ref_heads h0) (ref_heads h1)

theorem ref_o (h0 : R2 (a0 m c) Q) (h1 : R2 (a1 m c) K) (h2 : R2 (a2 m c) V) : R2 (Value.res_main_v26 m c) (oT (zz Q K) V) := by
  rw [o_eq]
  exact (ref_flat (ref_apply (ref_wts (ref_zz h0 h1)) (ref_heads h2))).congr fun s _ x _ => by simp only [div_mod64, oT]

theorem ref_dv (h0 : R2 (a0 m c) Q) (h1 : R2 (a1 m c) K) (h3 : R2 (a3 m c) D) : R2 (Value.res_main_v34 m c) (dvT (zz Q K) D) := by
  rw [dv_eq]
  exact (ref_flat (ref_dvs (ref_wts (ref_zz h0 h1)) (ref_heads (ref_half h3)))).congr fun s _ x _ => by simp only [div_mod64, dvT]

theorem ref_dzz (h0 : R2 (a0 m c) Q) (h1 : R2 (a1 m c) K) (h2 : R2 (a2 m c) V) (h3 : R2 (a3 m c) D) :
    R3 (dzs (scores (heads (a0 m c)) (heads (a1 m c))) (dots (heads (half (a3 m c))) (heads (a2 m c))))
      (fun a s t => dz (zz Q K a) (dd D V a) s t * (1 / 8)) :=
  ref_dzs (ref_zz h0 h1) (ref_dots (ref_heads (ref_half h3)) (ref_heads h2))

theorem ref_dk (h0 : R2 (a0 m c) Q) (h1 : R2 (a1 m c) K) (h2 : R2 (a2 m c) V) (h3 : R2 (a3 m c) D) :
    R2 (Value.res_main_v50 m c) (dkT (zz Q K) (dd D V) Q) := by
  rw [dk_eq]
  exact (ref_flat (ref_dks (ref_dzz h0 h1 h2 h3) (ref_heads h0))).congr fun s _ x _ => by simp only [div_mod64, dkT]

theorem ref_dq (h0 : R2 (a0 m c) Q) (h1 : R2 (a1 m c) K) (h2 : R2 (a2 m c) V) (h3 : R2 (a3 m c) D) :
    R2 (Value.res_main_v52 m c) (dqT (zz Q K) (dd D V) K) := by
  rw [dq_eq]
  exact (ref_flat (ref_apply (ref_dzz h0 h1 h2 h3) (ref_heads h1))).congr fun s _ x _ => by simp only [div_mod64, dqT]

end

end Cert.Attn
-- ==== Proof.Results.lean ====
/-
  The arrays the kernel leaves, and the precondition read as: every element of every argument is a real.
-/
module

public import proofs.«01_k».proof.Proof.Entry
public import proofs.«01_k».proof.Proof.RefLift
public import proofs.«01_k».proof.Pre_finite_arguments
public import Idealize.ShloMosaic.Lib.ReduceAll

@[expose] public section

set_option maxRecDepth 16384

noncomputable section

namespace Cert.Attn

open Finset
open Cert.KernelIdeal Cert.KernelIdeal.Own Cert.KernelIdeal.Gen
open Idealize.ShloMosaic Idealize.ShloMosaic.TcCoe Idealize.ShloMosaic.StableHlo

/-! ## The kernel's four results -/

section

variable (m : (ℓ : Loc nD τ sig) → Buf (Elt Ideal) ℓ) (ρ : Dev nD → PrngReg) (c : Dev nD) (Q K X D : ℕ → ℕ → ℝ)

/-- The queries as the regions take them. -/
def scaled (s x : ℕ) : ℝ := Q s x * (1 / 8)

theorem dd_scaled : dd (scaled Q) K = zz Q K := by
  funext a s t
  simp only [dd, zz, scaled, sum_mul]
  exact sum_congr rfl fun l _ => by ring

theorem dkS_scaled (Z E : ℕ → ℕ → ℕ → ℝ) : dkS Z E (scaled Q) = dkT Z E Q := by
  funext t x
  simp only [dkS, dkT, scaled]
  exact sum_congr rfl fun s _ => by ring

/-- The four arguments are the real tables `Q`, `K`, `X`, `D`. -/
structure ArgsReal : Prop where
  q : R2 (m ((c : Thread nD τ).loc main_arg0)) Q
  k : R2 (m ((c : Thread nD τ).loc main_arg1)) K
  x : R2 (m ((c : Thread nD τ).loc main_arg2)) X
  d : R2 (m ((c : Thread nD τ).loc main_arg3)) D

variable {Q K X D} {m c}

theorem fwd_in (h : ArgsReal m c Q K X D) : FwdIn (V5 m ρ) c (scaled Q) K X :=
  ⟨entry_q m ρ c h.q, entry_k m ρ c h.k, entry_x m ρ c h.x, entry_te m ρ c⟩

theorem o_real (h : ArgsReal m c Q K X D) : R2 (V6 m ρ c main_v11_0) (oT (zz Q K) X) := by
  rw [← dd_scaled, show V6 m ρ c main_v11_0 = (dat0 (V5 m ρ) c).arrAt 4 (cfg0 (F := Ideal)).N from W6_arr m ρ c 4]
  exact arr_o (fwd_in ρ h)

theorem bwd_in (h : ArgsReal m c Q K X D) : BwdIn (V6 m ρ) c (scaled Q) K X D where
  q := by
    rw [show V6 m ρ c main_v8 = V5 m ρ c main_v8 from W6_of m ρ c main_v8 (by decide +kernel)]; exact (fwd_in ρ h).q
  k := by
    rw [show V6 m ρ c main_v9 = V5 m ρ c main_v9 from W6_of m ρ c main_v9 (by decide +kernel)]; exact (fwd_in ρ h).k
  v := by
    rw [show V6 m ρ c main_v10 = V5 m ρ c main_v10 from W6_of m ρ c main_v10 (by decide +kernel)]; exact (fwd_in ρ h).v
  te := by
    rw [show V6 m ρ c main_v5 = V5 m ρ c main_v5 from W6_of m ρ c main_v5 (by decide +kernel)]; exact (fwd_in ρ h).te
  o := by rw [dd_scaled]; exact o_real ρ h
  d := by
    rw [show V6 m ρ c main_arg3 = m ((c : Thread nD τ).loc main_arg3) from W6_args m ρ c main_arg3 (by decide)]; exact h.d
  ti := by
    rw [show V6 m ρ c main_v2 = V5 m ρ c main_v2 from W6_of_ne m ρ c main_v2 (by decide +kernel)]; exact entry_ti m ρ c

theorem res_o (h : ArgsReal m c Q K X D) : R2 (V7 m ρ c main_v11_0) (oT (zz Q K) X) := by
  rw [show V7 m ρ c main_v11_0 = V6 m ρ c main_v11_0 from W7_of m ρ c main_v11_0 (by decide +kernel)]
  exact o_real ρ h

theorem res_dq (h : ArgsReal m c Q K X D) : R2 (V7 m ρ c main_v12_0) (dqT (zz Q K) (dd D X) K) := by
  rw [← dd_scaled, show V7 m ρ c main_v12_0 = (dat1 (V6 m ρ) c).arrAt 7 (cfg1 (F := Ideal)).N from W7_arr m ρ c 7]
  exact arr_dq (bwd_in ρ h)

theorem res_dk (h : ArgsReal m c Q K X D) : R2 (V7 m ρ c main_v12_1) (dkT (zz Q K) (dd D X) Q) := by
  rw [← dkS_scaled, ← dd_scaled, show V7 m ρ c main_v12_1 = (dat1 (V6 m ρ) c).arrAt 8 (cfg1 (F := Ideal)).N from W7_arr m ρ c 8]
  exact arr_dk (bwd_in ρ h)

theorem res_dv (h : ArgsReal m c Q K X D) : R2 (V7 m ρ c main_v12_2) (dvT (zz Q K) D) := by
  rw [← dd_scaled, show V7 m ρ c main_v12_2 = (dat1 (V6 m ρ) c).arrAt 9 (cfg1 (F := Ideal)).N from W7_arr m ρ c 9]
  exact arr_dv (bwd_in ρ h)

end

/-! ## The precondition -/

/-- The real numbers of an array of reals. -/
def tab {M N : ℕ} (x : (⟨2, ![M, N]⟩ : Shape).Idx → EReal) (i j : ℕ) : ℝ :=
  if h : i < M ∧ j < N then (x (ix2 ⟨i, h.1⟩ ⟨j, h.2⟩)).toReal else 0

theorem tab_real {M N : ℕ} (x : FVec Ideal (⟨2, ![M, N]⟩ : Shape) .f32) (h : ∀ i, (cmpf .olt (Host.absf x) (fun _ => (⊤ : EReal)) : IVec _ 1) i = 1#1) :
    R2 x (tab x) := by
  intro i j
  have h1 := h (ix2 i j)
  pointwise at h1
  have h2 : max (x (ix2 i j)) (-x (ix2 i j)) < ⊤ := by
    by_contra hn
    have h3 : BitVec.ofBool (decide (max (x (ix2 i j)) (-x (ix2 i j)) < ⊤)) = 1#1 := h1
    rw [decide_eq_false hn] at h3
    exact absurd h3 (by decide)
  have ht : x (ix2 i j) ≠ ⊤ := fun e => by rw [e] at h2; simp at h2
  have hb : x (ix2 i j) ≠ ⊥ := fun e => by rw [e] at h2; simp at h2
  simp only [tab, dif_pos (And.intro i.isLt j.isLt)]
  exact (EReal.coe_toReal ht hb).symm

theorem pre_facts : Cert.Pre_finite_arguments.Facts where
  bcast_S_S8192x512 := by decide
  reducesTo_S8192x512_S_d0_1 := by decide
  h_S_ := by decide
  bcast_S_S8192x1024 := by decide
  reducesTo_S8192x1024_S_d0_1 := by decide

theorem pre_real [Cert.Pre_finite_arguments.Facts] (q k x : FVec Ideal S8192x512 .f32) (d : FVec Ideal S8192x1024 .f32)
    (h : Cert.Pre_finite_arguments.fn (F := Ideal) q k x d = fun _ => 1#1) :
    R2 q (tab q) ∧ R2 k (tab k) ∧ R2 x (tab x) ∧ R2 d (tab d) := by
  have h0 := congrFun h (fun a => a.elim0)
  simp only [Cert.Pre_finite_arguments.fn, Cert.Pre_finite_arguments.fn_part1] at h0
  obtain ⟨h3, hd⟩ := IntOp.andi_eq_one.1 h0
  obtain ⟨h2, hx⟩ := IntOp.andi_eq_one.1 h3
  obtain ⟨hq, hk⟩ := IntOp.andi_eq_one.1 h2
  have e : ∀ (s : Shape) (hs : Cert.Pre_finite_arguments.S_.BroadcastsInDim s ![]),
      broadcastInDim s ![] hs (constant (F := Ideal) Cert.Pre_finite_arguments.S_ .f32 0x7F800000#32) = fun _ => (⊤ : EReal) :=
    fun s hs => funext fun i => inf_eq
  rw [e] at hq hk hx hd
  haveI : Subsingleton Cert.Pre_finite_arguments.S_.Idx := ⟨fun a b => funext fun i => i.elim0⟩
  exact ⟨tab_real q (Host.reduce_andi_all _ _ _ _ _ hq), tab_real k (Host.reduce_andi_all _ _ _ _ _ hk),
    tab_real x (Host.reduce_andi_all _ _ _ _ _ hx), tab_real d (Host.reduce_andi_all _ _ _ _ _ hd)⟩

end Cert.Attn
-- ==== Proof.Products.lean ====
/-
  The products as sums: as it stands, with the second factor turned, and with the first factor turned.
-/
module

public import Idealize.ShloMosaic.Lib.Pointwise
public import Idealize.ShloMosaic.PureOps.Ideal

@[expose] public section

noncomputable section

namespace Cert.Prod

open Idealize.ShloMosaic

/-- An array of `M` rows and `N` columns. -/
abbrev Mat (M N : ℕ) := (⟨2, ![M, N]⟩ : Shape).Idx → EReal

/-- Four arrays of `M` rows and `N` columns. -/
abbrev Mat4 (M N : ℕ) := (⟨3, ![4, M, N]⟩ : Shape).Idx → EReal

variable {M N K : ℕ}

/-- The rows of `A` times the rows of `B`. -/
def nt (A : Mat M K) (B : Mat N K) : Mat M N := fun i => ∑ k : Fin K, A (ix2 (i 0) k) * B (ix2 (i 1) k)

/-- The columns of `A` times the columns of `B`. -/
def tn (A : Mat K M) (B : Mat K N) : Mat M N := fun i => ∑ k : Fin K, A (ix2 k (i 0)) * B (ix2 k (i 1))

/-- The rows of `A` times the columns of `B`. -/
def nn (A : Mat M K) (B : Mat K N) : Mat M N := fun i => ∑ k : Fin K, A (ix2 (i 0) k) * B (ix2 k (i 1))

/-- The sum of two arrays. -/
def plus (A B : Mat M N) : Mat M N := fun i => A i + B i

theorem add_four {a b c d a' b' c' d' : EReal} (ha : a = a') (hb : b = b') (hc : c = c') (hd : d = d') : a + b + c + d = a' + b' + c' + d' := by
  rw [ha, hb, hc, hd]

/-- Four arrays side by side. -/
def beside (L : ℕ) (B : Mat4 M L) : Mat M (4 * L) := fun i =>
  B (ix3 ⟨(i 1).val / L, Nat.div_lt_of_lt_mul (by have := (i 1).isLt; simpa [Nat.mul_comm] using this)⟩ (i 0)
    ⟨(i 1).val % L, Nat.mod_lt _ (Nat.pos_of_ne_zero fun h => by have := (i 1).isLt; subst h; exact absurd this (by simp))⟩)

/-- An array cut into four side by side. -/
def cut (L : ℕ) (A : Mat M (4 * L)) : Mat4 M L := fun i =>
  A (ix2 (i 1) ⟨(i 0).val * L + (i 2).val, by
    have h0 : (i 0).val < 4 := (i 0).isLt
    have h2 : (i 2).val < L := (i 2).isLt
    calc (i 0).val * L + (i 2).val < (i 0).val * L + L := by omega
      _ = ((i 0).val + 1) * L := by ring
      _ ≤ 4 * L := Nat.mul_le_mul_right _ (by omega)⟩)

end Cert.Prod

end
-- ==== Proof.DUp.lean ====
/-
  The gradient that passes the feed-forward's first weight: what the call leaves in its result, and the reference's product, as one sum.
-/
module

public import proofs.«01_k».proof.Defs
public import proofs.«01_k».proof.Proof.Products
public import proofs.«01_k».proof.Proof.Gen.Kernel2
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Pipeline.ValueKit

@[expose] public section

set_option maxRecDepth 16384

noncomputable section

namespace Cert.Prod.DUp

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

theorem result : (dats m 0 c).arrAt 2 cfg0.N = nt (m ((c : Thread nD τ).loc main_arg0)) (beside 1408 (m ((c : Thread nD τ).loc main_arg1))) := by
  refine (dats m 0 c).arrAt_eq_of_covers 2 _ (by decide +kernel) fun t _ y => ?_
  rw [after0_2]
  frame_out
  pointwise [k0_pay1, nt, beside]
  refine Eq.trans (cast_eq _ _) ?_
  rw [← Fin.sum_mul_add_fin (L := 5632) 4 1408, Fin.sum_univ_four]
  refine add_four (Fin.sum_fin_congr fun k => ?_) (Fin.sum_fin_congr fun k => ?_) (Fin.sum_fin_congr fun k => ?_) (Fin.sum_fin_congr fun k => ?_)
  all_goals exact congrArg₂ (· * ·) (by blk_ext! [iblk, V, index0 t, index2 t]) (by blk_ext! [iblk, V, index1 t, index2 t])

theorem reference (A : Mat 8192 5632) (B : Mat4 1024 1408) :
    Host.dotGeneral (F := Ideal) Cert.Reference2Ideal.dot_S8192x5632_S1024x5632_S8192x1024_1_1_0_0_n_n none (extf (φ := .bf16) .f32 A (by decide))
      (shapeCast _ (transpose Cert.Reference2Ideal.S1024x4x1408 [1, 0, 2] (extf (φ := .bf16) .f32 B (by decide)) Cert.Reference2Ideal.Gen.transposes_S4x1024x1408_S1024x4x1408_1_0_2)
        Cert.Reference2Ideal.Gen.shapeCasts_S1024x4x1408_S1024x5632) = nt A (beside 1408 B) := by
  funext i
  pointwise [nt, beside]

/-- The program as printed and its reading over the reals have one text. -/
theorem bodies : Cert.Kernel2.defs₀ (F := Bits) = Cert.Kernel2Ideal.defs₀ (F := Bits) := congrArg _ (funext fun | 0 => rfl)

theorem frame_kernel : Cert.quiescent_Kernel2 := fun m ρ _ => by
  unfold Cert.Kernel2.defs
  rw [bodies]
  exact Cert.Kernel2Ideal.Gen.frame (F := Bits) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := fun m g m' g' _ e =>
  ⟨fun c => nt (m ((c : Thread nD τ).loc main_arg0)) (beside 1408 (m ((c : Thread nD τ).loc main_arg1))),
    (θ_run defs _ _).mono (fun _ h c => ⟨(h c).1.trans (result m c), (h c).2⟩) (Cert.Kernel2Ideal.Value.run_blocks m g),
    (θ_run Cert.Reference2Ideal.defs _ _).mono (fun _ h c => ⟨(h c).1.trans ((reference _ _).trans (by rw [(e c).1, (e c).2])), (h c).2⟩)
      (Cert.Reference2Ideal.Value.run (F := Ideal) m' g')⟩

end Cert.Prod.DUp

end
-- ==== Proof.GUp.lean ====
/-
  The gradient of the feed-forward's first weight: what the call leaves in its result, and the reference's product, as one sum.
-/
module

public import proofs.«01_k».proof.Defs
public import proofs.«01_k».proof.Proof.Products
public import proofs.«01_k».proof.Proof.Gen.Kernel3
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Pipeline.ValueKit

@[expose] public section

set_option maxRecDepth 16384

noncomputable section

namespace Cert.Prod.GUp

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val % 8, 0] := by decide +kernel
theorem index1 : ∀ t : Fin grid0.N, win0_1.index t = ![t.val % 8, t.val / 8] := by decide +kernel
theorem index2 : ∀ t : Fin grid0.N, win0_2.index t = ![t.val / 8, 0, 0] := by decide +kernel

/-- The products of one tile of rows. -/
def part (t : Fin grid0.N) (y : S2x1024x1408.Idx) : EReal :=
  tn (M := 1024) (N := 2816) (K := 1024) (iblk m c 0 t) (iblk m c 1 t) (ix2 (y 1) ⟨(y 0).val * 1408 + (y 2).val, by
    have h0 : (y 0).val < 2 := (y 0).isLt
    have h2 : (y 2).val < 1408 := (y 2).isLt
    omega⟩)

theorem first (t : Fin grid0.N) (h : t.val % 8 = 0) (y : S2x1024x1408.Idx) : outsAt0 m c t.val t.isLt y = (fun _ => 0 : S2x1024x1408.Idx → EReal) y + part m c t y := by
  rw [outsAt0_A m c t h (by omega) h (by omega)]
  frame_out
  canon_tiles x h
  all_goals
    pointwise [k0_pay3, k0_pay4, k0_pay6, k0_pay7, k0_pay1, k0_pay2, k0_pay5, part, tn]
    exact Fin.sum_fin_congr fun k => congrArg₂ (· * ·) (by blk_ext! []) (by blk_ext! [])

theorem next (t : Fin grid0.N) (h : ¬t.val % 8 = 0) (y : S2x1024x1408.Idx) :
    outsAt0 m c t.val t.isLt y = outsAt0 m c (t.val - 1) (Nat.lt_of_le_of_lt (Nat.sub_le _ _) t.isLt) y + part m c t y := by
  rw [outsAt0_B m c t h (by omega) h (by omega)]
  frame_out
  canon_tiles x h
  all_goals
    pointwise [k0_pay3, k0_pay4, k0_pay6, k0_pay7, k0_pay1, k0_pay2, k0_pay5, part, tn]
    exact congrArg₂ (· + ·) (by blk_ext! []) (Fin.sum_fin_congr fun k => congrArg₂ (· * ·) (by blk_ext! []) (by blk_ext! []))

theorem result : (dats m 0 c).arrAt 2 cfg0.N = cut 1408 (tn (m ((c : Thread nD τ).loc main_arg0)) (m ((c : Thread nD τ).loc main_arg1))) := by
  refine (dats m 0 c).arrAt_eq_of_covers 2 _ (by decide +kernel) fun t hf y => ?_
  rw [after0_2, Pipeline.eq_sum_fin_of_reset_step_apply_of_flush (fun n h => outsAt0 m c n h) 8 (fun _ => 0) (part m c)
    (first m c) (next m c) t ((flush0_2 t).mp hf), zero_add]
  pointwise [part, tn, cut]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 1024) (B : Mat 8192 5632) :
    transpose S4x1024x1408 [1, 0, 2] (shapeCast _ (transpose Cert.Reference3Ideal.S1024x5632 [1, 0] (Host.dotGeneral (F := Ideal) Cert.Reference3Ideal.dot_S8192x5632_S8192x1024_S5632x1024_0_0_1_1_n_n none
      (extf (φ := .bf16) .f32 B (by decide)) (extf (φ := .bf16) .f32 A (by decide))) Cert.Reference3Ideal.Gen.transposes_S5632x1024_S1024x5632_1_0)
      Cert.Reference3Ideal.Gen.shapeCasts_S1024x5632_S1024x4x1408) Cert.Reference3Ideal.Gen.transposes_S1024x4x1408_S4x1024x1408_1_0_2 = cut 1408 (tn A B) := by
  funext i
  pointwise [tn, cut]
  exact Finset.sum_congr rfl fun k _ => mul_comm _ _

/-- The program as printed and its reading over the reals have one text. -/
theorem bodies : Cert.Kernel3.defs₀ (F := Bits) = Cert.Kernel3Ideal.defs₀ (F := Bits) := congrArg _ (funext fun | 0 => rfl)

theorem frame_kernel : Cert.quiescent_Kernel3 := fun m ρ _ => by
  unfold Cert.Kernel3.defs
  rw [bodies]
  exact Cert.Kernel3Ideal.Gen.frame (F := Bits) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := fun m g m' g' _ e =>
  ⟨fun c => cut 1408 (tn (m ((c : Thread nD τ).loc main_arg0)) (m ((c : Thread nD τ).loc main_arg1))),
    (θ_run defs _ _).mono (fun _ h c => ⟨(h c).1.trans (result m c), (h c).2⟩) (Cert.Kernel3Ideal.Value.run_blocks m g),
    (θ_run Cert.Reference3Ideal.defs _ _).mono (fun _ h c => ⟨(h c).1.trans ((reference _ _).trans (by rw [(e c).1, (e c).2])), (h c).2⟩)
      (Cert.Reference3Ideal.Value.run (F := Ideal) m' g')⟩

end Cert.Prod.GUp

end
-- ==== Proof.DDown.lean ====
/-
  The gradient of the feed-forward's activations: what the call leaves in its result, and the reference's product, as one sum.
-/
module

public import proofs.«01_k».proof.Defs
public import proofs.«01_k».proof.Proof.Products
public import proofs.«01_k».proof.Proof.Gen.Kernel4
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Pipeline.ValueKit

@[expose] public section

set_option maxRecDepth 16384

noncomputable section

namespace Cert.Prod.DDown

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem result : (dats m 0 c).arrAt 2 cfg0.N = nt (m ((c : Thread nD τ).loc main_arg0)) (m ((c : Thread nD τ).loc main_arg1)) := by
  refine (dats m 0 c).arrAt_eq_of_covers 2 _ (by decide +kernel) fun t _ y => ?_
  rw [after0_2]
  unfold outsAt0
  frame_out
  pointwise [k0_pay1, nt]
  exact Fin.sum_fin_congr fun k => congrArg₂ (· * ·) (by blk_ext! [iblk, V, index0 t, index2 t]) (by blk_ext! [iblk, V, index1 t, index2 t])

theorem reference (A : Mat 8192 1024) (B : Mat 2816 1024) :
    Host.dotGeneral (F := Ideal) Cert.Reference4Ideal.dot_S8192x1024_S2816x1024_S8192x2816_1_1_0_0_n_n none (extf (φ := .bf16) .f32 A (by decide)) (extf (φ := .bf16) .f32 B (by decide)) = nt A B := by
  funext i
  pointwise [nt]

/-- The program as printed and its reading over the reals have one text. -/
theorem bodies : Cert.Kernel4.defs₀ (F := Bits) = Cert.Kernel4Ideal.defs₀ (F := Bits) := congrArg _ (funext fun | 0 => rfl)

theorem frame_kernel : Cert.quiescent_Kernel4 := fun m ρ _ => by
  unfold Cert.Kernel4.defs
  rw [bodies]
  exact Cert.Kernel4Ideal.Gen.frame (F := Bits) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := fun m g m' g' _ e =>
  ⟨fun c => nt (m ((c : Thread nD τ).loc main_arg0)) (m ((c : Thread nD τ).loc main_arg1)),
    (θ_run defs _ _).mono (fun _ h c => ⟨(h c).1.trans (result m c), (h c).2⟩) (Cert.Kernel4Ideal.Value.run_blocks m g),
    (θ_run Cert.Reference4Ideal.defs _ _).mono (fun _ h c => ⟨(h c).1.trans ((reference _ _).trans (by rw [(e c).1, (e c).2])), (h c).2⟩)
      (Cert.Reference4Ideal.Value.run (F := Ideal) m' g')⟩

end Cert.Prod.DDown

end
-- ==== Proof.GDown.lean ====
/-
  The gradient of the feed-forward's second weight: what the call leaves in its result, and the reference's product, as one sum.
-/
module

public import proofs.«01_k».proof.Defs
public import proofs.«01_k».proof.Proof.Products
public import proofs.«01_k».proof.Proof.Gen.Kernel5
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Pipeline.ValueKit

@[expose] public section

set_option maxRecDepth 16384

noncomputable section

namespace Cert.Prod.GDown

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val % 4, t.val / 4] := by decide +kernel
theorem index1 : ∀ t : Fin grid0.N, win0_1.index t = ![t.val % 4, 0] := by decide +kernel
theorem index2 : ∀ t : Fin grid0.N, win0_2.index t = ![t.val / 4, 0] := by decide +kernel

/-- The products of one tile of rows. -/
def part (t : Fin grid0.N) (y : S1408x1024.Idx) : EReal := tn (K := 2048) (iblk m c 0 t) (iblk m c 1 t) y

theorem first (t : Fin grid0.N) (h : t.val % 4 = 0) (y : S1408x1024.Idx) : (outsAt0 m c t.val t.isLt).2 y = (fun _ => 0 : S1408x1024.Idx → EReal) y + part m c t y := by
  rw [outsAt0_A m c t h (by omega) (by omega)]
  frame_out
  pointwise [k0_pay2, k0_pay1, part, tn]

theorem next (t : Fin grid0.N) (h : ¬t.val % 4 = 0) (y : S1408x1024.Idx) :
    (outsAt0 m c t.val t.isLt).2 y = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3, k0_pay1, part, tn]
    exact congrArg (· + _) (congrFun ((Memref.isWhole_whole cc0_scratch0).read_unread _) y)
  · rw [outsAt0_B m c t h (by omega) h3]
    frame_out
    pointwise [k0_pay3, k0_pay1, part, tn]
    exact congrArg (· + _) (congrFun ((Memref.isWhole_whole cc0_scratch0).read_unread _) y)

theorem out (t : Fin grid0.N) (h : t.val % 4 = 3) : (outsAt0 m c t.val t.isLt).1 = (outsAt0 m c t.val t.isLt).2 := by
  rw [outsAt0_C m c t (by omega) (by omega) h]
  frame_out

theorem result : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [after0_2, out m c t ((flush0_2 t).mp hf), Pipeline.eq_sum_fin_of_reset_step_apply_of_flush (fun n h => (outsAt0 m c n h).2) 4 (fun _ => 0) (part m c)
    (first m c) (next m c) t ((flush0_2 t).mp hf), zero_add]
  pointwise [part, tn]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 2816) (B : Mat 8192 1024) :
    transpose S2816x1024 [1, 0] (Host.dotGeneral (F := Ideal) Cert.Reference5Ideal.dot_S8192x1024_S8192x2816_S1024x2816_0_0_1_1_n_n none
      (extf (φ := .bf16) .f32 B (by decide)) (extf (φ := .bf16) .f32 A (by decide))) Cert.Reference5Ideal.Gen.transposes_S1024x2816_S2816x1024_1_0 = tn A B := by
  funext i
  pointwise [tn]
  exact Finset.sum_congr rfl fun k _ => mul_comm _ _

/-- The program as printed and its reading over the reals have one text. -/
theorem bodies : Cert.Kernel5.defs₀ (F := Bits) = Cert.Kernel5Ideal.defs₀ (F := Bits) := congrArg _ (funext fun | 0 => rfl)

theorem frame_kernel : Cert.quiescent_Kernel5 := fun m ρ _ => by
  unfold Cert.Kernel5.defs
  rw [bodies]
  exact Cert.Kernel5Ideal.Gen.frame (F := Bits) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := fun m g m' g' _ e =>
  ⟨fun c => tn (m ((c : Thread nD τ).loc main_arg0)) (m ((c : Thread nD τ).loc main_arg1)),
    (θ_run defs _ _).mono (fun _ h c => ⟨(h c).1.trans (result m c), (h c).2⟩) (Cert.Kernel5Ideal.Value.run_blocks m g),
    (θ_run Cert.Reference5Ideal.defs _ _).mono (fun _ h c => ⟨(h c).1.trans ((reference _ _).trans (by rw [(e c).1, (e c).2])), (h c).2⟩)
      (Cert.Reference5Ideal.Value.run (F := Ideal) m' g')⟩

end Cert.Prod.GDown

end
-- ==== Proof.DIn.lean ====
/-
  The gradient of what w_in multiplies: what the call leaves in its result, and the reference's product, as one sum.
-/
module

public import proofs.«01_k».proof.Defs
public import proofs.«01_k».proof.Proof.Products
public import proofs.«01_k».proof.Proof.Gen.Kernel6
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Pipeline.ValueKit

@[expose] public section

set_option maxRecDepth 16384

noncomputable section

namespace Cert.Prod.DIn

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

theorem result : (dats m 0 c).arrAt 2 cfg0.N = nt (m ((c : Thread nD τ).loc main_arg0)) (beside 640 (m ((c : Thread nD τ).loc main_arg1))) := by
  refine (dats m 0 c).arrAt_eq_of_covers 2 _ (by decide +kernel) fun t _ y => ?_
  rw [after0_2]
  frame_out
  pointwise [k0_pay1, nt, beside]
  refine Eq.trans (cast_eq _ _) ?_
  rw [← Fin.sum_mul_add_fin (L := 2560) 4 640, Fin.sum_univ_four]
  refine add_four (Fin.sum_fin_congr fun k => ?_) (Fin.sum_fin_congr fun k => ?_) (Fin.sum_fin_congr fun k => ?_) (Fin.sum_fin_congr fun k => ?_)
  all_goals exact congrArg₂ (· * ·) (by blk_ext! [iblk, V, index0 t, index2 t]) (by blk_ext! [iblk, V, index1 t, index2 t])

theorem reference (A : Mat 8192 2560) (B : Mat4 1024 640) :
    Host.dotGeneral (F := Ideal) Cert.Reference6Ideal.dot_S8192x2560_S1024x2560_S8192x1024_1_1_0_0_n_n none (extf (φ := .bf16) .f32 A (by decide))
      (shapeCast _ (transpose Cert.Reference6Ideal.S1024x4x640 [1, 0, 2] (extf (φ := .bf16) .f32 B (by decide)) Cert.Reference6Ideal.Gen.transposes_S4x1024x640_S1024x4x640_1_0_2)
        Cert.Reference6Ideal.Gen.shapeCasts_S1024x4x640_S1024x2560) = nt A (beside 640 B) := by
  funext i
  pointwise [nt, beside]

/-- The program as printed and its reading over the reals have one text. -/
theorem bodies : Cert.Kernel6.defs₀ (F := Bits) = Cert.Kernel6Ideal.defs₀ (F := Bits) := congrArg _ (funext fun | 0 => rfl)

theorem frame_kernel : Cert.quiescent_Kernel6 := fun m ρ _ => by
  unfold Cert.Kernel6.defs
  rw [bodies]
  exact Cert.Kernel6Ideal.Gen.frame (F := Bits) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := fun m g m' g' _ e =>
  ⟨fun c => nt (m ((c : Thread nD τ).loc main_arg0)) (beside 640 (m ((c : Thread nD τ).loc main_arg1))),
    (θ_run defs _ _).mono (fun _ h c => ⟨(h c).1.trans (result m c), (h c).2⟩) (Cert.Kernel6Ideal.Value.run_blocks m g),
    (θ_run Cert.Reference6Ideal.defs _ _).mono (fun _ h c => ⟨(h c).1.trans ((reference _ _).trans (by rw [(e c).1, (e c).2])), (h c).2⟩)
      (Cert.Reference6Ideal.Value.run (F := Ideal) m' g')⟩

end Cert.Prod.DIn

end
-- ==== Proof.GIn.lean ====
/-
  The gradient of w_in: what the call leaves in its result, and the reference's product, as one sum over the blocks of the sequence.
-/
module

public import proofs.«01_k».proof.Defs
public import proofs.«01_k».proof.Proof.Products
public import proofs.«01_k».proof.Proof.Gen.Kernel7
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Pipeline.ValueKit

@[expose] public section

set_option maxRecDepth 16384

noncomputable section

namespace Cert.Prod.GIn

open Cert.Kernel7Ideal Cert.Kernel7Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0, 0] := by decide +kernel

/-- The products of one tile of rows. -/
def part (t : Fin grid0.N) (y : S4x1024x640.Idx) : EReal :=
  tn (M := 1024) (N := 2560) (K := 2048) (iblk m c 0 t) (iblk m c 1 t) (ix2 (y 1) ⟨(y 0).val * 640 + (y 2).val, by
    have h0 : (y 0).val < 4 := (y 0).isLt
    have h2 : (y 2).val < 640 := (y 2).isLt
    omega⟩)

theorem first (t : Fin grid0.N) (h : t.val % 4 = 0) (y : S4x1024x640.Idx) : outsAt0 m c t.val t.isLt y = (fun _ => 0 : S4x1024x640.Idx → EReal) y + part m c t y := by
  have ht := t.isLt
  have hN : grid0.N = 4 := rfl
  have h1 : ¬1 ≤ t.val := by omega
  rw [outsAt0_A m c t h h1 h h1 h h1 h h1]
  frame_out
  canon_tiles x h
  all_goals
    pointwise [k0_pay1, k0_pay2, k0_pay3, k0_pay4, k0_pay5, k0_pay6, k0_pay7, k0_pay8, k0_pay9, k0_pay10, k0_pay11, k0_pay12, k0_pay13, part, tn]
    exact Fin.sum_fin_congr fun k => congrArg₂ (· * ·) (by blk_ext! []) (by blk_ext! [])

theorem next (t : Fin grid0.N) (h : ¬t.val % 4 = 0) (y : S4x1024x640.Idx) :
    outsAt0 m c t.val t.isLt y = outsAt0 m c (t.val - 1) (Nat.lt_of_le_of_lt (Nat.sub_le _ _) t.isLt) y + part m c t y := by
  have h1 : 1 ≤ t.val := by omega
  rw [outsAt0_B m c t h h1 h h1 h h1 h h1]
  frame_out
  canon_tiles x h
  all_goals
    pointwise [k0_pay1, k0_pay2, k0_pay3, k0_pay4, k0_pay5, k0_pay6, k0_pay7, k0_pay8, k0_pay9, k0_pay10, k0_pay11, k0_pay12, k0_pay13, part, tn]
    exact congrArg₂ (· + ·) (by blk_ext! []) (Fin.sum_fin_congr fun k => congrArg₂ (· * ·) (by blk_ext! []) (by blk_ext! []))

theorem result : (dats m 0 c).arrAt 2 cfg0.N = cut 640 (tn (m ((c : Thread nD τ).loc main_arg0)) (m ((c : Thread nD τ).loc main_arg1))) := by
  refine (dats m 0 c).arrAt_eq_of_covers 2 _ (by decide +kernel) fun t hf y => ?_
  rw [after0_2, Pipeline.eq_sum_fin_of_reset_step_apply_of_flush (fun n h => outsAt0 m c n h) 4 (fun _ => 0) (part m c)
    (first m c) (next m c) t ((flush0_2 t).mp hf), zero_add]
  pointwise [part, tn, cut]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 1024) (B : Mat 8192 2560) :
    transpose S4x1024x640 [1, 0, 2] (shapeCast _ (transpose Cert.Reference7Ideal.S1024x2560 [1, 0] (Host.dotGeneral (F := Ideal) Cert.Reference7Ideal.dot_S8192x2560_S8192x1024_S2560x1024_0_0_1_1_n_n none
      (extf (φ := .bf16) .f32 B (by decide)) (extf (φ := .bf16) .f32 A (by decide))) Cert.Reference7Ideal.Gen.transposes_S2560x1024_S1024x2560_1_0)
      Cert.Reference7Ideal.Gen.shapeCasts_S1024x2560_S1024x4x640) Cert.Reference7Ideal.Gen.transposes_S1024x4x640_S4x1024x640_1_0_2 = cut 640 (tn A B) := by
  funext i
  pointwise [tn, cut]
  exact Finset.sum_congr rfl fun k _ => mul_comm _ _

/-- The program as printed and its reading over the reals have one text. -/
theorem bodies : Cert.Kernel7.defs₀ (F := Bits) = Cert.Kernel7Ideal.defs₀ (F := Bits) := congrArg _ (funext fun | 0 => rfl)

theorem frame_kernel : Cert.quiescent_Kernel7 := fun m ρ _ => by
  unfold Cert.Kernel7.defs
  rw [bodies]
  exact Cert.Kernel7Ideal.Gen.frame (F := Bits) m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := fun m g m' g' _ e =>
  ⟨fun c => cut 640 (tn (m ((c : Thread nD τ).loc main_arg0)) (m ((c : Thread nD τ).loc main_arg1))),
    (θ_run defs _ _).mono (fun _ h c => ⟨(h c).1.trans (result m c), (h c).2⟩) (Cert.Kernel7Ideal.Value.run_blocks m g),
    (θ_run Cert.Reference7Ideal.defs _ _).mono (fun _ h c => ⟨(h c).1.trans ((reference _ _).trans (by rw [(e c).1, (e c).2])), (h c).2⟩)
      (Cert.Reference7Ideal.Value.run (F := Ideal) m' g')⟩

end Cert.Prod.GIn

end
-- ==== Proof.DOut.lean ====
/-
  The gradient of what w_out multiplies: what the call leaves in its result, and the reference's product, as one sum.
-/
module

public import proofs.«01_k».proof.Defs
public import proofs.«01_k».proof.Proof.Products
public import proofs.«01_k».proof.Proof.Gen.Kernel8
public import proofs.«01_k».proof.Proof.Gen.Kernel8Ideal.Value
public import proofs.«01_k».proof.Proof.Gen.Reference8Ideal.Run
public import Idealize.ShloMosaic.Adequacy
public import Idealize.ShloMosaic.Init
public import Idealize.ShloMosaic.Lib.Pipeline.ValueKit

@[expose] public section

set_option maxRecDepth 16384

noncomputable section

namespace Cert.Prod.DOut

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem result : (dats m 0 c).arrAt 2 cfg0.N = nt (m ((c : Thread nD τ).loc main_arg0)) (m ((c : Thread nD τ).loc main_arg1)) := by
  refine (dats m 0 c).arrAt_eq_of_covers 2 _ (by decide +kernel) fun t _ y => ?_
  rw [after0_2]
  unfold outsAt0
  frame_out
  pointwise [k0_pay1, nt]
  exact Fin.sum_fin_congr fun k => congrArg₂ (· * ·) (by blk_ext! [iblk, V, index0 t, index2 t]) (by blk_ext! [iblk, V, index1 t, index2 t])

theorem reference (A : Mat 8192 1024) (B : Mat 1024 1024) :
    Host.dotGeneral (F := Ideal) Cert.Reference8Ideal.dot_S8192x1024_S1024x1024_S8192x1024_1_1_0_0_n_n none (extf (φ := .bf16) .f32 A (by decide)) (extf (φ := .bf16) .f32 B (by decide)) = nt A B := by
  funext i
  pointwise [nt]

/-- The program as printed and its reading over the reals have one text. -/
theorem bodies : Cert.Kernel8.defs₀ (F := Bits) = Cert.Kernel8Ideal.defs₀ (F := Bits) := congrArg _ (funext fun | 0 => rfl)

theorem frame_kernel : Cert.quiescent_Kernel8 := fun m ρ _ => by
  unfold Cert.Kernel8.defs
  rw [bodies]
  exact Cert.Kernel8Ideal.Gen.frame (F := Bits) m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := fun m g m' g' _ e =>
  ⟨fun c => nt (m ((c : Thread nD τ).loc main_arg0)) (m ((c : Thread nD τ).loc main_arg1)),
    (θ_run defs _ _).mono (fun _ h c => ⟨(h c).1.trans (result m c), (h c).2⟩) (Cert.Kernel8Ideal.Value.run_blocks m g),
    (θ_run Cert.Reference8Ideal.defs _ _).mono (fun _ h c => ⟨(h c).1.trans ((reference _ _).trans (by rw [(e c).1, (e c).2])), (h c).2⟩)
      (Cert.Reference8Ideal.Value.run (F := Ideal) m' g')⟩

end Cert.Prod.DOut

end
-- ==== Proof.GOut.lean ====
/-
  The gradient of w_out: what the call leaves in its result, and the reference's product, as one sum over the blocks of the sequence.
-/
module

public import proofs.«01_k».proof.Defs
public import proofs.«01_k».proof.Proof.Products
public import proofs.«01_k».proof.Proof.Gen.Kernel9
public import proofs.«01_k».proof.Proof.Gen.Kernel9Ideal.Value
public import proofs.«01_k».proof.Proof.Gen.Reference9Ideal.Run
public import Idealize.ShloMosaic.Adequacy
public import Idealize.ShloMosaic.Init
public import Idealize.ShloMosaic.Lib.Pipeline.ValueKit

@[expose] public section

set_option maxRecDepth 16384

noncomputable section

namespace Cert.Prod.GOut

open Cert.Kernel9Ideal Cert.Kernel9Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val % 4, t.val / 4] := by decide +kernel
theorem index1 : ∀ t : Fin grid0.N, win0_1.index t = ![t.val % 4, 0] := by decide +kernel
theorem index2 : ∀ t : Fin grid0.N, win0_2.index t = ![t.val / 4, 0] := by decide +kernel

/-- The products of one tile of rows. -/
def part (t : Fin grid0.N) (y : S1024x1024.Idx) : EReal := tn (K := 2048) (iblk m c 0 t) (iblk m c 1 t) y

theorem first (t : Fin grid0.N) (h : t.val % 4 = 0) (y : S1024x1024.Idx) : (outsAt0 m c t.val t.isLt).2 y = (fun _ => 0 : S1024x1024.Idx → EReal) y + part m c t y := by
  have ht := t.isLt
  have hN : grid0.N = 4 := rfl
  rw [outsAt0_A m c t h (by omega) (by omega)]
  frame_out
  pointwise [k0_pay2, k0_pay1, part, tn]

theorem next (t : Fin grid0.N) (h : ¬t.val % 4 = 0) (y : S1024x1024.Idx) :
    (outsAt0 m c t.val t.isLt).2 y = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3, k0_pay1, part, tn]
    exact congrArg (· + _) (congrFun ((Memref.isWhole_whole cc0_scratch0).read_unread _) y)
  · rw [outsAt0_B m c t h (by omega) h3]
    frame_out
    pointwise [k0_pay3, k0_pay1, part, tn]
    exact congrArg (· + _) (congrFun ((Memref.isWhole_whole cc0_scratch0).read_unread _) y)

theorem out (t : Fin grid0.N) (h : t.val % 4 = 3) : (outsAt0 m c t.val t.isLt).1 = (outsAt0 m c t.val t.isLt).2 := by
  rw [outsAt0_C m c t (by omega) (by omega) h]
  frame_out

theorem result : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [after0_2, out m c t ((flush0_2 t).mp hf), Pipeline.eq_sum_fin_of_reset_step_apply_of_flush (fun n h => (outsAt0 m c n h).2) 4 (fun _ => 0) (part m c)
    (first m c) (next m c) t ((flush0_2 t).mp hf), zero_add]
  pointwise [part, tn]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 1024) (B : Mat 8192 1024) :
    transpose S1024x1024 [1, 0] (Host.dotGeneral (F := Ideal) Cert.Reference9Ideal.dot_S8192x1024_S8192x1024_S1024x1024_0_0_1_1_n_n none
      (extf (φ := .bf16) .f32 B (by decide)) (extf (φ := .bf16) .f32 A (by decide))) Cert.Reference9Ideal.Gen.transposes_S1024x1024_S1024x1024_1_0 = tn A B := by
  funext i
  pointwise [tn]
  exact Finset.sum_congr rfl fun k _ => mul_comm _ _

/-- The program as printed and its reading over the reals have one text. -/
theorem bodies : Cert.Kernel9.defs₀ (F := Bits) = Cert.Kernel9Ideal.defs₀ (F := Bits) := congrArg _ (funext fun | 0 => rfl)

theorem frame_kernel : Cert.quiescent_Kernel9 := fun m ρ _ => by
  unfold Cert.Kernel9.defs
  rw [bodies]
  exact Cert.Kernel9Ideal.Gen.frame (F := Bits) m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := fun m g m' g' _ e =>
  ⟨fun c => tn (m ((c : Thread nD τ).loc main_arg0)) (m ((c : Thread nD τ).loc main_arg1)),
    (θ_run defs _ _).mono (fun _ h c => ⟨(h c).1.trans (result m c), (h c).2⟩) (Cert.Kernel9Ideal.Value.run_blocks m g),
    (θ_run Cert.Reference9Ideal.defs _ _).mono (fun _ h c => ⟨(h c).1.trans ((reference _ _).trans (by rw [(e c).1, (e c).2])), (h c).2⟩)
      (Cert.Reference9Ideal.Value.run (F := Ideal) m' g')⟩

end Cert.Prod.GOut

end
-- ==== Proof.Up.lean ====
/-
  The feed-forward's first product: what the call leaves in its result, and the reference's product, as one sum.
-/
module

public import proofs.«01_k».proof.Defs
public import proofs.«01_k».proof.Proof.Products
public import proofs.«01_k».proof.Proof.Gen.Kernel10
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Pipeline.ValueKit

@[expose] public section

set_option maxRecDepth 16384

noncomputable section

namespace Cert.Prod.Up

open Cert.Kernel10Ideal Cert.Kernel10Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

/-- The four stores of one tile of rows, one for each quarter of the columns. -/
theorem tile (t : Fin grid0.N) (y : S512x5632.Idx) : out0_2 (iblk m c 0 t) (iblk m c 1 t) y =
    nn (M := 512) (N := 5632) (K := 1024) (iblk m c 0 t) (beside 1408 (iblk m c 1 t)) y := by
  unfold out0_2
  canon_tiles x h
  all_goals
    pointwise [k0_pay1, k0_pay2, k0_pay3, k0_pay4, nn, beside]
    exact Fin.sum_fin_congr fun k => congrArg₂ (· * ·) (by blk_ext! []) (by blk_ext! [])

theorem result : (dats m 0 c).arrAt 2 cfg0.N = nn (m ((c : Thread nD τ).loc main_arg0)) (beside 1408 (m ((c : Thread nD τ).loc main_arg1))) := by
  refine (dats m 0 c).arrAt_eq_of_covers 2 _ (by decide +kernel) fun t _ y => ?_
  rw [after0_2]
  refine (cast_eq _ _).trans ((tile m c t _).trans ?_)
  pointwise [nn, beside]
  exact Fin.sum_fin_congr fun k => congrArg₂ (· * ·) (by blk_ext! [iblk, V, index0 t, index2 t]) (by blk_ext! [iblk, V, index1 t, index2 t])

theorem reference (A : Mat 8192 1024) (B : Mat4 1024 1408) :
    truncf (φ := .f32) .bf16 (Host.dotGeneral (F := Ideal) Cert.Reference10Ideal.dot_S8192x1024_S1024x5632_S8192x5632_1_0_0_1_n_n none (extf (φ := .bf16) .f32 A (by decide))
      (shapeCast _ (transpose Cert.Reference10Ideal.S1024x4x1408 [1, 0, 2] (extf (φ := .bf16) .f32 B (by decide)) Cert.Reference10Ideal.Gen.transposes_S4x1024x1408_S1024x4x1408_1_0_2)
        Cert.Reference10Ideal.Gen.shapeCasts_S1024x4x1408_S1024x5632)) (by decide) = nn A (beside 1408 B) := by
  funext i
  pointwise [nn, beside]

/-- The program as printed and its reading over the reals have one text. -/
theorem bodies : Cert.Kernel10.defs₀ (F := Bits) = Cert.Kernel10Ideal.defs₀ (F := Bits) := congrArg _ (funext fun | 0 => rfl)

theorem frame_kernel : Cert.quiescent_Kernel10 := fun m ρ _ => by
  unfold Cert.Kernel10.defs
  rw [bodies]
  exact Cert.Kernel10Ideal.Gen.frame (F := Bits) m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := fun m g m' g' _ e =>
  ⟨fun c => nn (m ((c : Thread nD τ).loc main_arg0)) (beside 1408 (m ((c : Thread nD τ).loc main_arg1))),
    (θ_run defs _ _).mono (fun _ h c => ⟨(h c).1.trans (result m c), (h c).2⟩) (Cert.Kernel10Ideal.Value.run_blocks m g),
    (θ_run Cert.Reference10Ideal.defs _ _).mono (fun _ h c => ⟨(h c).1.trans ((reference _ _).trans (by rw [(e c).1, (e c).2])), (h c).2⟩)
      (Cert.Reference10Ideal.Value.run (F := Ideal) m' g')⟩

end Cert.Prod.Up

end
-- ==== Proof.In.lean ====
/-
  The mixer's input projection: what the call leaves in its result, and the reference's product, as one sum.
-/
module

public import proofs.«01_k».proof.Defs
public import proofs.«01_k».proof.Proof.Products
public import proofs.«01_k».proof.Proof.Gen.Kernel11
public import proofs.«01_k».proof.Proof.Gen.Kernel11Ideal.Value
public import proofs.«01_k».proof.Proof.Gen.Reference11Ideal.Run
public import Idealize.ShloMosaic.Adequacy
public import Idealize.ShloMosaic.Init
public import Idealize.ShloMosaic.Lib.Pipeline.ValueKit

@[expose] public section

set_option maxRecDepth 16384

noncomputable section

namespace Cert.Prod.In

open Cert.Kernel11Ideal Cert.Kernel11Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

/-- The four stores of one tile of rows, one for each quarter of the columns. -/
theorem tile (t : Fin grid0.N) (y : S512x2560.Idx) : out0_2 (iblk m c 0 t) (iblk m c 1 t) y =
    nn (M := 512) (N := 2560) (K := 1024) (iblk m c 0 t) (beside 640 (iblk m c 1 t)) y := by
  unfold out0_2
  canon_tiles x h
  all_goals
    pointwise [k0_pay1, k0_pay2, k0_pay3, k0_pay4, nn, beside]
    exact Fin.sum_fin_congr fun k => congrArg₂ (· * ·) (by blk_ext! []) (by blk_ext! [])

theorem result : (dats m 0 c).arrAt 2 cfg0.N = nn (m ((c : Thread nD τ).loc main_arg0)) (beside 640 (m ((c : Thread nD τ).loc main_arg1))) := by
  refine (dats m 0 c).arrAt_eq_of_covers 2 _ (by decide +kernel) fun t _ y => ?_
  rw [after0_2]
  refine (cast_eq _ _).trans ((tile m c t _).trans ?_)
  pointwise [nn, beside]
  exact Fin.sum_fin_congr fun k => congrArg₂ (· * ·) (by blk_ext! [iblk, V, index0 t, index2 t]) (by blk_ext! [iblk, V, index1 t, index2 t])

theorem reference (A : Mat 8192 1024) (B : Mat4 1024 640) :
    Host.dotGeneral (F := Ideal) Cert.Reference11Ideal.dot_S8192x1024_S1024x2560_S8192x2560_1_0_0_1_n_n none (extf (φ := .bf16) .f32 A (by decide))
      (shapeCast _ (transpose Cert.Reference11Ideal.S1024x4x640 [1, 0, 2] (extf (φ := .bf16) .f32 B (by decide)) Cert.Reference11Ideal.Gen.transposes_S4x1024x640_S1024x4x640_1_0_2)
        Cert.Reference11Ideal.Gen.shapeCasts_S1024x4x640_S1024x2560) = nn A (beside 640 B) := by
  funext i
  pointwise [nn, beside]

/-- The program as printed and its reading over the reals have one text. -/
theorem bodies : Cert.Kernel11.defs₀ (F := Bits) = Cert.Kernel11Ideal.defs₀ (F := Bits) := congrArg _ (funext fun | 0 => rfl)

theorem frame_kernel : Cert.quiescent_Kernel11 := fun m ρ _ => by
  unfold Cert.Kernel11.defs
  rw [bodies]
  exact Cert.Kernel11Ideal.Gen.frame (F := Bits) m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := fun m g m' g' _ e =>
  ⟨fun c => nn (m ((c : Thread nD τ).loc main_arg0)) (beside 640 (m ((c : Thread nD τ).loc main_arg1))),
    (θ_run defs _ _).mono (fun _ h c => ⟨(h c).1.trans (result m c), (h c).2⟩) (Cert.Kernel11Ideal.Value.run_blocks m g),
    (θ_run Cert.Reference11Ideal.defs _ _).mono (fun _ h c => ⟨(h c).1.trans ((reference _ _).trans (by rw [(e c).1, (e c).2])), (h c).2⟩)
      (Cert.Reference11Ideal.Value.run (F := Ideal) m' g')⟩

end Cert.Prod.In

end
-- ==== Proof.Down.lean ====
/-
  The feed-forward's second product, onto the residual stream: what the call leaves in its result, and the reference's, as one sum.
-/
module

public import proofs.«01_k».proof.Defs
public import proofs.«01_k».proof.Proof.Products
public import proofs.«01_k».proof.Proof.Gen.Kernel12
public import proofs.«01_k».proof.Proof.Gen.Kernel12Ideal.Value
public import proofs.«01_k».proof.Proof.Gen.Reference12Ideal.Run
public import Idealize.ShloMosaic.Adequacy
public import Idealize.ShloMosaic.Init
public import Idealize.ShloMosaic.Lib.Pipeline.ValueKit

@[expose] public section

set_option maxRecDepth 16384

noncomputable section

namespace Cert.Prod.Down

open Cert.Kernel12Ideal Cert.Kernel12Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel

theorem result : (dats m 0 c).arrAt 3 cfg0.N = plus (nn (m ((c : Thread nD τ).loc main_arg0)) (m ((c : Thread nD τ).loc main_arg1))) (m ((c : Thread nD τ).loc main_arg2)) := by
  refine (dats m 0 c).arrAt_eq_of_covers 3 _ (by decide +kernel) fun t _ y => ?_
  rw [after0_3]
  unfold outsAt0
  frame_out
  pointwise [k0_pay1, nn, plus]
  exact congrArg₂ (· + ·) (Fin.sum_fin_congr fun k => congrArg₂ (· * ·) (by blk_ext! [iblk, V, index0 t, index3 t]) (by blk_ext! [iblk, V, index1 t, index3 t])) (by blk_ext! [iblk, V, index2 t, index3 t])

theorem reference (A : Mat 8192 2816) (B : Mat 2816 1024) (H : Mat 8192 1024) :
    addf (F := Ideal) (φ := .f32) H (Host.dotGeneral (F := Ideal) Cert.Reference12Ideal.dot_S8192x2816_S2816x1024_S8192x1024_1_0_0_1_n_n none (extf (φ := .bf16) .f32 A (by decide)) (extf (φ := .bf16) .f32 B (by decide))) = plus (nn A B) H := by
  funext i
  pointwise [nn, plus]
  exact add_comm _ _

/-- The program as printed and its reading over the reals have one text. -/
theorem bodies : Cert.Kernel12.defs₀ (F := Bits) = Cert.Kernel12Ideal.defs₀ (F := Bits) := congrArg _ (funext fun | 0 => rfl)

theorem frame_kernel : Cert.quiescent_Kernel12 := fun m ρ _ => by
  unfold Cert.Kernel12.defs
  rw [bodies]
  exact Cert.Kernel12Ideal.Gen.frame (F := Bits) m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := fun m g m' g' _ e =>
  ⟨fun c => plus (nn (m ((c : Thread nD τ).loc main_arg0)) (m ((c : Thread nD τ).loc main_arg1))) (m ((c : Thread nD τ).loc main_arg2)),
    (θ_run defs _ _).mono (fun _ h c => ⟨(h c).1.trans (result m c), (h c).2⟩) (Cert.Kernel12Ideal.Value.run_blocks m g),
    (θ_run Cert.Reference12Ideal.defs _ _).mono (fun _ h c => ⟨(h c).1.trans ((reference _ _ _).trans (by rw [(e c).1, (e c).2.1, (e c).2.2])), (h c).2⟩)
      (Cert.Reference12Ideal.Value.run (F := Ideal) m' g')⟩

end Cert.Prod.Down

end
-- ==== Proof.Out.lean ====
/-
  The mixer's output projection, onto the residual stream: what the call leaves in its result, and the reference's, as one sum.
-/
module

public import proofs.«01_k».proof.Defs
public import proofs.«01_k».proof.Proof.Products
public import proofs.«01_k».proof.Proof.Gen.Kernel13
public import proofs.«01_k».proof.Proof.Gen.Kernel13Ideal.Value
public import proofs.«01_k».proof.Proof.Gen.Reference13Ideal.Run
public import Idealize.ShloMosaic.Adequacy
public import Idealize.ShloMosaic.Init
public import Idealize.ShloMosaic.Lib.Pipeline.ValueKit

@[expose] public section

set_option maxRecDepth 16384

noncomputable section

namespace Cert.Prod.Out

open Cert.Kernel13Ideal Cert.Kernel13Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel

theorem result : (dats m 0 c).arrAt 3 cfg0.N = plus (nn (m ((c : Thread nD τ).loc main_arg0)) (m ((c : Thread nD τ).loc main_arg1))) (m ((c : Thread nD τ).loc main_arg2)) := by
  refine (dats m 0 c).arrAt_eq_of_covers 3 _ (by decide +kernel) fun t _ y => ?_
  rw [after0_3]
  unfold outsAt0
  frame_out
  pointwise [k0_pay1, nn, plus]
  exact congrArg₂ (· + ·) (Fin.sum_fin_congr fun k => congrArg₂ (· * ·) (by blk_ext! [iblk, V, index0 t, index3 t]) (by blk_ext! [iblk, V, index1 t, index3 t])) (by blk_ext! [iblk, V, index2 t, index3 t])

theorem reference (A : Mat 8192 1024) (B : Mat 1024 1024) (H : Mat 8192 1024) :
    addf (F := Ideal) (φ := .f32) H (Host.dotGeneral (F := Ideal) Cert.Reference13Ideal.dot_S8192x1024_S1024x1024_S8192x1024_1_0_0_1_n_n none (extf (φ := .bf16) .f32 A (by decide)) (extf (φ := .bf16) .f32 B (by decide))) = plus (nn A B) H := by
  funext i
  pointwise [nn, plus]
  exact add_comm _ _

/-- The program as printed and its reading over the reals have one text. -/
theorem bodies : Cert.Kernel13.defs₀ (F := Bits) = Cert.Kernel13Ideal.defs₀ (F := Bits) := congrArg _ (funext fun | 0 => rfl)

theorem frame_kernel : Cert.quiescent_Kernel13 := fun m ρ _ => by
  unfold Cert.Kernel13.defs
  rw [bodies]
  exact Cert.Kernel13Ideal.Gen.frame (F := Bits) m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := fun m g m' g' _ e =>
  ⟨fun c => plus (nn (m ((c : Thread nD τ).loc main_arg0)) (m ((c : Thread nD τ).loc main_arg1))) (m ((c : Thread nD τ).loc main_arg2)),
    (θ_run defs _ _).mono (fun _ h c => ⟨(h c).1.trans (result m c), (h c).2⟩) (Cert.Kernel13Ideal.Value.run_blocks m g),
    (θ_run Cert.Reference13Ideal.defs _ _).mono (fun _ h c => ⟨(h c).1.trans ((reference _ _ _).trans (by rw [(e c).1, (e c).2.1, (e c).2.2])), (h c).2⟩)
      (Cert.Reference13Ideal.Value.run (F := Ideal) m' g')⟩

end Cert.Prod.Out

end
-- ==== Proof.Gate.lean ====
/-
  The product in front of the embedding's gate: what the call leaves in its result, and the reference's product, as one sum.
-/
module

public import proofs.«01_k».proof.Defs
public import proofs.«01_k».proof.Proof.Products
public import proofs.«01_k».proof.Proof.Gen.Kernel14
public import proofs.«01_k».proof.Proof.Gen.Kernel14Ideal.Value
public import proofs.«01_k».proof.Proof.Gen.Reference14Ideal.Run
public import Idealize.ShloMosaic.Adequacy
public import Idealize.ShloMosaic.Init
public import Idealize.ShloMosaic.Lib.Pipeline.ValueKit

@[expose] public section

set_option maxRecDepth 16384

noncomputable section

namespace Cert.Prod.Gate

open Cert.Kernel14Ideal Cert.Kernel14Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem result : (dats m 0 c).arrAt 2 cfg0.N = nn (m ((c : Thread nD τ).loc main_arg0)) (m ((c : Thread nD τ).loc main_arg1)) := by
  refine (dats m 0 c).arrAt_eq_of_covers 2 _ (by decide +kernel) fun t _ y => ?_
  rw [after0_2]
  unfold outsAt0
  frame_out
  pointwise [k0_pay1, nn]
  exact Fin.sum_fin_congr fun k => congrArg₂ (· * ·) (by blk_ext! [iblk, V, index0 t, index2 t]) (by blk_ext! [iblk, V, index1 t, index2 t])

theorem reference (A : Mat 8192 1024) (B : Mat 1024 1024) :
    Host.dotGeneral (F := Ideal) Cert.Reference14Ideal.dot_S8192x1024_S1024x1024_S8192x1024_1_0_0_1_n_n none (extf (φ := .bf16) .f32 A (by decide)) (extf (φ := .bf16) .f32 B (by decide)) = nn A B := by
  funext i
  pointwise [nn]

/-- The program as printed and its reading over the reals have one text. -/
theorem bodies : Cert.Kernel14.defs₀ (F := Bits) = Cert.Kernel14Ideal.defs₀ (F := Bits) := congrArg _ (funext fun | 0 => rfl)

theorem frame_kernel : Cert.quiescent_Kernel14 := fun m ρ _ => by
  unfold Cert.Kernel14.defs
  rw [bodies]
  exact Cert.Kernel14Ideal.Gen.frame (F := Bits) m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := fun m g m' g' _ e =>
  ⟨fun c => nn (m ((c : Thread nD τ).loc main_arg0)) (m ((c : Thread nD τ).loc main_arg1)),
    (θ_run defs _ _).mono (fun _ h c => ⟨(h c).1.trans (result m c), (h c).2⟩) (Cert.Kernel14Ideal.Value.run_blocks m g),
    (θ_run Cert.Reference14Ideal.defs _ _).mono (fun _ h c => ⟨(h c).1.trans ((reference _ _).trans (by rw [(e c).1, (e c).2])), (h c).2⟩)
      (Cert.Reference14Ideal.Value.run (F := Ideal) m' g')⟩

end Cert.Prod.Gate

end
-- ==== Proof.DGate.lean ====
/-
  The gradient of what w_ple_gate multiplies: what the call leaves in its result, and the reference's product, as one sum.
-/
module

public import proofs.«01_k».proof.Defs
public import proofs.«01_k».proof.Proof.Products
public import proofs.«01_k».proof.Proof.Gen.Kernel21
public import proofs.«01_k».proof.Proof.Gen.Kernel21Ideal.Value
public import proofs.«01_k».proof.Proof.Gen.Reference21Ideal.Run
public import Idealize.ShloMosaic.Adequacy
public import Idealize.ShloMosaic.Init
public import Idealize.ShloMosaic.Lib.Pipeline.ValueKit

@[expose] public section

set_option maxRecDepth 16384

noncomputable section

namespace Cert.Prod.DGate

open Cert.Kernel21Ideal Cert.Kernel21Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem result : (dats m 0 c).arrAt 2 cfg0.N = nt (m ((c : Thread nD τ).loc main_arg0)) (m ((c : Thread nD τ).loc main_arg1)) := by
  refine (dats m 0 c).arrAt_eq_of_covers 2 _ (by decide +kernel) fun t _ y => ?_
  rw [after0_2]
  unfold outsAt0
  frame_out
  pointwise [k0_pay1, nt]
  exact Fin.sum_fin_congr fun k => congrArg₂ (· * ·) (by blk_ext! [iblk, V, index0 t, index2 t]) (by blk_ext! [iblk, V, index1 t, index2 t])

theorem reference (A : Mat 8192 1024) (B : Mat 1024 1024) :
    Host.dotGeneral (F := Ideal) Cert.Reference21Ideal.dot_S8192x1024_S1024x1024_S8192x1024_1_1_0_0_n_n none (extf (φ := .bf16) .f32 A (by decide)) (extf (φ := .bf16) .f32 B (by decide)) = nt A B := by
  funext i
  pointwise [nt]

/-- The program as printed and its reading over the reals have one text. -/
theorem bodies : Cert.Kernel21.defs₀ (F := Bits) = Cert.Kernel21Ideal.defs₀ (F := Bits) := congrArg _ (funext fun | 0 => rfl)

theorem frame_kernel : Cert.quiescent_Kernel21 := fun m ρ _ => by
  unfold Cert.Kernel21.defs
  rw [bodies]
  exact Cert.Kernel21Ideal.Gen.frame (F := Bits) m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := fun m g m' g' _ e =>
  ⟨fun c => nt (m ((c : Thread nD τ).loc main_arg0)) (m ((c : Thread nD τ).loc main_arg1)),
    (θ_run defs _ _).mono (fun _ h c => ⟨(h c).1.trans (result m c), (h c).2⟩) (Cert.Kernel21Ideal.Value.run_blocks m g),
    (θ_run Cert.Reference21Ideal.defs _ _).mono (fun _ h c => ⟨(h c).1.trans ((reference _ _).trans (by rw [(e c).1, (e c).2])), (h c).2⟩)
      (Cert.Reference21Ideal.Value.run (F := Ideal) m' g')⟩

end Cert.Prod.DGate

end
-- ==== Proof.GGate.lean ====
/-
  The gradient of w_ple_gate: what the call leaves in its result, and the reference's product, as one sum over the blocks of the sequence.
-/
module

public import proofs.«01_k».proof.Defs
public import proofs.«01_k».proof.Proof.Products
public import proofs.«01_k».proof.Proof.Gen.Kernel22
public import proofs.«01_k».proof.Proof.Gen.Kernel22Ideal.Value
public import proofs.«01_k».proof.Proof.Gen.Reference22Ideal.Run
public import Idealize.ShloMosaic.Adequacy
public import Idealize.ShloMosaic.Init
public import Idealize.ShloMosaic.Lib.Pipeline.ValueKit

@[expose] public section

set_option maxRecDepth 16384

noncomputable section

namespace Cert.Prod.GGate

open Cert.Kernel22Ideal Cert.Kernel22Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val % 4, t.val / 4] := by decide +kernel
theorem index1 : ∀ t : Fin grid0.N, win0_1.index t = ![t.val % 4, 0] := by decide +kernel
theorem index2 : ∀ t : Fin grid0.N, win0_2.index t = ![t.val / 4, 0] := by decide +kernel

/-- The products of one tile of rows. -/
def part (t : Fin grid0.N) (y : S1024x1024.Idx) : EReal := tn (K := 2048) (iblk m c 0 t) (iblk m c 1 t) y

theorem first (t : Fin grid0.N) (h : t.val % 4 = 0) (y : S1024x1024.Idx) : (outsAt0 m c t.val t.isLt).2 y = (fun _ => 0 : S1024x1024.Idx → EReal) y + part m c t y := by
  have ht := t.isLt
  have hN : grid0.N = 4 := rfl
  rw [outsAt0_A m c t h (by omega) (by omega)]
  frame_out
  pointwise [k0_pay2, k0_pay1, part, tn]

theorem next (t : Fin grid0.N) (h : ¬t.val % 4 = 0) (y : S1024x1024.Idx) :
    (outsAt0 m c t.val t.isLt).2 y = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3, k0_pay1, part, tn]
    exact congrArg (· + _) (congrFun ((Memref.isWhole_whole cc0_scratch0).read_unread _) y)
  · rw [outsAt0_B m c t h (by omega) h3]
    frame_out
    pointwise [k0_pay3, k0_pay1, part, tn]
    exact congrArg (· + _) (congrFun ((Memref.isWhole_whole cc0_scratch0).read_unread _) y)

theorem out (t : Fin grid0.N) (h : t.val % 4 = 3) : (outsAt0 m c t.val t.isLt).1 = (outsAt0 m c t.val t.isLt).2 := by
  rw [outsAt0_C m c t (by omega) (by omega) h]
  frame_out

theorem result : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [after0_2, out m c t ((flush0_2 t).mp hf), Pipeline.eq_sum_fin_of_reset_step_apply_of_flush (fun n h => (outsAt0 m c n h).2) 4 (fun _ => 0) (part m c)
    (first m c) (next m c) t ((flush0_2 t).mp hf), zero_add]
  pointwise [part, tn]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 1024) (B : Mat 8192 1024) :
    transpose S1024x1024 [1, 0] (Host.dotGeneral (F := Ideal) Cert.Reference22Ideal.dot_S8192x1024_S8192x1024_S1024x1024_0_0_1_1_n_n none
      (extf (φ := .bf16) .f32 B (by decide)) (extf (φ := .bf16) .f32 A (by decide))) Cert.Reference22Ideal.Gen.transposes_S1024x1024_S1024x1024_1_0 = tn A B := by
  funext i
  pointwise [tn]
  exact Finset.sum_congr rfl fun k _ => mul_comm _ _

/-- The program as printed and its reading over the reals have one text. -/
theorem bodies : Cert.Kernel22.defs₀ (F := Bits) = Cert.Kernel22Ideal.defs₀ (F := Bits) := congrArg _ (funext fun | 0 => rfl)

theorem frame_kernel : Cert.quiescent_Kernel22 := fun m ρ _ => by
  unfold Cert.Kernel22.defs
  rw [bodies]
  exact Cert.Kernel22Ideal.Gen.frame (F := Bits) m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic : Cert.algebraic_Kernel22Ideal_Reference22Ideal := fun m g m' g' _ e =>
  ⟨fun c => tn (m ((c : Thread nD τ).loc main_arg0)) (m ((c : Thread nD τ).loc main_arg1)),
    (θ_run defs _ _).mono (fun _ h c => ⟨(h c).1.trans (result m c), (h c).2⟩) (Cert.Kernel22Ideal.Value.run_blocks m g),
    (θ_run Cert.Reference22Ideal.defs _ _).mono (fun _ h c => ⟨(h c).1.trans ((reference _ _).trans (by rw [(e c).1, (e c).2])), (h c).2⟩)
      (Cert.Reference22Ideal.Value.run (F := Ideal) m' g')⟩

end Cert.Prod.GGate

end
-- ==== Proof.Ple.lean ====
/-
  The projection of the embedding: what the call leaves in its result, and the reference's product, as one sum.
-/
module

public import proofs.«01_k».proof.Defs
public import proofs.«01_k».proof.Proof.Products
public import proofs.«01_k».proof.Proof.Gen.Kernel23
public import proofs.«01_k».proof.Proof.Gen.Kernel23Ideal.Value
public import proofs.«01_k».proof.Proof.Gen.Reference23Ideal.Run
public import Idealize.ShloMosaic.Adequacy
public import Idealize.ShloMosaic.Init
public import Idealize.ShloMosaic.Lib.Pipeline.ValueKit

@[expose] public section

set_option maxRecDepth 16384

noncomputable section

namespace Cert.Prod.Ple

open Cert.Kernel23Ideal Cert.Kernel23Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel

/-- The four stores of one tile of rows, one for each quarter of the columns. -/
theorem tile (t : Fin grid0.N) (y : S512x1024.Idx) : out0_2 (iblk m c 0 t) (iblk m c 1 t) y =
    nn (M := 512) (N := 1024) (K := 256) (iblk m c 0 t) (beside 256 (iblk m c 1 t)) y := by
  unfold out0_2
  canon_tiles x h
  all_goals
    pointwise [k0_pay1, k0_pay2, k0_pay3, k0_pay4, nn, beside]
    exact Fin.sum_fin_congr fun k => congrArg₂ (· * ·) (by blk_ext! []) (by blk_ext! [])

theorem result : (dats m 0 c).arrAt 2 cfg0.N = nn (m ((c : Thread nD τ).loc main_arg0)) (beside 256 (m ((c : Thread nD τ).loc main_arg1))) := by
  refine (dats m 0 c).arrAt_eq_of_covers 2 _ (by decide +kernel) fun t _ y => ?_
  rw [after0_2]
  refine (cast_eq _ _).trans ((tile m c t _).trans ?_)
  pointwise [nn, beside]
  exact Fin.sum_fin_congr fun k => congrArg₂ (· * ·) (by blk_ext! [iblk, V, index0 t, index2 t]) (by blk_ext! [iblk, V, index1 t, index2 t])

theorem reference (A : Mat 8192 256) (B : Mat4 256 256) :
    Host.dotGeneral (F := Ideal) Cert.Reference23Ideal.dot_S8192x256_S256x1024_S8192x1024_1_0_0_1_n_n none (extf (φ := .bf16) .f32 A (by decide))
      (shapeCast _ (transpose Cert.Reference23Ideal.S256x4x256 [1, 0, 2] (extf (φ := .bf16) .f32 B (by decide)) Cert.Reference23Ideal.Gen.transposes_S4x256x256_S256x4x256_1_0_2)
        Cert.Reference23Ideal.Gen.shapeCasts_S256x4x256_S256x1024) = nn A (beside 256 B) := by
  funext i
  pointwise [nn, beside]

/-- The program as printed and its reading over the reals have one text. -/
theorem bodies : Cert.Kernel23.defs₀ (F := Bits) = Cert.Kernel23Ideal.defs₀ (F := Bits) := congrArg _ (funext fun | 0 => rfl)

theorem frame_kernel : Cert.quiescent_Kernel23 := fun m ρ _ => by
  unfold Cert.Kernel23.defs
  rw [bodies]
  exact Cert.Kernel23Ideal.Gen.frame (F := Bits) m ρ

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic : Cert.algebraic_Kernel23Ideal_Reference23Ideal := fun m g m' g' _ e =>
  ⟨fun c => nn (m ((c : Thread nD τ).loc main_arg0)) (beside 256 (m ((c : Thread nD τ).loc main_arg1))),
    (θ_run defs _ _).mono (fun _ h c => ⟨(h c).1.trans (result m c), (h c).2⟩) (Cert.Kernel23Ideal.Value.run_blocks m g),
    (θ_run Cert.Reference23Ideal.defs _ _).mono (fun _ h c => ⟨(h c).1.trans ((reference _ _).trans (by rw [(e c).1, (e c).2])), (h c).2⟩)
      (Cert.Reference23Ideal.Value.run (F := Ideal) m' g')⟩

end Cert.Prod.Ple

end
-- ==== Proof.GPle.lean ====
/-
  The gradient of w_ple_proj: what the call leaves in its result, and the reference's product, as one sum over the blocks of the sequence.
-/
module

public import proofs.«01_k».proof.Defs
public import proofs.«01_k».proof.Proof.Products
public import proofs.«01_k».proof.Proof.Gen.Kernel24
public import proofs.«01_k».proof.Proof.Gen.Kernel24Ideal.Value
public import proofs.«01_k».proof.Proof.Gen.Reference24Ideal.Run
public import Idealize.ShloMosaic.Adequacy
public import Idealize.ShloMosaic.Init
public import Idealize.ShloMosaic.Lib.Pipeline.ValueKit

@[expose] public section

set_option maxRecDepth 16384

noncomputable section

namespace Cert.Prod.GPle

open Cert.Kernel24Ideal Cert.Kernel24Ideal.Gen
open Idealize.ShloMosaic Idealize.ShloMosaic.TcCoe Idealize.SL.Sem

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0, 0] := by decide +kernel

/-- The products of one tile of rows. -/
def part (t : Fin grid0.N) (y : S4x256x256.Idx) : EReal :=
  tn (M := 256) (N := 1024) (K := 2048) (iblk m c 0 t) (iblk m c 1 t) (ix2 (y 1) ⟨(y 0).val * 256 + (y 2).val, by
    have h0 : (y 0).val < 4 := (y 0).isLt
    have h2 : (y 2).val < 256 := (y 2).isLt
    omega⟩)

theorem first (t : Fin grid0.N) (h : t.val % 4 = 0) (y : S4x256x256.Idx) : outsAt0 m c t.val t.isLt y = (fun _ => 0 : S4x256x256.Idx → EReal) y + part m c t y := by
  have ht := t.isLt
  have hN : grid0.N = 4 := rfl
  have h1 : ¬1 ≤ t.val := by omega
  rw [outsAt0_A m c t h h1 h h1 h h1 h h1]
  frame_out
  canon_tiles x h
  all_goals
    pointwise [k0_pay1, k0_pay2, k0_pay3, k0_pay4, k0_pay5, k0_pay6, k0_pay7, k0_pay8, k0_pay9, k0_pay10, k0_pay11, k0_pay12, k0_pay13, part, tn]
    exact Fin.sum_fin_congr fun k => congrArg₂ (· * ·) (by blk_ext! []) (by blk_ext! [])

theorem next (t : Fin grid0.N) (h : ¬t.val % 4 = 0) (y : S4x256x256.Idx) :
    outsAt0 m c t.val t.isLt y = outsAt0 m c (t.val - 1) (Nat.lt_of_le_of_lt (Nat.sub_le _ _) t.isLt) y + part m c t y := by
  have h1 : 1 ≤ t.val := by omega
  rw [outsAt0_B m c t h h1 h h1 h h1 h h1]
  frame_out
  canon_tiles x h
  all_goals
    pointwise [k0_pay1, k0_pay2, k0_pay3, k0_pay4, k0_pay5, k0_pay6, k0_pay7, k0_pay8, k0_pay9, k0_pay10, k0_pay11, k0_pay12, k0_pay13, part, tn]
    exact congrArg₂ (· + ·) (by blk_ext! []) (Fin.sum_fin_congr fun k => congrArg₂ (· * ·) (by blk_ext! []) (by blk_ext! []))

theorem result : (dats m 0 c).arrAt 2 cfg0.N = cut 256 (tn (m ((c : Thread nD τ).loc main_arg0)) (m ((c : Thread nD τ).loc main_arg1))) := by
  refine (dats m 0 c).arrAt_eq_of_covers 2 _ (by decide +kernel) fun t hf y => ?_
  rw [after0_2, Pipeline.eq_sum_fin_of_reset_step_apply_of_flush (fun n h => outsAt0 m c n h) 4 (fun _ => 0) (part m c)
    (first m c) (next m c) t ((flush0_2 t).mp hf), zero_add]
  pointwise [part, tn, cut]
  refine Fin.sum_mul_add_congr fun s k hl => ?_
  exact congrArg₂ (· * ·) (by blk_ext! [iblk, V, index0 ⟨_, Pipeline.run_point_lt_of_flush t ((flush0_2 t).mp hf) s⟩, index2 t])
    (by blk_ext! [iblk, V, index1 ⟨_, Pipeline.run_point_lt_of_flush t ((flush0_2 t).mp hf) s⟩, index2 t])

theorem reference (A : Mat 8192 256) (B : Mat 8192 1024) :
    transpose S4x256x256 [1, 0, 2] (shapeCast _ (transpose Cert.Reference24Ideal.S256x1024 [1, 0] (Host.dotGeneral (F := Ideal) Cert.Reference24Ideal.dot_S8192x1024_S8192x256_S1024x256_0_0_1_1_n_n none
      (extf (φ := .bf16) .f32 B (by decide)) (extf (φ := .bf16) .f32 A (by decide))) Cert.Reference24Ideal.Gen.transposes_S1024x256_S256x1024_1_0)
      Cert.Reference24Ideal.Gen.shapeCasts_S256x1024_S256x4x256) Cert.Reference24Ideal.Gen.transposes_S256x4x256_S4x256x256_1_0_2 = cut 256 (tn A B) := by
  funext i
  pointwise [tn, cut]
  exact Finset.sum_congr rfl fun k _ => mul_comm _ _

/-- The program as printed and its reading over the reals have one text. -/
theorem bodies : Cert.Kernel24.defs₀ (F := Bits) = Cert.Kernel24Ideal.defs₀ (F := Bits) := congrArg _ (funext fun | 0 => rfl)

theorem frame_kernel : Cert.quiescent_Kernel24 := fun m ρ _ => by
  unfold Cert.Kernel24.defs
  rw [bodies]
  exact Cert.Kernel24Ideal.Gen.frame (F := Bits) m ρ

theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic : Cert.algebraic_Kernel24Ideal_Reference24Ideal := fun m g m' g' _ e =>
  ⟨fun c => cut 256 (tn (m ((c : Thread nD τ).loc main_arg0)) (m ((c : Thread nD τ).loc main_arg1))),
    (θ_run defs _ _).mono (fun _ h c => ⟨(h c).1.trans (result m c), (h c).2⟩) (Cert.Kernel24Ideal.Value.run_blocks m g),
    (θ_run Cert.Reference24Ideal.defs _ _).mono (fun _ h c => ⟨(h c).1.trans ((reference _ _).trans (by rw [(e c).1, (e c).2])), (h c).2⟩)
      (Cert.Reference24Ideal.Value.run (F := Ideal) m' g')⟩

end Cert.Prod.GPle

end
-- ==== Proof.Adam.lean ====
/-
  The optimiser's rule as functions of whole arrays of any shape: the gradient of two parts, the two running means, and the change of a weight.
-/
module

public import Idealize.ShloMosaic.PureOps.Ideal

@[expose] public section

noncomputable section

namespace Cert.Adam

open Idealize.ShloMosaic

variable {s : Shape}

/-- An array of reals. -/
abbrev Arr (s : Shape) := s.Idx → Ideal .f32

/-- The number a word stands for. -/
abbrev word (w : BitVec 32) : Ideal .f32 := Scalar.ofBits .f32 w

/-- The gradient, of its two parts. -/
def grad (a b : Arr s) : Arr s := fun i => FloatOps.addf (a i) (b i)

/-- The running mean of the gradient. -/
def mean (m g : Arr s) : Arr s := fun i =>
  FloatOps.addf (FloatOps.mulf (word 0x3F666666#32) (m i)) (FloatOps.mulf (word 0x3DCCCCCD#32) (g i))

/-- The running mean of the gradient's square. -/
def square (v g : Arr s) : Arr s := fun i =>
  FloatOps.addf (FloatOps.mulf (word 0x3F7FBE77#32) (v i)) (FloatOps.mulf (word 0x3A83126F#32) (FloatOps.mulf (g i) (g i)))

/-- The weight's change, of the weight and the two means. -/
def change (w m v : Arr s) : Arr s := fun i =>
  FloatOps.mulf (word 0xBA83126F#32)
    (FloatOps.addf
      (FloatOps.divf (FloatOps.divf (m i) (word 0x3F26BD02#32))
        (FloatOps.addf (FloatOps.sqrt (FloatOps.divf (v i) (word 0x3C231ACC#32))) (word 0x322BCC77#32)))
      (FloatOps.mulf (word 0x3C23D70A#32) (w i)))

end Cert.Adam

end
-- ==== Proof.AdamUp.lean ====
/-
  The optimiser's call of the feed-forward's first weight.
-/
module

public import proofs.«01_k».proof.Defs
public import proofs.«01_k».proof.Proof.Adam
public import proofs.«01_k».proof.Proof.Gen.Kernel15
public import proofs.«01_k».proof.Proof.Gen.Kernel15Ideal.Value
public import proofs.«01_k».proof.Proof.Gen.Reference15Ideal.Run
public import Idealize.ShloMosaic.Adequacy
public import Idealize.ShloMosaic.Init
public import Idealize.ShloMosaic.Lib.Pipeline.ValueKit

@[expose] public section

set_option maxRecDepth 16384

noncomputable section

namespace Cert.Adam.Up

open Cert.Kernel15Ideal Cert.Kernel15Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S1024x1408 := grad (m ((c : Thread nD τ).loc main_arg1)) (m ((c : Thread nD τ).loc main_arg2))

/-- Its running mean after the step. -/
abbrev m1 : Arr S1024x1408 := mean (m ((c : Thread nD τ).loc main_arg3)) (g m c)

/-- The running mean of its square after the step. -/
abbrev v1 : Arr S1024x1408 := square (m ((c : Thread nD τ).loc main_arg4)) (g m c)

/-- The program as printed and its reading over the reals have one text. -/
theorem bodies : Cert.Kernel15.defs₀ (F := Bits) = Cert.Kernel15Ideal.defs₀ (F := Bits) := congrArg _ (funext fun | 0 => rfl)

theorem frame_kernel : Cert.quiescent_Kernel15 := fun m ρ _ => by
  unfold Cert.Kernel15.defs
  rw [bodies]
  exact Cert.Kernel15Ideal.Gen.frame (F := Bits) m ρ

theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem algebraic : Cert.algebraic_Kernel15Ideal_Reference15Ideal := fun m ρ m' ρ' _ e =>
  ⟨g m, fun c => change (m ((c : Thread nD τ).loc main_arg0)) (m1 m c) (v1 m c), m1 m, v1 m,
    (θ_run defs _ _).mono (fun _ h c => h c) (Cert.Kernel15Ideal.Value.run m ρ),
    (θ_run Cert.Reference15Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference15Ideal.Value.run (F := Ideal) m' ρ')⟩

end Cert.Adam.Up

end
-- ==== Proof.AdamIn.lean ====
/-
  The optimiser's call of the mixer's input weight.
-/
module

public import proofs.«01_k».proof.Defs
public import proofs.«01_k».proof.Proof.Adam
public import proofs.«01_k».proof.Proof.Gen.Kernel16
public import proofs.«01_k».proof.Proof.Gen.Kernel16Ideal.Value
public import proofs.«01_k».proof.Proof.Gen.Reference16Ideal.Run
public import Idealize.ShloMosaic.Adequacy
public import Idealize.ShloMosaic.Init
public import Idealize.ShloMosaic.Lib.Pipeline.ValueKit

@[expose] public section

set_option maxRecDepth 16384

noncomputable section

namespace Cert.Adam.In

open Cert.Kernel16Ideal Cert.Kernel16Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S1024x640 := grad (m ((c : Thread nD τ).loc main_arg1)) (m ((c : Thread nD τ).loc main_arg2))

/-- Its running mean after the step. -/
abbrev m1 : Arr S1024x640 := mean (m ((c : Thread nD τ).loc main_arg3)) (g m c)

/-- The running mean of its square after the step. -/
abbrev v1 : Arr S1024x640 := square (m ((c : Thread nD τ).loc main_arg4)) (g m c)

/-- The program as printed and its reading over the reals have one text. -/
theorem bodies : Cert.Kernel16.defs₀ (F := Bits) = Cert.Kernel16Ideal.defs₀ (F := Bits) := congrArg _ (funext fun | 0 => rfl)

theorem frame_kernel : Cert.quiescent_Kernel16 := fun m ρ _ => by
  unfold Cert.Kernel16.defs
  rw [bodies]
  exact Cert.Kernel16Ideal.Gen.frame (F := Bits) m ρ

theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem algebraic : Cert.algebraic_Kernel16Ideal_Reference16Ideal := fun m ρ m' ρ' _ e =>
  ⟨g m, fun c => change (m ((c : Thread nD τ).loc main_arg0)) (m1 m c) (v1 m c), m1 m, v1 m,
    (θ_run defs _ _).mono (fun _ h c => h c) (Cert.Kernel16Ideal.Value.run m ρ),
    (θ_run Cert.Reference16Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference16Ideal.Value.run (F := Ideal) m' ρ')⟩

end Cert.Adam.In

end
-- ==== Proof.AdamDown.lean ====
/-
  The optimiser's call of the feed-forward's second weight.
-/
module

public import proofs.«01_k».proof.Defs
public import proofs.«01_k».proof.Proof.Adam
public import proofs.«01_k».proof.Proof.Gen.Kernel17
public import proofs.«01_k».proof.Proof.Gen.Kernel17Ideal.Value
public import proofs.«01_k».proof.Proof.Gen.Reference17Ideal.Run
public import Idealize.ShloMosaic.Adequacy
public import Idealize.ShloMosaic.Init
public import Idealize.ShloMosaic.Lib.Pipeline.ValueKit

@[expose] public section

set_option maxRecDepth 16384

noncomputable section

namespace Cert.Adam.Down

open Cert.Kernel17Ideal Cert.Kernel17Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S704x1024 := grad (m ((c : Thread nD τ).loc main_arg1)) (m ((c : Thread nD τ).loc main_arg2))

/-- Its running mean after the step. -/
abbrev m1 : Arr S704x1024 := mean (m ((c : Thread nD τ).loc main_arg3)) (g m c)

/-- The running mean of its square after the step. -/
abbrev v1 : Arr S704x1024 := square (m ((c : Thread nD τ).loc main_arg4)) (g m c)

/-- The program as printed and its reading over the reals have one text. -/
theorem bodies : Cert.Kernel17.defs₀ (F := Bits) = Cert.Kernel17Ideal.defs₀ (F := Bits) := congrArg _ (funext fun | 0 => rfl)

theorem frame_kernel : Cert.quiescent_Kernel17 := fun m ρ _ => by
  unfold Cert.Kernel17.defs
  rw [bodies]
  exact Cert.Kernel17Ideal.Gen.frame (F := Bits) m ρ

theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem algebraic : Cert.algebraic_Kernel17Ideal_Reference17Ideal := fun m ρ m' ρ' _ e =>
  ⟨g m, fun c => change (m ((c : Thread nD τ).loc main_arg0)) (m1 m c) (v1 m c), m1 m, v1 m,
    (θ_run defs _ _).mono (fun _ h c => h c) (Cert.Kernel17Ideal.Value.run m ρ),
    (θ_run Cert.Reference17Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference17Ideal.Value.run (F := Ideal) m' ρ')⟩

end Cert.Adam.Down

end
-- ==== Proof.AdamOut.lean ====
/-
  The optimiser's call of the mixer's output weight.
-/
module

public import proofs.«01_k».proof.Defs
public import proofs.«01_k».proof.Proof.Adam
public import proofs.«01_k».proof.Proof.Gen.Kernel18
public import proofs.«01_k».proof.Proof.Gen.Kernel18Ideal.Value
public import proofs.«01_k».proof.Proof.Gen.Reference18Ideal.Run
public import Idealize.ShloMosaic.Adequacy
public import Idealize.ShloMosaic.Init
public import Idealize.ShloMosaic.Lib.Pipeline.ValueKit

@[expose] public section

set_option maxRecDepth 16384

noncomputable section

namespace Cert.Adam.Out

open Cert.Kernel18Ideal Cert.Kernel18Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S256x1024 := grad (m ((c : Thread nD τ).loc main_arg1)) (m ((c : Thread nD τ).loc main_arg2))

/-- Its running mean after the step. -/
abbrev m1 : Arr S256x1024 := mean (m ((c : Thread nD τ).loc main_arg3)) (g m c)

/-- The running mean of its square after the step. -/
abbrev v1 : Arr S256x1024 := square (m ((c : Thread nD τ).loc main_arg4)) (g m c)

/-- The program as printed and its reading over the reals have one text. -/
theorem bodies : Cert.Kernel18.defs₀ (F := Bits) = Cert.Kernel18Ideal.defs₀ (F := Bits) := congrArg _ (funext fun | 0 => rfl)

theorem frame_kernel : Cert.quiescent_Kernel18 := fun m ρ _ => by
  unfold Cert.Kernel18.defs
  rw [bodies]
  exact Cert.Kernel18Ideal.Gen.frame (F := Bits) m ρ

theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem algebraic : Cert.algebraic_Kernel18Ideal_Reference18Ideal := fun m ρ m' ρ' _ e =>
  ⟨g m, fun c => change (m ((c : Thread nD τ).loc main_arg0)) (m1 m c) (v1 m c), m1 m, v1 m,
    (θ_run defs _ _).mono (fun _ h c => h c) (Cert.Kernel18Ideal.Value.run m ρ),
    (θ_run Cert.Reference18Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference18Ideal.Value.run (F := Ideal) m' ρ')⟩

end Cert.Adam.Out

end
-- ==== Proof.AdamPle.lean ====
/-
  The optimiser's call of the embedding's projection.
-/
module

public import proofs.«01_k».proof.Defs
public import proofs.«01_k».proof.Proof.Adam
public import proofs.«01_k».proof.Proof.Gen.Kernel19
public import proofs.«01_k».proof.Proof.Gen.Kernel19Ideal.Value
public import proofs.«01_k».proof.Proof.Gen.Reference19Ideal.Run
public import Idealize.ShloMosaic.Adequacy
public import Idealize.ShloMosaic.Init
public import Idealize.ShloMosaic.Lib.Pipeline.ValueKit

@[expose] public section

set_option maxRecDepth 16384

noncomputable section

namespace Cert.Adam.Ple

open Cert.Kernel19Ideal Cert.Kernel19Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S256x256 := grad (m ((c : Thread nD τ).loc main_arg1)) (m ((c : Thread nD τ).loc main_arg2))

/-- Its running mean after the step. -/
abbrev m1 : Arr S256x256 := mean (m ((c : Thread nD τ).loc main_arg3)) (g m c)

/-- The running mean of its square after the step. -/
abbrev v1 : Arr S256x256 := square (m ((c : Thread nD τ).loc main_arg4)) (g m c)

/-- The program as printed and its reading over the reals have one text. -/
theorem bodies : Cert.Kernel19.defs₀ (F := Bits) = Cert.Kernel19Ideal.defs₀ (F := Bits) := congrArg _ (funext fun | 0 => rfl)

theorem frame_kernel : Cert.quiescent_Kernel19 := fun m ρ _ => by
  unfold Cert.Kernel19.defs
  rw [bodies]
  exact Cert.Kernel19Ideal.Gen.frame (F := Bits) m ρ

theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem algebraic : Cert.algebraic_Kernel19Ideal_Reference19Ideal := fun m ρ m' ρ' _ e =>
  ⟨g m, fun c => change (m ((c : Thread nD τ).loc main_arg0)) (m1 m c) (v1 m c), m1 m, v1 m,
    (θ_run defs _ _).mono (fun _ h c => h c) (Cert.Kernel19Ideal.Value.run m ρ),
    (θ_run Cert.Reference19Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference19Ideal.Value.run (F := Ideal) m' ρ')⟩

end Cert.Adam.Ple

end
-- ==== Proof.AdamGate.lean ====
/-
  The optimiser's call of the weight in front of the embedding's gate.
-/
module

public import proofs.«01_k».proof.Defs
public import proofs.«01_k».proof.Proof.Adam
public import proofs.«01_k».proof.Proof.Gen.Kernel25
public import proofs.«01_k».proof.Proof.Gen.Kernel25Ideal.Value
public import proofs.«01_k».proof.Proof.Gen.Reference25Ideal.Run
public import Idealize.ShloMosaic.Adequacy
public import Idealize.ShloMosaic.Init
public import Idealize.ShloMosaic.Lib.Pipeline.ValueKit

@[expose] public section

set_option maxRecDepth 16384

noncomputable section

namespace Cert.Adam.Gate

open Cert.Kernel25Ideal Cert.Kernel25Ideal.Gen
open Cert.Adam
open Idealize.ShloMosaic Idealize.ShloMosaic.TcCoe Idealize.SL.Sem

variable (m : (ℓ : Loc nD τ sig) → Buf (Elt Ideal) ℓ) (c : Dev nD)

/-- The gradient the call is given in two parts. -/
abbrev g : Arr S256x1024 := grad (m ((c : Thread nD τ).loc main_arg1)) (m ((c : Thread nD τ).loc main_arg2))

/-- Its running mean after the step. -/
abbrev m1 : Arr S256x1024 := mean (m ((c : Thread nD τ).loc main_arg3)) (g m c)

/-- The running mean of its square after the step. -/
abbrev v1 : Arr S256x1024 := square (m ((c : Thread nD τ).loc main_arg4)) (g m c)

/-- The program as printed and its reading over the reals have one text. -/
theorem bodies : Cert.Kernel25.defs₀ (F := Bits) = Cert.Kernel25Ideal.defs₀ (F := Bits) := congrArg _ (funext fun | 0 => rfl)

theorem frame_kernel : Cert.quiescent_Kernel25 := fun m ρ _ => by
  unfold Cert.Kernel25.defs
  rw [bodies]
  exact Cert.Kernel25Ideal.Gen.frame (F := Bits) m ρ

theorem frame_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic : Cert.algebraic_Kernel25Ideal_Reference25Ideal := fun m ρ m' ρ' _ e =>
  ⟨g m, fun c => change (m ((c : Thread nD τ).loc main_arg0)) (m1 m c) (v1 m c), m1 m, v1 m,
    (θ_run defs _ _).mono (fun _ h c => h c) (Cert.Kernel25Ideal.Value.run m ρ),
    (θ_run Cert.Reference25Ideal.defs _ _).mono (fun _ h c => by
      have r := h c
      rw [(e c).1, (e c).2.1, (e c).2.2.1, (e c).2.2.2.1, (e c).2.2.2.2] at r
      exact ⟨r.1, r.2.1, r.2.2.1, r.2.2.2.1, (h c).2.2.2.2⟩) (Cert.Reference25Ideal.Value.run (F := Ideal) m' ρ')⟩

end Cert.Adam.Gate

end
-- ==== Proof.AdamSmall.lean ====
/-
  The optimiser's call of the small weights, packed in one array.
-/
module

public import proofs.«01_k».proof.Defs
public import proofs.«01_k».proof.Proof.Adam
public import proofs.«01_k».proof.Proof.Gen.Kernel20
public import proofs.«01_k».proof.Proof.Gen.Kernel20Ideal.Value
public import proofs.«01_k».proof.Proof.Gen.Reference20Ideal.Run
public import Idealize.ShloMosaic.Adequacy
public import Idealize.ShloMosaic.Init
public import Idealize.ShloMosaic.Lib.Pipeline.ValueKit

@[expose] public section

set_option maxRecDepth 16384

noncomputable section

namespace Cert.Adam.Small

open Cert.Kernel20Ideal Cert.Kernel20Ideal.Gen
open Cert.Adam
open Idealize.ShloMosaic Idealize.ShloMosaic.TcCoe Idealize.SL.Sem

variable (m : (ℓ : Loc nD τ sig) → Buf (Elt Ideal) ℓ) (c : Dev nD)

/-- The gradient. -/
abbrev g : Arr S112x128 := (m ((c : Thread nD τ).loc main_arg1))

/-- Its running mean after the step. -/
abbrev m1 : Arr S112x128 := mean (m ((c : Thread nD τ).loc main_arg2)) (g m c)

/-- The running mean of its square after the step. -/
abbrev v1 : Arr S112x128 := square (m ((c : Thread nD τ).loc main_arg3)) (g m c)

/-- The program as printed and its reading over the reals have one text. -/
theorem bodies : Cert.Kernel20.defs₀ (F := Bits) = Cert.Kernel20Ideal.defs₀ (F := Bits) := congrArg _ (funext fun | 0 => rfl)

theorem frame_kernel : Cert.quiescent_Kernel20 := fun m ρ _ => by
  unfold Cert.Kernel20.defs
  rw [bodies]
  exact Cert.Kernel20Ideal.Gen.frame (F := Bits) m ρ

theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem algebraic : Cert.algebraic_Kernel20Ideal_Reference20Ideal := fun m ρ m' ρ' _ e =>
  ⟨g m, fun c => change (m ((c : Thread nD τ).loc main_arg0)) (m1 m c) (v1 m c), m1 m, v1 m,
    (θ_run defs _ _).mono (fun _ h c => h c) (Cert.Kernel20Ideal.Value.run m ρ),
    (θ_run Cert.Reference20Ideal.defs _ _).mono (fun _ h c => by
      have r := h c
      rw [(e c).1, (e c).2.1, (e c).2.2.1, (e c).2.2.2] at r
      exact ⟨r.1, r.2.1, r.2.2.1, r.2.2.2.1, (h c).2.2.2.2⟩) (Cert.Reference20Ideal.Value.run (F := Ideal) m' ρ')⟩

end Cert.Adam.Small

end
-- ==== Proof.NormRow.lean ====
/-
  One row of the norm: its scale, its gradient as the call computes it, and the gradient the reference's transposed
  lines leave, which is the same on real rows.
-/
module

public import Idealize.ShloMosaic.PureOps.Ideal

@[expose] public section

noncomputable section

namespace Cert.Norm

open Idealize.ShloMosaic Finset

/-- The mean square of a row, away from zero. -/
def square (h : Fin 1024 → EReal) : EReal :=
  Ideal.div (∑ k, h k * h k) (Ideal.ofBits .f32 0x44800000#32) + Ideal.ofBits .f32 0x358637BD#32

/-- What the norm multiplies a row by. -/
def scale (h : Fin 1024 → EReal) : EReal := Ideal.rsqrt (square h)

/-- The gradient of a row as the call computes it, on top of `i`. -/
def grad (h d g : Fin 1024 → EReal) (i : EReal) (j : Fin 1024) : EReal :=
  i + scale h * (d j * g j - h j * scale h * Ideal.div (∑ k, d k * g k * (h k * scale h)) (Ideal.ofBits .f32 0x44800000#32))

/-- What the transposed lines leave of the scale's gradient. -/
def back (h d g : Fin 1024 → EReal) : EReal :=
  Ideal.div ((∑ k, h k * (d k * g k)) * (Ideal.ofBits .f32 0xBF000000#32 * Ideal.div (scale h) (square h)))
    (Ideal.ofBits .f32 0x44800000#32)

/-- The gradient of a row as the transposed lines compute it, on top of `i`. -/
def gradT (h d g : Fin 1024 → EReal) (i : EReal) (j : Fin 1024) : EReal :=
  i + (d j * g j * scale h + h j * back h d g + back h d g * h j)

theorem width : Ideal.ofBits .f32 0x44800000#32 = ((1024 : ℝ) : EReal) := by
  simp [Ideal.ofBits, Ideal.ieee, -EReal.coe_mul]; norm_num

theorem half : Ideal.ofBits .f32 0xBF000000#32 = ((-(1 / 2) : ℝ) : EReal) := by
  simp [Ideal.ofBits, Ideal.ieee, -EReal.coe_mul]; norm_num

theorem small : ∃ e : ℝ, 0 < e ∧ Ideal.ofBits .f32 0x358637BD#32 = (e : EReal) := by
  refine ⟨_, ?_, by simp [Ideal.ofBits, Ideal.ieee, -EReal.coe_mul]; rfl⟩
  positivity

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- On a real row the mean square is positive and the scale the reciprocal of its root. -/
theorem scale_coe (f : Fin 1024 → ℝ) : ∃ t : ℝ, 0 < t ∧ square (fun k => (f k : EReal)) = (t : EReal) ∧
    scale (fun k => (f k : EReal)) = (((Real.sqrt t)⁻¹ : ℝ) : EReal) := by
  obtain ⟨e, he, h⟩ := small
  have hs : square (fun k => (f k : EReal)) = (((∑ k, f k * f k) * (1 / 1024) + e : ℝ) : EReal) := by
    simp only [square, width, h, ← EReal.coe_mul, sum_coe]
    rw [Ideal.div_coe (by norm_num), ← EReal.coe_mul, ← EReal.coe_add]
  have hp : 0 < (∑ k, f k * f k) * (1 / 1024) + e := by
    have := sum_nonneg fun k (_ : k ∈ univ) => mul_self_nonneg (f k)
    positivity
  refine ⟨_, hp, hs, ?_⟩
  rw [scale, hs, Ideal.rsqrt_coe, if_neg (not_lt.mpr hp.le), if_neg hp.ne']

/-- The two gradients of a real row agree. -/
theorem grad_eq (f u w : Fin 1024 → ℝ) (v : ℝ) (j : Fin 1024) :
    grad (fun k => (f k : EReal)) (fun k => (u k : EReal)) (fun k => (w k : EReal)) (v : EReal) j =
      gradT (fun k => (f k : EReal)) (fun k => (u k : EReal)) (fun k => (w k : EReal)) (v : EReal) j := by
  obtain ⟨t, ht, hs, hr⟩ := scale_coe f
  have hi : t⁻¹ = (Real.sqrt t)⁻¹ * (Real.sqrt t)⁻¹ := by rw [← mul_inv, Real.mul_self_sqrt ht.le]
  have e1 : ∑ k, u k * w k * (f k * (Real.sqrt t)⁻¹) = (∑ k, f k * (u k * w k)) * (Real.sqrt t)⁻¹ := by
    rw [sum_mul]; exact sum_congr rfl fun k _ => by ring
  simp only [grad, gradT, back, hs, hr, width, half, ← EReal.coe_mul, sum_coe, e1]
  rw [Ideal.div_coe (by norm_num), Ideal.div_coe ht.ne', ← EReal.coe_mul, ← EReal.coe_mul, ← EReal.coe_mul, ← EReal.coe_mul, ← EReal.coe_mul,
    Ideal.div_coe (by norm_num)]
  simp only [← EReal.coe_mul, ← EReal.coe_sub, ← EReal.coe_add]
  rw [one_div t, hi]
  congr 1
  ring

theorem gradT_eq {h d g : Fin 1024 → EReal} {i : EReal} {f u w : Fin 1024 → ℝ} {v : ℝ} (hh : ∀ k, h k = (f k : EReal))
    (hd : ∀ k, d k = (u k : EReal)) (hg : ∀ k, g k = (w k : EReal)) (hi : i = (v : EReal)) (j : Fin 1024) :
    gradT h d g i j = grad h d g i j := by
  rw [funext hh, funext hd, funext hg, hi]
  exact (grad_eq f u w v j).symm

end Cert.Norm

end
-- ==== Proof.NormFwd.lean ====
/-
  The norm: what the call leaves in its result, and the reference's lines, row by row.
-/
module

public import proofs.«01_k».proof.Defs
public import proofs.«01_k».proof.Proof.Products
public import proofs.«01_k».proof.Proof.NormRow
public import proofs.«01_k».proof.Proof.Gen.Kernel26
public import proofs.«01_k».proof.Proof.Gen.Kernel26Ideal.Value
public import proofs.«01_k».proof.Proof.Gen.Reference26Ideal.Run
public import Idealize.ShloMosaic.Adequacy
public import Idealize.ShloMosaic.Init
public import Idealize.ShloMosaic.Lib.Pipeline.ValueKit

@[expose] public section

set_option maxRecDepth 16384

noncomputable section

namespace Cert.Norm.Forward

open Cert.Kernel26Ideal Cert.Kernel26Ideal.Gen
open Idealize.ShloMosaic Idealize.ShloMosaic.TcCoe Idealize.SL.Sem
open Cert.Prod

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

/-- The rows, each scaled, times the weights. -/
def norm {M : ℕ} (x : Mat M 1024) (g : Mat 1 1024) : Mat M 1024 :=
  fun i => x (ix2 (i 0) (i 1)) * scale (fun k => x (ix2 (i 0) k)) * g (ix2 0 (i 1))

theorem tile (t : Fin grid0.N) (y : S512x1024.Idx) : out0_2 (iblk m c 0 t) (iblk m c 1 t) y =
    norm (M := 512) (iblk m c 0 t) (iblk m c 1 t) y := by
  unfold out0_2
  canon_tiles x h
  obtain rfl : y = x := funext fun a => Fin.ext (match a with | 0 => h0 | 1 => h1)
  pointwise [k0_pay1, norm, scale, square]

theorem result : (dats m 0 c).arrAt 2 cfg0.N = norm (m ((c : Thread nD τ).loc main_arg0)) (m ((c : Thread nD τ).loc main_arg1)) := by
  refine (dats m 0 c).arrAt_eq_of_covers 2 _ (by decide +kernel) fun t _ y => ?_
  rw [after0_2]
  refine (cast_eq _ _).trans ((tile m c t _).trans ?_)
  unfold norm
  refine congrArg₂ (· * ·) (congrArg₂ (· * ·) ?_ (congrArg scale (funext fun k => ?_))) ?_
  · blk_ext! [iblk, V, index0 t, index2 t]
  · blk_ext! [iblk, V, index0 t, index2 t]
  · blk_ext! [iblk, V, index1 t, index2 t]

theorem reference (x : Mat 8192 1024) (g : Mat 1 1024) :
    truncf (F := Ideal) (φ := .f32) .bf16 (mulf (mulf x (broadcastInDim Cert.Reference26Ideal.S8192x1024 ![0, 1] Cert.Reference26Ideal.Gen.bcast_S8192x1_S8192x1024_0_1 (Host.rsqrt (addf (Host.divf (broadcastInDim Cert.Reference26Ideal.S8192x1 ![0] Cert.Reference26Ideal.Gen.bcast_S8192_S8192x1_0 (Host.reduceAdd (mulf x x) (constant (F := Ideal) Cert.Reference26Ideal.S_ .f32 0x00000000#32) Cert.Reference26Ideal.Gen.reducesTo_S8192x1024_S8192_d1 Cert.Reference26Ideal.Gen.h_S_)) (broadcastInDim Cert.Reference26Ideal.S8192x1 ![] Cert.Reference26Ideal.Gen.bcast_S_S8192x1 (constant (F := Ideal) Cert.Reference26Ideal.S_ .f32 0x44800000#32))) (broadcastInDim Cert.Reference26Ideal.S8192x1 ![] Cert.Reference26Ideal.Gen.bcast_S_S8192x1 (constant (F := Ideal) Cert.Reference26Ideal.S_ .f32 0x358637BD#32)))))) (broadcastInDim Cert.Reference26Ideal.S8192x1024 ![0, 1] Cert.Reference26Ideal.Gen.bcast_S1x1024_S8192x1024_0_1 (broadcastInDim Cert.Reference26Ideal.S1x1024 ![1] Cert.Reference26Ideal.Gen.bcast_S1024_S1x1024_1 (shapeCast _ g Cert.Reference26Ideal.Gen.shapeCasts_S1x1024_S1024)))) Cert.Reference26Ideal.Gen.bitsLt_bf16_f32 = norm x g := by
  funext i
  pointwise [norm, scale, square]

/-- The program as printed and its reading over the reals have one text. -/
theorem bodies : Cert.Kernel26.defs₀ (F := Bits) = Cert.Kernel26Ideal.defs₀ (F := Bits) := congrArg _ (funext fun | 0 => rfl)

theorem frame_kernel : Cert.quiescent_Kernel26 := fun m ρ _ => by
  unfold Cert.Kernel26.defs
  rw [bodies]
  exact Cert.Kernel26Ideal.Gen.frame (F := Bits) m ρ

theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem algebraic : Cert.algebraic_Kernel26Ideal_Reference26Ideal := fun m ρ m' ρ' _ e =>
  ⟨fun c => norm (m ((c : Thread nD τ).loc main_arg0)) (m ((c : Thread nD τ).loc main_arg1)),
    (θ_run defs _ _).mono (fun _ h c => ⟨(h c).1.trans (result m c), (h c).2⟩) (Cert.Kernel26Ideal.Value.run_blocks m ρ),
    (θ_run Cert.Reference26Ideal.defs _ _).mono (fun _ h c => ⟨(h c).1.trans ((reference _ _).trans (by rw [(e c).1, (e c).2])), (h c).2⟩)
      (Cert.Reference26Ideal.Value.run (F := Ideal) m' ρ')⟩

end Cert.Norm.Forward

end
-- ==== Proof.NormBwd.lean ====
/-
  The norm's gradient: what the call leaves in its three results, and the reference's transposed lines, row by row.
-/
module

public import proofs.«01_k».proof.Defs
public import proofs.«01_k».proof.Proof.Products
public import proofs.«01_k».proof.Proof.NormRow
public import proofs.«01_k».proof.Proof.Results
public import proofs.«01_k».proof.Proof.Gen.Kernel27
public import proofs.«01_k».proof.Proof.Gen.Kernel27Ideal.Value
public import proofs.«01_k».proof.Proof.Gen.Reference27Ideal.Run
public import Idealize.ShloMosaic.Adequacy
public import Idealize.ShloMosaic.Init
public import Idealize.ShloMosaic.Lib.Pipeline.ValueKit

@[expose] public section

set_option maxRecDepth 16384

noncomputable section

namespace Cert.Norm

open Cert.Kernel27Ideal Cert.Kernel27Ideal.Gen
open Idealize.ShloMosaic Idealize.ShloMosaic.TcCoe Idealize.SL.Sem
open Cert.Prod

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

/-- The gradient of the rows, on top of `z`. -/
def rows {M : ℕ} (h d : Mat M 1024) (g : Mat 1 1024) (z : Mat M 1024) : Mat M 1024 :=
  fun y => grad (fun k => h (ix2 (y 0) k)) (fun k => d (ix2 (y 0) k)) (fun k => g (ix2 0 k)) (z (ix2 (y 0) (y 1))) (y 1)

/-- The gradient of the rows as the transposed lines compute it. -/
def rowsT {M : ℕ} (h d : Mat M 1024) (g : Mat 1 1024) (z : Mat M 1024) : Mat M 1024 :=
  fun y => gradT (fun k => h (ix2 (y 0) k)) (fun k => d (ix2 (y 0) k)) (fun k => g (ix2 0 k)) (z (ix2 (y 0) (y 1))) (y 1)

/-- The gradient of the weights. -/
def weights {M : ℕ} (h d : Mat M 1024) : Mat 1 1024 :=
  fun y => ∑ k : Fin M, d (ix2 k (y 1)) * (h (ix2 k (y 1)) * scale (fun j => h (ix2 k j)))

theorem tile4 (t : Fin grid0.N) (y : S512x1024.Idx) : (outsAt0 m c t.val t.isLt).1 y =
    rows (M := 512) (iblk m c 0 t) (iblk m c 1 t) (iblk m c 2 t) (iblk m c 3 t) y := by
  have ht := t.isLt
  have hN : grid0.N = 16 := rfl
  by_cases h : t.val % 16 = 0
  · have h1 : ¬1 ≤ t.val := by omega
    rw [outsAt0_A m c t h h1]
    frame_out
    pointwise [k0_pay4, k0_pay3, k0_pay2, rows, grad, scale, square]
  · have h1 : 1 ≤ t.val := by omega
    rw [outsAt0_B m c t h h1]
    frame_out
    pointwise [k0_pay4, k0_pay3, k0_pay2, rows, grad, scale, square]

theorem tile5 (t : Fin grid0.N) (y : S512x1024.Idx) : (outsAt0 m c t.val t.isLt).2.1 y =
    rows (M := 512) (iblk m c 0 t) (iblk m c 1 t) (iblk m c 2 t) (iblk m c 3 t) y := by
  have ht := t.isLt
  have hN : grid0.N = 16 := rfl
  by_cases h : t.val % 16 = 0
  · have h1 : ¬1 ≤ t.val := by omega
    rw [outsAt0_A m c t h h1]
    frame_out
    pointwise [k0_pay5, k0_pay4, k0_pay3, k0_pay2, rows, grad, scale, square]
  · have h1 : 1 ≤ t.val := by omega
    rw [outsAt0_B m c t h h1]
    frame_out
    pointwise [k0_pay5, k0_pay4, k0_pay3, k0_pay2, rows, grad, scale, square]

theorem rows_block (h d z : Mat 8192 1024) (g : Mat 1 1024) (h' d' z' : Mat 512 1024) (g' : Mat 1 1024)
    (y : (⟨2, ![8192, 1024]⟩ : Shape).Idx) (y' : (⟨2, ![512, 1024]⟩ : Shape).Idx) (e : y 1 = y' 1)
    (eh : ∀ k, h' (ix2 (y' 0) k) = h (ix2 (y 0) k)) (ed : ∀ k, d' (ix2 (y' 0) k) = d (ix2 (y 0) k)) (eg : ∀ k, g' (ix2 0 k) = g (ix2 0 k))
    (ez : z' (ix2 (y' 0) (y' 1)) = z (ix2 (y 0) (y 1))) : rows h' d' g' z' y' = rows h d g z y := by
  unfold rows
  rw [funext eh, funext ed, funext eg, ez]
  exact congrArg _ e.symm

theorem result4 : (dats m 0 c).arrAt 4 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  rw [after0_4]
  refine (cast_eq _ _).trans ((tile4 m c t _).trans ?_)
  refine rows_block _ _ _ _ _ _ _ _ _ _ (Fin.ext ?_) (fun k => ?_) (fun k => ?_) (fun k => ?_) ?_
  · simp [index4 t]
  · blk_ext! [iblk, V, index0 t, index4 t]
  · blk_ext! [iblk, V, index1 t, index4 t]
  · blk_ext! [iblk, V, index2 t, index4 t]
  · blk_ext! [iblk, V, index3 t, index4 t]

theorem result5 : (dats m 0 c).arrAt 5 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  rw [after0_5]
  refine (cast_eq _ _).trans ((tile5 m c t _).trans ?_)
  refine rows_block _ _ _ _ _ _ _ _ _ _ (Fin.ext ?_) (fun k => ?_) (fun k => ?_) (fun k => ?_) ?_
  · simp [index5 t]
  · blk_ext! [iblk, V, index0 t, index5 t]
  · blk_ext! [iblk, V, index1 t, index5 t]
  · blk_ext! [iblk, V, index2 t, index5 t]
  · blk_ext! [iblk, V, index3 t, index5 t]

theorem first (t : Fin grid0.N) (h : t.val % 16 = 0) (y : S1x1024.Idx) : (outsAt0 m c t.val t.isLt).2.2 y =
    (fun _ => 0 : S1x1024.Idx → EReal) y + weights (M := 512) (iblk m c 0 t) (iblk m c 1 t) y := by
  have ht := t.isLt
  have hN : grid0.N = 16 := rfl
  have h1 : ¬1 ≤ t.val := by omega
  rw [outsAt0_A m c t h h1]
  frame_out
  pointwise [k0_pay6, k0_pay3, k0_pay2, weights, scale, square]

theorem next (t : Fin grid0.N) (h : ¬t.val % 16 = 0) (y : S1x1024.Idx) : (outsAt0 m c t.val t.isLt).2.2 y =
    (outsAt0 m c (t.val - 1) (Nat.lt_of_le_of_lt (Nat.sub_le _ _) t.isLt)).2.2 y + weights (M := 512) (iblk m c 0 t) (iblk m c 1 t) y := by
  have h1 : 1 ≤ t.val := by omega
  rw [outsAt0_B m c t h h1]
  frame_out
  pointwise [k0_pay1, k0_pay6, k0_pay3, k0_pay2, weights, scale, square]

theorem result6 : (dats m 0 c).arrAt 6 cfg0.N = weights (m ((c : Thread nD τ).loc main_arg0)) (m ((c : Thread nD τ).loc main_arg1)) := by
  refine (dats m 0 c).arrAt_eq_of_covers 6 _ (by decide +kernel) fun t hf y => ?_
  rw [after0_6, Pipeline.eq_sum_fin_of_reset_step_apply_of_flush (fun n h => (outsAt0 m c n h).2.2) 16 (fun _ => 0)
    (fun t => weights (M := 512) (iblk m c 0 t) (iblk m c 1 t)) (first m c) (next m c) t ((flush0_6 t).mp hf), zero_add]
  unfold weights
  refine Fin.sum_mul_add_congr fun s k hl => ?_
  refine congrArg₂ (· * ·) ?_ (congrArg₂ (· * ·) ?_ (congrArg scale (funext fun j => ?_)))
  · blk_ext! [iblk, V, index1 ⟨_, Pipeline.run_point_lt_of_flush t ((flush0_6 t).mp hf) s⟩, index6 t]
  · blk_ext! [iblk, V, index0 ⟨_, Pipeline.run_point_lt_of_flush t ((flush0_6 t).mp hf) s⟩, index6 t]
  · blk_ext! [iblk, V, index0 ⟨_, Pipeline.run_point_lt_of_flush t ((flush0_6 t).mp hf) s⟩, index6 t]

theorem reference_rows (h d z : Mat 8192 1024) (g : Mat 1 1024) :
    addf z (addf (addf (mulf (mulf d (broadcastInDim Cert.Reference27Ideal.S8192x1024 ![0, 1] Cert.Reference27Ideal.Gen.bcast_S1x1024_S8192x1024_0_1 (broadcastInDim Cert.Reference27Ideal.S1x1024 ![1] Cert.Reference27Ideal.Gen.bcast_S1024_S1x1024_1 (shapeCast _ g Cert.Reference27Ideal.Gen.shapeCasts_S1x1024_S1024)))) (broadcastInDim Cert.Reference27Ideal.S8192x1024 ![0, 1] Cert.Reference27Ideal.Gen.bcast_S8192x1_S8192x1024_0_1 (Host.rsqrt (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))))) (mulf h (broadcastInDim Cert.Reference27Ideal.S8192x1024 ![0] Cert.Reference27Ideal.Gen.bcast_S8192_S8192x1024_0 (Host.reduceAdd (Host.divf (mulf (shapeCast _ (Host.reduceAdd (mulf h (mulf d (broadcastInDim Cert.Reference27Ideal.S8192x1024 ![0, 1] Cert.Reference27Ideal.Gen.bcast_S1x1024_S8192x1024_0_1 (broadcastInDim Cert.Reference27Ideal.S1x1024 ![1] Cert.Reference27Ideal.Gen.bcast_S1024_S1x1024_1 (shapeCast _ g Cert.Reference27Ideal.Gen.shapeCasts_S1x1024_S1024))))) (constant (F := Ideal) Cert.Reference27Ideal.S_ .f32 0x00000000#32) Cert.Reference27Ideal.Gen.reducesTo_S8192x1024_S8192_d1 Cert.Reference27Ideal.Gen.h_S_) Cert.Reference27Ideal.Gen.shapeCasts_S8192_S8192x1) (mulf (broadcastInDim Cert.Reference27Ideal.S8192x1 ![] Cert.Reference27Ideal.Gen.bcast_S_S8192x1 (constant (F := Ideal) Cert.Reference27Ideal.S_ .f32 0xBF000000#32)) (Host.divf (Host.rsqrt (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))) (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))))) (broadcastInDim Cert.Reference27Ideal.S8192x1 ![] Cert.Reference27Ideal.Gen.bcast_S_S8192x1 (constant (F := Ideal) Cert.Reference27Ideal.S_ .f32 0x44800000#32))) (constant (F := Ideal) Cert.Reference27Ideal.S_ .f32 0x00000000#32) Cert.Reference27Ideal.Gen.reducesTo_S8192x1_S8192_d1 Cert.Reference27Ideal.Gen.h_S_)))) (mulf (broadcastInDim Cert.Reference27Ideal.S8192x1024 ![0] Cert.Reference27Ideal.Gen.bcast_S8192_S8192x1024_0 (Host.reduceAdd (Host.divf (mulf (shapeCast _ (Host.reduceAdd (mulf h (mulf d (broadcastInDim Cert.Reference27Ideal.S8192x1024 ![0, 1] Cert.Reference27Ideal.Gen.bcast_S1x1024_S8192x1024_0_1 (broadcastInDim Cert.Reference27Ideal.S1x1024 ![1] Cert.Reference27Ideal.Gen.bcast_S1024_S1x1024_1 (shapeCast _ g Cert.Reference27Ideal.Gen.shapeCasts_S1x1024_S1024))))) (constant (F := Ideal) Cert.Reference27Ideal.S_ .f32 0x00000000#32) Cert.Reference27Ideal.Gen.reducesTo_S8192x1024_S8192_d1 Cert.Reference27Ideal.Gen.h_S_) Cert.Reference27Ideal.Gen.shapeCasts_S8192_S8192x1) (mulf (broadcastInDim Cert.Reference27Ideal.S8192x1 ![] Cert.Reference27Ideal.Gen.bcast_S_S8192x1 (constant (F := Ideal) Cert.Reference27Ideal.S_ .f32 0xBF000000#32)) (Host.divf (Host.rsqrt (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))) (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))))) (broadcastInDim Cert.Reference27Ideal.S8192x1 ![] Cert.Reference27Ideal.Gen.bcast_S_S8192x1 (constant (F := Ideal) Cert.Reference27Ideal.S_ .f32 0x44800000#32))) (constant (F := Ideal) Cert.Reference27Ideal.S_ .f32 0x00000000#32) Cert.Reference27Ideal.Gen.reducesTo_S8192x1_S8192_d1 Cert.Reference27Ideal.Gen.h_S_)) h)) = rowsT h d g z := by
  funext i
  pointwise [rowsT, gradT, back, scale, square]
  simp only [Fin.sum_univ_one]

theorem reference_weights (h d : Mat 8192 1024) :
    broadcastInDim Cert.Reference27Ideal.S1x1024 ![1] Cert.Reference27Ideal.Gen.bcast_S1024_S1x1024_1 (Host.reduceAdd (shapeCast Cert.Reference27Ideal.S1x1024 (Host.reduceAdd (mulf (mulf h (broadcastInDim Cert.Reference27Ideal.S8192x1024 ![0, 1] Cert.Reference27Ideal.Gen.bcast_S8192x1_S8192x1024_0_1 (Host.rsqrt (addf (Host.divf (broadcastInDim Cert.Reference27Ideal.S8192x1 ![0] Cert.Reference27Ideal.Gen.bcast_S8192_S8192x1_0 (Host.reduceAdd (mulf h h) (constant (F := Ideal) Cert.Reference27Ideal.S_ .f32 0x00000000#32) Cert.Reference27Ideal.Gen.reducesTo_S8192x1024_S8192_d1 Cert.Reference27Ideal.Gen.h_S_)) (broadcastInDim Cert.Reference27Ideal.S8192x1 ![] Cert.Reference27Ideal.Gen.bcast_S_S8192x1 (constant (F := Ideal) Cert.Reference27Ideal.S_ .f32 0x44800000#32))) (broadcastInDim Cert.Reference27Ideal.S8192x1 ![] Cert.Reference27Ideal.Gen.bcast_S_S8192x1 (constant (F := Ideal) Cert.Reference27Ideal.S_ .f32 0x358637BD#32)))))) d) (constant (F := Ideal) Cert.Reference27Ideal.S_ .f32 0x00000000#32) Cert.Reference27Ideal.Gen.reducesTo_S8192x1024_S1024_d0 Cert.Reference27Ideal.Gen.h_S_) Cert.Reference27Ideal.Gen.shapeCasts_S1024_S1x1024) (constant (F := Ideal) Cert.Reference27Ideal.S_ .f32 0x00000000#32) Cert.Reference27Ideal.Gen.reducesTo_S1x1024_S1024_d0 Cert.Reference27Ideal.Gen.h_S_) = weights h d := by
  funext i
  pointwise [weights, scale, square]
  exact (Fin.sum_univ_one _).trans (Finset.sum_congr rfl fun k _ => mul_comm _ _)

theorem rows_eq {h d z : Mat 8192 1024} {g : Mat 1 1024} {fh fd fz fg : ℕ → ℕ → ℝ} (hh : Cert.Attn.R2 h fh) (hd : Cert.Attn.R2 d fd)
    (hz : Cert.Attn.R2 z fz) (hg : Cert.Attn.R2 g fg) : rowsT h d g z = rows h d g z :=
  funext fun i => gradT_eq (fun k => hh (i 0) k) (fun k => hd (i 0) k) (fun k => hg 0 k) (hz (i 0) (i 1)) (i 1)

theorem pre_facts : Cert.Pre_finite_norm.Facts where
  bcast_S_S8192x1024 := by decide
  reducesTo_S8192x1024_S_d0_1 := by decide
  h_S_ := by decide
  bcast_S_S1x1024 := by decide
  reducesTo_S1x1024_S_d0_1 := by decide

theorem pre_real [Cert.Pre_finite_norm.Facts] (h d z : FVec Ideal S8192x1024 .f32) (g : FVec Ideal S1x1024 .f32)
    (hp : Cert.Pre_finite_norm.fn (F := Ideal) h d g z = fun _ => 1#1) : ∃ fh fd fz fg : ℕ → ℕ → ℝ,
    Cert.Attn.R2 h fh ∧ Cert.Attn.R2 d fd ∧ Cert.Attn.R2 z fz ∧ Cert.Attn.R2 g fg := by
  have h0 := congrFun hp (fun a => a.elim0)
  simp only [Cert.Pre_finite_norm.fn, Cert.Pre_finite_norm.fn_part1] at h0
  obtain ⟨h3, hz⟩ := IntOp.andi_eq_one.1 h0
  obtain ⟨h2, hg⟩ := IntOp.andi_eq_one.1 h3
  obtain ⟨hh, hd⟩ := IntOp.andi_eq_one.1 h2
  have e : ∀ (s : Shape) (hs : Cert.Pre_finite_norm.S_.BroadcastsInDim s ![]),
      broadcastInDim s ![] hs (constant (F := Ideal) Cert.Pre_finite_norm.S_ .f32 0x7F800000#32) = fun _ => (⊤ : EReal) :=
    fun s hs => funext fun i => Cert.Attn.inf_eq
  rw [e] at hh hd hg hz
  haveI : Subsingleton Cert.Pre_finite_norm.S_.Idx := ⟨fun a b => funext fun i => i.elim0⟩
  exact ⟨_, _, _, _, Cert.Attn.tab_real h (Host.reduce_andi_all _ _ _ _ _ hh), Cert.Attn.tab_real d (Host.reduce_andi_all _ _ _ _ _ hd),
    Cert.Attn.tab_real z (Host.reduce_andi_all _ _ _ _ _ hz), Cert.Attn.tab_real g (Host.reduce_andi_all _ _ _ _ _ hg)⟩

/-- The program as printed and its reading over the reals have one text. -/
theorem bodies : Cert.Kernel27.defs₀ (F := Bits) = Cert.Kernel27Ideal.defs₀ (F := Bits) := congrArg _ (funext fun | 0 => rfl)

theorem frame_kernel : Cert.quiescent_Kernel27 := fun m ρ _ => by
  unfold Cert.Kernel27.defs
  rw [bodies]
  exact Cert.Kernel27Ideal.Gen.frame (F := Bits) m ρ

theorem frame_reference : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem algebraic [Cert.Pre_finite_norm.Facts] : Cert.algebraic_Kernel27Ideal_Reference27Ideal_pre_finite_norm := fun m ρ m' ρ' hp e =>
  ⟨fun c => rows (m ((c : Thread nD τ).loc main_arg0)) (m ((c : Thread nD τ).loc main_arg1)) (m ((c : Thread nD τ).loc main_arg2)) (m ((c : Thread nD τ).loc main_arg3)),
    fun c => rows (m ((c : Thread nD τ).loc main_arg0)) (m ((c : Thread nD τ).loc main_arg1)) (m ((c : Thread nD τ).loc main_arg2)) (m ((c : Thread nD τ).loc main_arg3)),
    fun c => weights (m ((c : Thread nD τ).loc main_arg0)) (m ((c : Thread nD τ).loc main_arg1)),
    (θ_run defs _ _).mono (fun _ h c => ⟨(h c).1.trans (result4 m c), (h c).2.1.trans (result5 m c), (h c).2.2.1.trans (result6 m c), (h c).2.2.2⟩)
      (Cert.Kernel27Ideal.Value.run_blocks m ρ),
    (θ_run Cert.Reference27Ideal.defs _ _).mono (fun _ h c => by
      obtain ⟨fh, fd, fz, fg, hh, hd, hz, hg⟩ := pre_real _ _ _ _ (hp c)
      have q := rows_eq hh hd hz hg
      have r := (reference_rows _ _ _ _).trans q
      refine ⟨(h c).1.trans (Eq.trans ?_ r), (h c).2.1.trans (Eq.trans ?_ r), (h c).2.2.1.trans (Eq.trans ?_ (reference_weights _ _)), (h c).2.2.2⟩
      · unfold Cert.Reference27Ideal.Value.res_main_v37
        rw [(e c).1, (e c).2.1, (e c).2.2.1, (e c).2.2.2]
      · unfold Cert.Reference27Ideal.Value.res_main_v39
        rw [(e c).1, (e c).2.1, (e c).2.2.1, (e c).2.2.2]
        exact rfl
      · rw [(e c).1, (e c).2.1])
      (Cert.Reference27Ideal.Value.run (F := Ideal) m' ρ')⟩

end Cert.Norm

end
-- ==== Proof.lean ====
/-
  The proof of `Cert.Claim`. The runs are Proof/Run.lean (the idealized kernel) and Proof/BitsRun.lean (the kernel as printed);
  the values are Proof/Results.lean (the kernel's) and Proof/RefLift.lean (the reference's).
-/
module

public import proofs.«01_k».proof.Defs
public import proofs.«01_k».proof.Proof.Run
public import proofs.«01_k».proof.Proof.BitsRun
public import proofs.«01_k».proof.Proof.Results
public import proofs.«01_k».proof.Proof.Gen.KernelIdeal
public import proofs.«01_k».proof.Proof.Gen.Kernel
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.ReferenceIdeal.Run
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.DUp
public import proofs.«01_k».proof.Proof.GUp
public import proofs.«01_k».proof.Proof.DDown
public import proofs.«01_k».proof.Proof.GDown
public import proofs.«01_k».proof.Proof.DIn
public import proofs.«01_k».proof.Proof.GIn
public import proofs.«01_k».proof.Proof.DOut
public import proofs.«01_k».proof.Proof.GOut
public import proofs.«01_k».proof.Proof.Up
public import proofs.«01_k».proof.Proof.In
public import proofs.«01_k».proof.Proof.Down
public import proofs.«01_k».proof.Proof.Out
public import proofs.«01_k».proof.Proof.Gate
public import proofs.«01_k».proof.Proof.DGate
public import proofs.«01_k».proof.Proof.GGate
public import proofs.«01_k».proof.Proof.Ple
public import proofs.«01_k».proof.Proof.GPle
public import proofs.«01_k».proof.Proof.AdamUp
public import proofs.«01_k».proof.Proof.AdamIn
public import proofs.«01_k».proof.Proof.AdamDown
public import proofs.«01_k».proof.Proof.AdamOut
public import proofs.«01_k».proof.Proof.AdamPle
public import proofs.«01_k».proof.Proof.AdamGate
public import proofs.«01_k».proof.Proof.AdamSmall
public import proofs.«01_k».proof.Proof.NormFwd
public import proofs.«01_k».proof.Proof.NormBwd
public import Idealize.ShloMosaic.Adequacy
public import Idealize.ShloMosaic.Init

@[expose] public section

noncomputable section

namespace Cert.Proof

open Idealize.ShloMosaic Idealize.SL.Sem

/-- The reference is a straight-line host program that declares no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "dead" .f32 0xC2D40000#32 ⊥ rfl

/-- The arguments' tables, of arguments that satisfy the precondition. -/
theorem args_real (m : (ℓ : Loc Cert.KernelIdeal.nD Cert.KernelIdeal.τ Cert.KernelIdeal.sig) → Buf (Elt Ideal) ℓ)
    (h : Cert.Pre_KernelIdeal_finite_arguments (hPre_finite_arguments := Cert.Attn.pre_facts) m) (c : Dev Cert.KernelIdeal.nD) :
    ∃ Q K X D, Cert.Attn.ArgsReal m c Q K X D := by
  haveI := Cert.Attn.pre_facts
  obtain ⟨hq, hk, hx, hd⟩ := Cert.Attn.pre_real _ _ _ _ (h c)
  exact ⟨_, _, _, _, ⟨hq, hk, hx, hd⟩⟩

/-- Two arrays of one real table are equal. -/
theorem eq_of_tables {M N : ℕ} {x y : (⟨2, ![M, N]⟩ : Shape).Idx → EReal} {f : ℕ → ℕ → ℝ} (hx : Cert.Attn.R2 x f) (hy : Cert.Attn.R2 y f) : x = y :=
  funext fun i => (hx.at i).trans (hy.at i).symm

theorem algebraic : Cert.algebraic_KernelIdeal_ReferenceIdeal_pre_finite_arguments (hPre_finite_arguments := Cert.Attn.pre_facts) := by
  intro m g m' g' hpre hargs
  refine ⟨fun c => Cert.KernelIdeal.Own.V7 m g c Cert.KernelIdeal.main_v11_0, fun c => Cert.KernelIdeal.Own.V7 m g c Cert.KernelIdeal.main_v12_0,
    fun c => Cert.KernelIdeal.Own.V7 m g c Cert.KernelIdeal.main_v12_1, fun c => Cert.KernelIdeal.Own.V7 m g c Cert.KernelIdeal.main_v12_2, ?_, ?_⟩
  · exact (θ_run Cert.KernelIdeal.defs _ _).mono (fun r h c => ⟨h.1 c _ (by decide), h.1 c _ (by decide), h.1 c _ (by decide), h.1 c _ (by decide),
      (h.1 c _ (by decide)).trans (Cert.KernelIdeal.Own.W7_args m g c _ (by decide)),
      (h.1 c _ (by decide)).trans (Cert.KernelIdeal.Own.W7_args m g c _ (by decide)),
      (h.1 c _ (by decide)).trans (Cert.KernelIdeal.Own.W7_args m g c _ (by decide)),
      (h.1 c _ (by decide)).trans (Cert.KernelIdeal.Own.W7_args m g c _ (by decide))⟩) (Cert.KernelIdeal.Own.run m g)
  · refine (θ_run Cert.ReferenceIdeal.defs _ _).mono (fun r h c => ?_) (Cert.ReferenceIdeal.Value.run (F := Ideal) m' g')
    obtain ⟨Q, K, X, D, hA⟩ := args_real m hpre c
    obtain ⟨e0, e1, e2, e3⟩ := hargs c
    have h0 : Cert.Attn.R2 (Cert.ReferenceIdeal.Stage.a0 m' c) Q := by unfold Cert.ReferenceIdeal.Stage.a0; rw [e0]; exact hA.q
    have h1 : Cert.Attn.R2 (Cert.ReferenceIdeal.Stage.a1 m' c) K := by unfold Cert.ReferenceIdeal.Stage.a1; rw [e1]; exact hA.k
    have h2 : Cert.Attn.R2 (Cert.ReferenceIdeal.Stage.a2 m' c) X := by unfold Cert.ReferenceIdeal.Stage.a2; rw [e2]; exact hA.x
    have h3 : Cert.Attn.R2 (Cert.ReferenceIdeal.Stage.a3 m' c) D := by unfold Cert.ReferenceIdeal.Stage.a3; rw [e3]; exact hA.d
    obtain ⟨r0, r1, r2, r3, rest⟩ := h c
    exact ⟨r0.trans (eq_of_tables (Cert.Attn.ref_o h0 h1 h2) (Cert.Attn.res_o g hA)),
      r1.trans (eq_of_tables (Cert.Attn.ref_dq h0 h1 h2 h3) (Cert.Attn.res_dq g hA)),
      r2.trans (eq_of_tables (Cert.Attn.ref_dk h0 h1 h2 h3) (Cert.Attn.res_dk g hA)),
      r3.trans (eq_of_tables (Cert.Attn.ref_dv h0 h1 h3) (Cert.Attn.res_dv g hA)), rest⟩

theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Kernel4.Gen.facts, Cert.Kernel4Ideal.Gen.facts, Cert.Reference4Ideal.Gen.facts, Cert.Kernel5.Gen.facts, Cert.Kernel5Ideal.Gen.facts,
   Cert.Reference5Ideal.Gen.facts, Cert.Kernel6.Gen.facts, Cert.Kernel6Ideal.Gen.facts, Cert.Reference6Ideal.Gen.facts,
   Cert.Kernel7.Gen.facts, Cert.Kernel7Ideal.Gen.facts, Cert.Reference7Ideal.Gen.facts, Cert.Kernel8.Gen.facts, Cert.Kernel8Ideal.Gen.facts,
   Cert.Reference8Ideal.Gen.facts, Cert.Kernel9.Gen.facts, Cert.Kernel9Ideal.Gen.facts, Cert.Reference9Ideal.Gen.facts,
   Cert.Kernel10.Gen.facts, Cert.Kernel10Ideal.Gen.facts, Cert.Reference10Ideal.Gen.facts, Cert.Kernel11.Gen.facts,
   Cert.Kernel11Ideal.Gen.facts, Cert.Reference11Ideal.Gen.facts, Cert.Kernel12.Gen.facts, Cert.Kernel12Ideal.Gen.facts,
   Cert.Reference12Ideal.Gen.facts, Cert.Kernel13.Gen.facts, Cert.Kernel13Ideal.Gen.facts, Cert.Reference13Ideal.Gen.facts,
   Cert.Kernel14.Gen.facts, Cert.Kernel14Ideal.Gen.facts, Cert.Reference14Ideal.Gen.facts, Cert.Kernel15.Gen.facts,
   Cert.Kernel15Ideal.Gen.facts, Cert.Reference15Ideal.Gen.facts, Cert.Kernel16.Gen.facts, Cert.Kernel16Ideal.Gen.facts,
   Cert.Reference16Ideal.Gen.facts, Cert.Kernel17.Gen.facts, Cert.Kernel17Ideal.Gen.facts, Cert.Reference17Ideal.Gen.facts,
   Cert.Kernel18.Gen.facts, Cert.Kernel18Ideal.Gen.facts, Cert.Reference18Ideal.Gen.facts, Cert.Kernel19.Gen.facts,
   Cert.Kernel19Ideal.Gen.facts, Cert.Reference19Ideal.Gen.facts, Cert.Kernel20.Gen.facts, Cert.Kernel20Ideal.Gen.facts,
   Cert.Reference20Ideal.Gen.facts, Cert.Kernel21.Gen.facts, Cert.Kernel21Ideal.Gen.facts, Cert.Reference21Ideal.Gen.facts,
   Cert.Kernel22.Gen.facts, Cert.Kernel22Ideal.Gen.facts, Cert.Reference22Ideal.Gen.facts, Cert.Kernel23.Gen.facts,
   Cert.Kernel23Ideal.Gen.facts, Cert.Reference23Ideal.Gen.facts, Cert.Kernel24.Gen.facts, Cert.Kernel24Ideal.Gen.facts,
   Cert.Reference24Ideal.Gen.facts, Cert.Kernel25.Gen.facts, Cert.Kernel25Ideal.Gen.facts, Cert.Reference25Ideal.Gen.facts,
   Cert.Kernel26.Gen.facts, Cert.Kernel26Ideal.Gen.facts, Cert.Reference26Ideal.Gen.facts, Cert.Kernel27.Gen.facts,
   Cert.Kernel27Ideal.Gen.facts, Cert.Reference27Ideal.Gen.facts, Cert.Attn.pre_facts, Cert.Norm.pre_facts,
   fun m ρ _ => Cert.Kernel.Own.frame m ρ, fun m ρ _ => Cert.KernelIdeal.Own.frame m ρ, fun m ρ _ => Cert.KernelIdeal.Own.frame m ρ,
   frame_reference, fun m ρ _ => frame_reference m ρ trivial, Prod.DUp.frame_kernel, fun m ρ _ => Cert.Kernel2Ideal.Gen.frame m ρ,
   Prod.DUp.frame_reference, Prod.GUp.frame_kernel, fun m ρ _ => Cert.Kernel3Ideal.Gen.frame m ρ, Prod.GUp.frame_reference,
   Prod.DDown.frame_kernel, fun m ρ _ => Cert.Kernel4Ideal.Gen.frame m ρ, Prod.DDown.frame_reference, Prod.GDown.frame_kernel,
   fun m ρ _ => Cert.Kernel5Ideal.Gen.frame m ρ, Prod.GDown.frame_reference, Prod.DIn.frame_kernel,
   fun m ρ _ => Cert.Kernel6Ideal.Gen.frame m ρ, Prod.DIn.frame_reference, Prod.GIn.frame_kernel,
   fun m ρ _ => Cert.Kernel7Ideal.Gen.frame m ρ, Prod.GIn.frame_reference, Prod.DOut.frame_kernel,
   fun m ρ _ => Cert.Kernel8Ideal.Gen.frame m ρ, Prod.DOut.frame_reference, Prod.GOut.frame_kernel,
   fun m ρ _ => Cert.Kernel9Ideal.Gen.frame m ρ, Prod.GOut.frame_reference, Prod.Up.frame_kernel,
   fun m ρ _ => Cert.Kernel10Ideal.Gen.frame m ρ, Prod.Up.frame_reference, Prod.In.frame_kernel,
   fun m ρ _ => Cert.Kernel11Ideal.Gen.frame m ρ, Prod.In.frame_reference, Prod.Down.frame_kernel,
   fun m ρ _ => Cert.Kernel12Ideal.Gen.frame m ρ, Prod.Down.frame_reference, Prod.Out.frame_kernel,
   fun m ρ _ => Cert.Kernel13Ideal.Gen.frame m ρ, Prod.Out.frame_reference, Prod.Gate.frame_kernel,
   fun m ρ _ => Cert.Kernel14Ideal.Gen.frame m ρ, Prod.Gate.frame_reference, Adam.Up.frame_kernel,
   fun m ρ _ => Cert.Kernel15Ideal.Gen.frame m ρ, Adam.Up.frame_reference, Adam.In.frame_kernel,
   fun m ρ _ => Cert.Kernel16Ideal.Gen.frame m ρ, Adam.In.frame_reference, Adam.Down.frame_kernel,
   fun m ρ _ => Cert.Kernel17Ideal.Gen.frame m ρ, Adam.Down.frame_reference, Adam.Out.frame_kernel,
   fun m ρ _ => Cert.Kernel18Ideal.Gen.frame m ρ, Adam.Out.frame_reference, Adam.Ple.frame_kernel,
   fun m ρ _ => Cert.Kernel19Ideal.Gen.frame m ρ, Adam.Ple.frame_reference, Adam.Small.frame_kernel,
   fun m ρ _ => Cert.Kernel20Ideal.Gen.frame m ρ, Adam.Small.frame_reference, Prod.DGate.frame_kernel,
   fun m ρ _ => Cert.Kernel21Ideal.Gen.frame m ρ, Prod.DGate.frame_reference, Prod.GGate.frame_kernel,
   fun m ρ _ => Cert.Kernel22Ideal.Gen.frame m ρ, Prod.GGate.frame_reference, Prod.Ple.frame_kernel,
   fun m ρ _ => Cert.Kernel23Ideal.Gen.frame m ρ, Prod.Ple.frame_reference, Prod.GPle.frame_kernel,
   fun m ρ _ => Cert.Kernel24Ideal.Gen.frame m ρ, Prod.GPle.frame_reference, Adam.Gate.frame_kernel,
   fun m ρ _ => Cert.Kernel25Ideal.Gen.frame m ρ, Adam.Gate.frame_reference, Norm.Forward.frame_kernel,
   fun m ρ _ => Cert.Kernel26Ideal.Gen.frame m ρ, Norm.Forward.frame_reference, Norm.frame_kernel,
   fun m ρ _ => Cert.Kernel27Ideal.Gen.frame m ρ, fun m ρ _ => Cert.Kernel27Ideal.Gen.frame m ρ, Norm.frame_reference,
   fun m ρ _ => Norm.frame_reference m ρ trivial, preserves, algebraic, trivial, Prod.DUp.algebraic, trivial, Prod.GUp.algebraic, trivial,
   Prod.DDown.algebraic, trivial, Prod.GDown.algebraic, trivial, Prod.DIn.algebraic, trivial, Prod.GIn.algebraic, trivial,
   Prod.DOut.algebraic, trivial, Prod.GOut.algebraic, trivial, Prod.Up.algebraic, trivial, Prod.In.algebraic, trivial, Prod.Down.algebraic,
   trivial, Prod.Out.algebraic, trivial, Prod.Gate.algebraic, trivial, Adam.Up.algebraic, trivial, Adam.In.algebraic, trivial,
   Adam.Down.algebraic, trivial, Adam.Out.algebraic, trivial, Adam.Ple.algebraic, trivial, Adam.Small.algebraic, trivial,
   Prod.DGate.algebraic, trivial, Prod.GGate.algebraic, trivial, Prod.Ple.algebraic, trivial, Prod.GPle.algebraic, trivial,
   Adam.Gate.algebraic, trivial, Norm.Forward.algebraic, trivial, @Norm.algebraic Norm.pre_facts⟩

end Cert.Proof

end
